-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_EvOutRefIdeal (m : (ℓ : Loc Cert.EvOutRefIdeal.nD Cert.EvOutRefIdeal.τ Cert.EvOutRefIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RkvRefIdeal (m : (ℓ : Loc Cert.RkvRefIdeal.nD Cert.RkvRefIdeal.τ Cert.RkvRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_HgrnS (m : (ℓ : Loc Cert.HgrnS.nD Cert.HgrnS.τ Cert.HgrnS.sig) → Buf (Elt Bits) ℓ) : Prop :=
  True

def Pre_HgrnSIdeal (m : (ℓ : Loc Cert.HgrnSIdeal.nD Cert.HgrnSIdeal.τ Cert.HgrnSIdeal.sig) → Buf (Elt Ideal) ℓ) : Prop :=
  True

def Pre_HgrnSRefIdeal (m : (ℓ : Loc Cert.HgrnSRefIdeal.nD Cert.HgrnSRefIdeal.τ Cert.HgrnSRefIdeal.sig) → Buf (Elt Ideal) ℓ) : Prop :=
  True

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1)
      ∧ r.2.mem ((c.tc : Thread Cert.EvOut.nD Cert.EvOut.τ).loc Cert.EvOut.main_arg2) = m ((c.tc : Thread Cert.EvOut.nD Cert.EvOut.τ).loc Cert.EvOut.main_arg2)
      ∧ r.2.mem ((c.tc : Thread Cert.EvOut.nD Cert.EvOut.τ).loc Cert.EvOut.main_arg3) = m ((c.tc : Thread Cert.EvOut.nD Cert.EvOut.τ).loc Cert.EvOut.main_arg3))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
      ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
      ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ r.2.sem = fun _ => 0)

def quiescent_EvOutRefIdeal [hEvOutRefIdeal : Cert.EvOutRefIdeal.Facts] : Prop :=
  ∀ (m : (ℓ : Loc Cert.EvOutRefIdeal.nD Cert.EvOutRefIdeal.τ Cert.EvOutRefIdeal.sig) → Buf (Elt Ideal) ℓ) (g : Dev Cert.EvOutRefIdeal.nD → PrngReg), Pre_EvOutRefIdeal m →
    θ_run (Cert.EvOutRefIdeal.defs (F := Ideal)) (onTc (τ := Cert.EvOutRefIdeal.τ) (Cert.EvOutRefIdeal.main (F := Ideal))) ⟨m, fun _ => 0, g⟩ (fun r => (∀ c : Dev Cert.EvOutRefIdeal.nD,
      r.2.mem ((c.tc : Thread Cert.EvOutRefIdeal.nD Cert.EvOutRefIdeal.τ).loc Cert.EvOutRefIdeal.main_arg0) = m ((c.tc : Thread Cert.EvOutRefIdeal.nD Cert.EvOutRefIdeal.τ).loc Cert.EvOutRefIdeal.main_arg0)
      ∧ r.2.mem ((c.tc : Thread Cert.EvOutRefIdeal.nD Cert.EvOutRefIdeal.τ).loc Cert.EvOutRefIdeal.main_arg1) = m ((c.tc : Thread Cert.EvOutRefIdeal.nD Cert.EvOutRefIdeal.τ).loc Cert.EvOutRefIdeal.main_arg1)
      ∧ r.2.mem ((c.tc : Thread Cert.EvOutRefIdeal.nD Cert.EvOutRefIdeal.τ).loc Cert.EvOutRefIdeal.main_arg2) = m ((c.tc : Thread Cert.EvOutRefIdeal.nD Cert.EvOutRefIdeal.τ).loc Cert.EvOutRefIdeal.main_arg2)
      ∧ r.2.mem ((c.tc : Thread Cert.EvOutRefIdeal.nD Cert.EvOutRefIdeal.τ).loc Cert.EvOutRefIdeal.main_arg3) = m ((c.tc : Thread Cert.EvOutRefIdeal.nD Cert.EvOutRefIdeal.τ).loc Cert.EvOutRefIdeal.main_arg3))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ r.2.sem = fun _ => 0)

def quiescent_RkvRefIdeal [hRkvRefIdeal : Cert.RkvRefIdeal.Facts] : Prop :=
  ∀ (m : (ℓ : Loc Cert.RkvRefIdeal.nD Cert.RkvRefIdeal.τ Cert.RkvRefIdeal.sig) → Buf (Elt Ideal) ℓ) (g : Dev Cert.RkvRefIdeal.nD → PrngReg), Pre_RkvRefIdeal m →
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_HgrnS [hHgrnS : Cert.HgrnS.Facts] : Prop :=
  ∀ (m : (ℓ : Loc Cert.HgrnS.nD Cert.HgrnS.τ Cert.HgrnS.sig) → Buf (Elt Bits) ℓ) (g : Dev Cert.HgrnS.nD → PrngReg), Pre_HgrnS m →
    θ_run (Cert.HgrnS.defs (F := Bits)) (onTc (τ := Cert.HgrnS.τ) (Cert.HgrnS.main (F := Bits))) ⟨m, fun _ => 0, g⟩ (fun r => (∀ c : Dev Cert.HgrnS.nD,
      r.2.mem ((c.tc : Thread Cert.HgrnS.nD Cert.HgrnS.τ).loc Cert.HgrnS.main_arg0) = m ((c.tc : Thread Cert.HgrnS.nD Cert.HgrnS.τ).loc Cert.HgrnS.main_arg0)
      ∧ r.2.mem ((c.tc : Thread Cert.HgrnS.nD Cert.HgrnS.τ).loc Cert.HgrnS.main_arg1) = m ((c.tc : Thread Cert.HgrnS.nD Cert.HgrnS.τ).loc Cert.HgrnS.main_arg1)
      ∧ r.2.mem ((c.tc : Thread Cert.HgrnS.nD Cert.HgrnS.τ).loc Cert.HgrnS.main_arg2) = m ((c.tc : Thread Cert.HgrnS.nD Cert.HgrnS.τ).loc Cert.HgrnS.main_arg2)
      ∧ r.2.mem ((c.tc : Thread Cert.HgrnS.nD Cert.HgrnS.τ).loc Cert.HgrnS.main_arg3) = m ((c.tc : Thread Cert.HgrnS.nD Cert.HgrnS.τ).loc Cert.HgrnS.main_arg3))
      ∧ r.2.sem = fun _ => 0)

def quiescent_HgrnSIdeal [hHgrnSIdeal : Cert.HgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSRefIdeal [hHgrnSRefIdeal : Cert.HgrnSRefIdeal.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v2_0)) (v1 : (c : Dev Cert.HgrnIdeal.nD) → Buf (Elt Ideal) ((c.tc : Thread Cert.HgrnIdeal.nD Cert.HgrnIdeal.τ).loc Cert.HgrnIdeal.main_v2_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v2_0) = v0 c
          ∧ r.2.mem ((c.tc : Thread Cert.HgrnIdeal.nD Cert.HgrnIdeal.τ).loc Cert.HgrnIdeal.main_v2_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v69) = v0 c
          ∧ r.2.mem ((c.tc : Thread Cert.HgrnRefIdeal.nD Cert.HgrnRefIdeal.τ).loc Cert.HgrnRefIdeal.main_v49_7) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_v47) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v1)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v1) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v2) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_EvOut_EvOutIdeal : Prop :=
  True

def algebraic_EvOutIdeal_EvOutRefIdeal [hEvOutIdeal : Cert.EvOutIdeal.Facts] [hEvOutRefIdeal : Cert.EvOutRefIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.EvOutRefIdeal.nD Cert.EvOutRefIdeal.τ Cert.EvOutRefIdeal.sig) → Buf (Elt Ideal) ℓ) (g' : Dev Cert.EvOutRefIdeal.nD → PrngReg), Pre_EvOutIdeal m →
    (∀ c : Dev Cert.EvOutIdeal.nD,
      m' ((c.tc : Thread Cert.EvOutRefIdeal.nD Cert.EvOutRefIdeal.τ).loc Cert.EvOutRefIdeal.main_arg0) = m ((c.tc : Thread Cert.EvOutIdeal.nD Cert.EvOutIdeal.τ).loc Cert.EvOutIdeal.main_arg0)
      ∧ m' ((c.tc : Thread Cert.EvOutRefIdeal.nD Cert.EvOutRefIdeal.τ).loc Cert.EvOutRefIdeal.main_arg1) = m ((c.tc : Thread Cert.EvOutIdeal.nD Cert.EvOutIdeal.τ).loc Cert.EvOutIdeal.main_arg1)
      ∧ m' ((c.tc : Thread Cert.EvOutRefIdeal.nD Cert.EvOutRefIdeal.τ).loc Cert.EvOutRefIdeal.main_arg2) = m ((c.tc : Thread Cert.EvOutIdeal.nD Cert.EvOutIdeal.τ).loc Cert.EvOutIdeal.main_arg2)
      ∧ m' ((c.tc : Thread Cert.EvOutRefIdeal.nD Cert.EvOutRefIdeal.τ).loc Cert.EvOutRefIdeal.main_arg3) = m ((c.tc : Thread Cert.EvOutIdeal.nD Cert.EvOutIdeal.τ).loc Cert.EvOutIdeal.main_arg3)) →
    ∃ (v0 : (c : Dev Cert.EvOutIdeal.nD) → Buf (Elt Ideal) ((c.tc : Thread Cert.EvOutIdeal.nD Cert.EvOutIdeal.τ).loc Cert.EvOutIdeal.main_v0)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v0) = v0 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
          ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
          ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ θ_run (Cert.EvOutRefIdeal.defs (F := Ideal)) (onTc (τ := Cert.EvOutRefIdeal.τ) (Cert.EvOutRefIdeal.main (F := Ideal))) ⟨m', fun _ => 0, g'⟩ (fun r => ∀ c : Dev Cert.EvOutRefIdeal.nD,
          r.2.mem ((c.tc : Thread Cert.EvOutRefIdeal.nD Cert.EvOutRefIdeal.τ).loc Cert.EvOutRefIdeal.main_v5) = v0 c
          ∧ r.2.mem ((c.tc : Thread Cert.EvOutRefIdeal.nD Cert.EvOutRefIdeal.τ).loc Cert.EvOutRefIdeal.main_arg0) = m' ((c.tc : Thread Cert.EvOutRefIdeal.nD Cert.EvOutRefIdeal.τ).loc Cert.EvOutRefIdeal.main_arg0)
          ∧ r.2.mem ((c.tc : Thread Cert.EvOutRefIdeal.nD Cert.EvOutRefIdeal.τ).loc Cert.EvOutRefIdeal.main_arg1) = m' ((c.tc : Thread Cert.EvOutRefIdeal.nD Cert.EvOutRefIdeal.τ).loc Cert.EvOutRefIdeal.main_arg1)
          ∧ r.2.mem ((c.tc : Thread Cert.EvOutRefIdeal.nD Cert.EvOutRefIdeal.τ).loc Cert.EvOutRefIdeal.main_arg2) = m' ((c.tc : Thread Cert.EvOutRefIdeal.nD Cert.EvOutRefIdeal.τ).loc Cert.EvOutRefIdeal.main_arg2)
          ∧ r.2.mem ((c.tc : Thread Cert.EvOutRefIdeal.nD Cert.EvOutRefIdeal.τ).loc Cert.EvOutRefIdeal.main_arg3) = m' ((c.tc : Thread Cert.EvOutRefIdeal.nD Cert.EvOutRefIdeal.τ).loc Cert.EvOutRefIdeal.main_arg3))

def preserves_Rkv_RkvIdeal : Prop :=
  True

def algebraic_RkvIdeal_RkvRefIdeal [hRkvIdeal : Cert.RkvIdeal.Facts] [hRkvRefIdeal : Cert.RkvRefIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RkvRefIdeal.nD Cert.RkvRefIdeal.τ Cert.RkvRefIdeal.sig) → Buf (Elt Ideal) ℓ) (g' : Dev Cert.RkvRefIdeal.nD → PrngReg), Pre_RkvIdeal m →
    (∀ c : Dev Cert.RkvIdeal.nD,
      m' ((c.tc : Thread Cert.RkvRefIdeal.nD Cert.RkvRefIdeal.τ).loc Cert.RkvRefIdeal.main_arg0) = m ((c.tc : Thread Cert.RkvIdeal.nD Cert.RkvIdeal.τ).loc Cert.RkvIdeal.main_arg0)
      ∧ m' ((c.tc : Thread Cert.RkvRefIdeal.nD Cert.RkvRefIdeal.τ).loc Cert.RkvRefIdeal.main_arg1) = m ((c.tc : Thread Cert.RkvIdeal.nD Cert.RkvIdeal.τ).loc Cert.RkvIdeal.main_arg1)) →
    ∃ (v0 : (c : Dev Cert.RkvIdeal.nD) → Buf (Elt Ideal) ((c.tc : Thread Cert.RkvIdeal.nD Cert.RkvIdeal.τ).loc Cert.RkvIdeal.main_v1)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v1) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ θ_run (Cert.RkvRefIdeal.defs (F := Ideal)) (onTc (τ := Cert.RkvRefIdeal.τ) (Cert.RkvRefIdeal.main (F := Ideal))) ⟨m', fun _ => 0, g'⟩ (fun r => ∀ c : Dev Cert.RkvRefIdeal.nD,
          r.2.mem ((c.tc : Thread Cert.RkvRefIdeal.nD Cert.RkvRefIdeal.τ).loc Cert.RkvRefIdeal.main_v2) = v0 c
          ∧ r.2.mem ((c.tc : Thread Cert.RkvRefIdeal.nD Cert.RkvRefIdeal.τ).loc Cert.RkvRefIdeal.main_arg0) = m' ((c.tc : Thread Cert.RkvRefIdeal.nD Cert.RkvRefIdeal.τ).loc Cert.RkvRefIdeal.main_arg0)
          ∧ r.2.mem ((c.tc : Thread Cert.RkvRefIdeal.nD Cert.RkvRefIdeal.τ).loc Cert.RkvRefIdeal.main_arg1) = m' ((c.tc : Thread Cert.RkvRefIdeal.nD Cert.RkvRefIdeal.τ).loc Cert.RkvRefIdeal.main_arg1))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v3) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v9) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v15) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)) (v2 : (c : Dev Cert.MixIdeal.nD) → Buf (Elt Ideal) ((c.tc : Thread Cert.MixIdeal.nD Cert.MixIdeal.τ).loc Cert.MixIdeal.main_v7_2)) (v3 : (c : Dev Cert.MixIdeal.nD) → Buf (Elt Ideal) ((c.tc : Thread Cert.MixIdeal.nD Cert.MixIdeal.τ).loc Cert.MixIdeal.main_v7_3)) (v4 : (c : Dev Cert.MixIdeal.nD) → Buf (Elt Ideal) ((c.tc : Thread Cert.MixIdeal.nD Cert.MixIdeal.τ).loc Cert.MixIdeal.main_v7_4)) (v5 : (c : Dev Cert.MixIdeal.nD) → Buf (Elt Ideal) ((c.tc : Thread Cert.MixIdeal.nD Cert.MixIdeal.τ).loc Cert.MixIdeal.main_v7_5)) (v6 : (c : Dev Cert.MixIdeal.nD) → Buf (Elt Ideal) ((c.tc : Thread Cert.MixIdeal.nD Cert.MixIdeal.τ).loc Cert.MixIdeal.main_v7_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_v7_2) = v2 c
          ∧ r.2.mem ((c.tc : Thread Cert.MixIdeal.nD Cert.MixIdeal.τ).loc Cert.MixIdeal.main_v7_3) = v3 c
          ∧ r.2.mem ((c.tc : Thread Cert.MixIdeal.nD Cert.MixIdeal.τ).loc Cert.MixIdeal.main_v7_4) = v4 c
          ∧ r.2.mem ((c.tc : Thread Cert.MixIdeal.nD Cert.MixIdeal.τ).loc Cert.MixIdeal.main_v7_5) = v5 c
          ∧ r.2.mem ((c.tc : Thread Cert.MixIdeal.nD Cert.MixIdeal.τ).loc Cert.MixIdeal.main_v7_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v28) = v0 c
          ∧ r.2.mem ((c.tc : Thread Cert.MixRefIdeal.nD Cert.MixRefIdeal.τ).loc Cert.MixRefIdeal.main_v35) = v1 c
          ∧ r.2.mem ((c.tc : Thread Cert.MixRefIdeal.nD Cert.MixRefIdeal.τ).loc Cert.MixRefIdeal.main_v42) = v2 c
          ∧ r.2.mem ((c.tc : Thread Cert.MixRefIdeal.nD Cert.MixRefIdeal.τ).loc Cert.MixRefIdeal.main_v49) = v3 c
          ∧ r.2.mem ((c.tc : Thread Cert.MixRefIdeal.nD Cert.MixRefIdeal.τ).loc Cert.MixRefIdeal.main_v56) = v4 c
          ∧ r.2.mem ((c.tc : Thread Cert.MixRefIdeal.nD Cert.MixRefIdeal.τ).loc Cert.MixRefIdeal.main_v63) = v5 c
          ∧ r.2.mem ((c.tc : Thread Cert.MixRefIdeal.nD Cert.MixRefIdeal.τ).loc Cert.MixRefIdeal.main_v64) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v12) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v1_0)) (v1 : (c : Dev Cert.FfnSIdeal.nD) → Buf (Elt Ideal) ((c.tc : Thread Cert.FfnSIdeal.nD Cert.FfnSIdeal.τ).loc Cert.FfnSIdeal.main_v1_1)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v1_0) = v0 c
          ∧ r.2.mem ((c.tc : Thread Cert.FfnSIdeal.nD Cert.FfnSIdeal.τ).loc Cert.FfnSIdeal.main_v1_1) = v1 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v46) = v0 c
          ∧ r.2.mem ((c.tc : Thread Cert.FfnSRefIdeal.nD Cert.FfnSRefIdeal.τ).loc Cert.FfnSRefIdeal.main_v47) = v1 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_HgrnS_HgrnSIdeal : Prop :=
  True

def algebraic_HgrnSIdeal_HgrnSRefIdeal [hHgrnSIdeal : Cert.HgrnSIdeal.Facts] [hHgrnSRefIdeal : Cert.HgrnSRefIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg)
    (m' : (ℓ : Loc Cert.HgrnSRefIdeal.nD Cert.HgrnSRefIdeal.τ Cert.HgrnSRefIdeal.sig) → Buf (Elt Ideal) ℓ) (g' : Dev Cert.HgrnSRefIdeal.nD → PrngReg), Pre_HgrnSIdeal m →
    (∀ c : Dev Cert.HgrnSIdeal.nD,
      m' ((c.tc : Thread Cert.HgrnSRefIdeal.nD Cert.HgrnSRefIdeal.τ).loc Cert.HgrnSRefIdeal.main_arg0) = m ((c.tc : Thread Cert.HgrnSIdeal.nD Cert.HgrnSIdeal.τ).loc Cert.HgrnSIdeal.main_arg0)
      ∧ m' ((c.tc : Thread Cert.HgrnSRefIdeal.nD Cert.HgrnSRefIdeal.τ).loc Cert.HgrnSRefIdeal.main_arg1) = m ((c.tc : Thread Cert.HgrnSIdeal.nD Cert.HgrnSIdeal.τ).loc Cert.HgrnSIdeal.main_arg1)
      ∧ m' ((c.tc : Thread Cert.HgrnSRefIdeal.nD Cert.HgrnSRefIdeal.τ).loc Cert.HgrnSRefIdeal.main_arg2) = m ((c.tc : Thread Cert.HgrnSIdeal.nD Cert.HgrnSIdeal.τ).loc Cert.HgrnSIdeal.main_arg2)
      ∧ m' ((c.tc : Thread Cert.HgrnSRefIdeal.nD Cert.HgrnSRefIdeal.τ).loc Cert.HgrnSRefIdeal.main_arg3) = m ((c.tc : Thread Cert.HgrnSIdeal.nD Cert.HgrnSIdeal.τ).loc Cert.HgrnSIdeal.main_arg3)) →
    ∃ (v0 : (c : Dev Cert.HgrnSIdeal.nD) → Buf (Elt Ideal) ((c.tc : Thread Cert.HgrnSIdeal.nD Cert.HgrnSIdeal.τ).loc Cert.HgrnSIdeal.main_v2_0)) (v1 : (c : Dev Cert.HgrnSIdeal.nD) → Buf (Elt Ideal) ((c.tc : Thread Cert.HgrnSIdeal.nD Cert.HgrnSIdeal.τ).loc Cert.HgrnSIdeal.main_v2_1)),
      θ_run (Cert.HgrnSIdeal.defs (F := Ideal)) (onTc (τ := Cert.HgrnSIdeal.τ) (Cert.HgrnSIdeal.main (F := Ideal))) ⟨m, fun _ => 0, g⟩ (fun r => ∀ c : Dev Cert.HgrnSIdeal.nD,
          r.2.mem ((c.tc : Thread Cert.HgrnSIdeal.nD Cert.HgrnSIdeal.τ).loc Cert.HgrnSIdeal.main_v2_0) = v0 c
          ∧ r.2.mem ((c.tc : Thread Cert.HgrnSIdeal.nD Cert.HgrnSIdeal.τ).loc Cert.HgrnSIdeal.main_v2_1) = v1 c
          ∧ r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
          ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
          ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
          ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ θ_run (Cert.HgrnSRefIdeal.defs (F := Ideal)) (onTc (τ := Cert.HgrnSRefIdeal.τ) (Cert.HgrnSRefIdeal.main (F := Ideal))) ⟨m', fun _ => 0, g'⟩ (fun r => ∀ c : Dev Cert.HgrnSRefIdeal.nD,
          r.2.mem ((c.tc : Thread Cert.HgrnSRefIdeal.nD Cert.HgrnSRefIdeal.τ).loc Cert.HgrnSRefIdeal.main_v79) = v0 c
          ∧ r.2.mem ((c.tc : Thread Cert.HgrnSRefIdeal.nD Cert.HgrnSRefIdeal.τ).loc Cert.HgrnSRefIdeal.main_v59) = v1 c
          ∧ r.2.mem ((c.tc : Thread Cert.HgrnSRefIdeal.nD Cert.HgrnSRefIdeal.τ).loc Cert.HgrnSRefIdeal.main_arg0) = m' ((c.tc : Thread Cert.HgrnSRefIdeal.nD Cert.HgrnSRefIdeal.τ).loc Cert.HgrnSRefIdeal.main_arg0)
          ∧ r.2.mem ((c.tc : Thread Cert.HgrnSRefIdeal.nD Cert.HgrnSRefIdeal.τ).loc Cert.HgrnSRefIdeal.main_arg1) = m' ((c.tc : Thread Cert.HgrnSRefIdeal.nD Cert.HgrnSRefIdeal.τ).loc Cert.HgrnSRefIdeal.main_arg1)
          ∧ r.2.mem ((c.tc : Thread Cert.HgrnSRefIdeal.nD Cert.HgrnSRefIdeal.τ).loc Cert.HgrnSRefIdeal.main_arg2) = m' ((c.tc : Thread Cert.HgrnSRefIdeal.nD Cert.HgrnSRefIdeal.τ).loc Cert.HgrnSRefIdeal.main_arg2)
          ∧ r.2.mem ((c.tc : Thread Cert.HgrnSRefIdeal.nD Cert.HgrnSRefIdeal.τ).loc Cert.HgrnSRefIdeal.main_arg3) = m' ((c.tc : Thread Cert.HgrnSRefIdeal.nD Cert.HgrnSRefIdeal.τ).loc Cert.HgrnSRefIdeal.main_arg3))

def Claim : Prop :=
  ∃ (hHgrn : Cert.Hgrn.Facts) (hHgrnIdeal : Cert.HgrnIdeal.Facts) (hHgrnRefIdeal : Cert.HgrnRefIdeal.Facts) (hFfn : Cert.Ffn.Facts) (hFfnIdeal : Cert.FfnIdeal.Facts) (hFfnRefIdeal : Cert.FfnRefIdeal.Facts) (hDown : Cert.Down.Facts) (hDownIdeal : Cert.DownIdeal.Facts) (hDownRefIdeal : Cert.DownRefIdeal.Facts) (hEvIn : Cert.EvIn.Facts) (hEvInIdeal : Cert.EvInIdeal.Facts) (hEvInRefIdeal : Cert.EvInRefIdeal.Facts) (hEvOut : Cert.EvOut.Facts) (hEvOutIdeal : Cert.EvOutIdeal.Facts) (hEvOutRefIdeal : Cert.EvOutRefIdeal.Facts) (hRkv : Cert.Rkv.Facts) (hRkvIdeal : Cert.RkvIdeal.Facts) (hRkvRefIdeal : Cert.RkvRefIdeal.Facts) (hOddOut : Cert.OddOut.Facts) (hOddOutIdeal : Cert.OddOutIdeal.Facts) (hOddOutRefIdeal : Cert.OddOutRefIdeal.Facts) (hGlu : Cert.Glu.Facts) (hGluIdeal : Cert.GluIdeal.Facts) (hGluRefIdeal : Cert.GluRefIdeal.Facts) (hFinal : Cert.Final.Facts) (hFinalIdeal : Cert.FinalIdeal.Facts) (hFinalRefIdeal : Cert.FinalRefIdeal.Facts) (hMix : Cert.Mix.Facts) (hMixIdeal : Cert.MixIdeal.Facts) (hMixRefIdeal : Cert.MixRefIdeal.Facts) (hLast : Cert.Last.Facts) (hLastIdeal : Cert.LastIdeal.Facts) (hLastRefIdeal : Cert.LastRefIdeal.Facts) (hFfnS : Cert.FfnS.Facts) (hFfnSIdeal : Cert.FfnSIdeal.Facts) (hFfnSRefIdeal : Cert.FfnSRefIdeal.Facts) (hHgrnS : Cert.HgrnS.Facts) (hHgrnSIdeal : Cert.HgrnSIdeal.Facts) (hHgrnSRefIdeal : Cert.HgrnSRefIdeal.Facts),
    quiescent_Hgrn (hHgrn := hHgrn)
    ∧ quiescent_HgrnIdeal (hHgrnIdeal := hHgrnIdeal)
    ∧ quiescent_HgrnRefIdeal (hHgrnRefIdeal := hHgrnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Down (hDown := hDown)
    ∧ quiescent_DownIdeal (hDownIdeal := hDownIdeal)
    ∧ quiescent_DownRefIdeal (hDownRefIdeal := hDownRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_EvOut (hEvOut := hEvOut)
    ∧ quiescent_EvOutIdeal (hEvOutIdeal := hEvOutIdeal)
    ∧ quiescent_EvOutRefIdeal (hEvOutRefIdeal := hEvOutRefIdeal)
    ∧ quiescent_Rkv (hRkv := hRkv)
    ∧ quiescent_RkvIdeal (hRkvIdeal := hRkvIdeal)
    ∧ quiescent_RkvRefIdeal (hRkvRefIdeal := hRkvRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Glu (hGlu := hGlu)
    ∧ quiescent_GluIdeal (hGluIdeal := hGluIdeal)
    ∧ quiescent_GluRefIdeal (hGluRefIdeal := hGluRefIdeal)
    ∧ quiescent_Final (hFinal := hFinal)
    ∧ quiescent_FinalIdeal (hFinalIdeal := hFinalIdeal)
    ∧ quiescent_FinalRefIdeal (hFinalRefIdeal := hFinalRefIdeal)
    ∧ quiescent_Mix (hMix := hMix)
    ∧ quiescent_MixIdeal (hMixIdeal := hMixIdeal)
    ∧ quiescent_MixRefIdeal (hMixRefIdeal := hMixRefIdeal)
    ∧ quiescent_Last (hLast := hLast)
    ∧ quiescent_LastIdeal (hLastIdeal := hLastIdeal)
    ∧ quiescent_LastRefIdeal (hLastRefIdeal := hLastRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_HgrnS (hHgrnS := hHgrnS)
    ∧ quiescent_HgrnSIdeal (hHgrnSIdeal := hHgrnSIdeal)
    ∧ quiescent_HgrnSRefIdeal (hHgrnSRefIdeal := hHgrnSRefIdeal)
    ∧ preserves_Hgrn_HgrnIdeal
    ∧ algebraic_HgrnIdeal_HgrnRefIdeal (hHgrnIdeal := hHgrnIdeal) (hHgrnRefIdeal := hHgrnRefIdeal)
    ∧ preserves_Ffn_FfnIdeal
    ∧ algebraic_FfnIdeal_FfnRefIdeal (hFfnIdeal := hFfnIdeal) (hFfnRefIdeal := hFfnRefIdeal)
    ∧ preserves_Down_DownIdeal
    ∧ algebraic_DownIdeal_DownRefIdeal (hDownIdeal := hDownIdeal) (hDownRefIdeal := hDownRefIdeal)
    ∧ preserves_EvIn_EvInIdeal
    ∧ algebraic_EvInIdeal_EvInRefIdeal (hEvInIdeal := hEvInIdeal) (hEvInRefIdeal := hEvInRefIdeal)
    ∧ preserves_EvOut_EvOutIdeal
    ∧ algebraic_EvOutIdeal_EvOutRefIdeal (hEvOutIdeal := hEvOutIdeal) (hEvOutRefIdeal := hEvOutRefIdeal)
    ∧ preserves_Rkv_RkvIdeal
    ∧ algebraic_RkvIdeal_RkvRefIdeal (hRkvIdeal := hRkvIdeal) (hRkvRefIdeal := hRkvRefIdeal)
    ∧ preserves_OddOut_OddOutIdeal
    ∧ algebraic_OddOutIdeal_OddOutRefIdeal (hOddOutIdeal := hOddOutIdeal) (hOddOutRefIdeal := hOddOutRefIdeal)
    ∧ preserves_Glu_GluIdeal
    ∧ algebraic_GluIdeal_GluRefIdeal (hGluIdeal := hGluIdeal) (hGluRefIdeal := hGluRefIdeal)
    ∧ preserves_Final_FinalIdeal
    ∧ algebraic_FinalIdeal_FinalRefIdeal (hFinalIdeal := hFinalIdeal) (hFinalRefIdeal := hFinalRefIdeal)
    ∧ preserves_Mix_MixIdeal
    ∧ algebraic_MixIdeal_MixRefIdeal (hMixIdeal := hMixIdeal) (hMixRefIdeal := hMixRefIdeal)
    ∧ preserves_Last_LastIdeal
    ∧ algebraic_LastIdeal_LastRefIdeal (hLastIdeal := hLastIdeal) (hLastRefIdeal := hLastRefIdeal)
    ∧ preserves_FfnS_FfnSIdeal
    ∧ algebraic_FfnSIdeal_FfnSRefIdeal (hFfnSIdeal := hFfnSIdeal) (hFfnSRefIdeal := hFfnSRefIdeal)
    ∧ preserves_HgrnS_HgrnSIdeal
    ∧ algebraic_HgrnSIdeal_HgrnSRefIdeal (hHgrnSIdeal := hHgrnSIdeal) (hHgrnSRefIdeal := hHgrnSRefIdeal)
-- ==== Hgrn.lean ====
abbrev S4x2064x5120 : Shape := ⟨3, ![4, 2064, 5120]⟩
abbrev S4x8x128x128 : Shape := ⟨4, ![4, 8, 128, 128]⟩
abbrev S1024 : Shape := ⟨1, ![1024]⟩
abbrev S128 : Shape := ⟨1, ![128]⟩
abbrev S1x1024 : Shape := ⟨2, ![1, 1024]⟩
abbrev S1x128 : Shape := ⟨2, ![1, 128]⟩
abbrev S4x2064x1024 : Shape := ⟨3, ![4, 2064, 1024]⟩
abbrev S4x48x1024 : Shape := ⟨3, ![4, 48, 1024]⟩
abbrev S32x128x128 : Shape := ⟨3, ![32, 128, 128]⟩
abbrev S1x1x1024 : Shape := ⟨3, ![1, 1, 1024]⟩
abbrev S4x1x1024 : Shape := ⟨3, ![4, 1, 1024]⟩
abbrev S4x1x128 : Shape := ⟨3, ![4, 1, 128]⟩
abbrev S32x1x128 : Shape := ⟨3, ![32, 1, 128]⟩
abbrev S1x1x128 : Shape := ⟨3, ![1, 1, 128]⟩
abbrev S1x1x128x128 : Shape := ⟨4, ![1, 1, 128, 128]⟩
abbrev S128x128 : Shape := ⟨2, ![128, 128]⟩
abbrev S1x128x128 : Shape := ⟨3, ![1, 128, 128]⟩
abbrev S16x16 : Shape := ⟨2, ![16, 16]⟩
abbrev S1x16x16 : Shape := ⟨3, ![1, 16, 16]⟩
abbrev S4x16x1024 : Shape := ⟨3, ![4, 16, 1024]⟩
abbrev S4x16x128 : Shape := ⟨3, ![4, 16, 128]⟩
abbrev S32x16x128 : Shape := ⟨3, ![32, 16, 128]⟩
abbrev S32x16x16 : Shape := ⟨3, ![32, 16, 16]⟩
abbrev S32x16 : Shape := ⟨2, ![32, 16]⟩
abbrev S32x16x1 : Shape := ⟨3, ![32, 16, 1]⟩

abbrev nBuf : Space → Nat
  | .hbm => 8
  | .vmem => 15
  | .smem => 0
  | _ => 0

abbrev bufTy : (tb : Table) → Fin (tcTables nBuf tb) → BufTy
  | .hbm, ⟨0, _⟩ => ⟨S4x2064x5120, .f32⟩
  | .hbm, ⟨1, _⟩ => ⟨S4x8x128x128, .f32⟩
  | .hbm, ⟨2, _⟩ => ⟨S1024, .f32⟩
  | .hbm, ⟨3, _⟩ => ⟨S128, .f32⟩
  | .hbm, ⟨4, _⟩ => ⟨S1x1024, .f32⟩
  | .hbm, ⟨5, _⟩ => ⟨S1x128, .f32⟩
  | .hbm, ⟨6, _⟩ => ⟨S4x2064x1024, .bf16⟩
  | .hbm, ⟨7, _⟩ => ⟨S4x8x128x128, .f32⟩
  | .local _ .vmem, ⟨0, _⟩ => ⟨S4x48x1024, .f32⟩
  | .local _ .vmem, ⟨1, _⟩ => ⟨S4x48x1024, .f32⟩
  | .local _ .vmem, ⟨2, _⟩ => ⟨S4x48x1024, .f32⟩
  | .local _ .vmem, ⟨3, _⟩ => ⟨S4x48x1024, .f32⟩
  | .local _ .vmem, ⟨4, _⟩ => ⟨S4x48x1024, .f32⟩
  | .local _ .vmem, ⟨5, _⟩ => ⟨S4x48x1024, .f32⟩
  | .local _ .vmem, ⟨6, _⟩ => ⟨S4x48x1024, .f32⟩
  | .local _ .vmem, ⟨7, _⟩ => ⟨S4x48x1024, .f32⟩
  | .local _ .vmem, ⟨8, _⟩ => ⟨S4x8x128x128, .f32⟩
  | .local _ .vmem, ⟨9, _⟩ => ⟨S1x1024, .f32⟩
  | .local _ .vmem, ⟨10, _⟩ => ⟨S1x128, .f32⟩
  | .local _ .vmem, ⟨11, _⟩ => ⟨S4x48x1024, .bf16⟩
  | .local _ .vmem, ⟨12, _⟩ => ⟨S4x48x1024, .bf16⟩
  | .local _ .vmem, ⟨13, _⟩ => ⟨S4x8x128x128, .f32⟩
  | .local _ .vmem, ⟨14, _⟩ => ⟨S32x128x128, .f32⟩
  | _, _ => ⟨S4x2064x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![1, 1, 43], ![false, false, false]⟩

def k0_cond2 (i : grid0.Coords) : BitVec 1 :=
  let arg2 : BitVec 32 := BitVec.ofNat 32 (i 2).val
  let c42_i32 : BitVec 32 := 42#32
  let v445 : BitVec 1 := Scalar.cmpi .eq arg2 c42_i32
  let v446 : BitVec 32 := Scalar.extui v445
  let c0_i32_173 : BitVec 32 := 0#32
  let v447 : BitVec 1 := Scalar.cmpi .ne v446 c0_i32_173
  v447

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x48x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x48x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S4x48x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S4x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, false]
-- ==== HgrnRefIdeal.lean ====
abbrev S4x2064x5120 : Shape := ⟨3, ![4, 2064, 5120]⟩
abbrev S4x8x128x128 : Shape := ⟨4, ![4, 8, 128, 128]⟩
abbrev S1024 : Shape := ⟨1, ![1024]⟩
abbrev S128 : Shape := ⟨1, ![128]⟩
abbrev S4x2064x1024 : Shape := ⟨3, ![4, 2064, 1024]⟩
abbrev S_ : Shape := ⟨0, ![]⟩
abbrev S1x1x1024 : Shape := ⟨3, ![1, 1, 1024]⟩
abbrev S4x2064x8x128 : Shape := ⟨4, ![4, 2064, 8, 128]⟩
abbrev S4x129x16x8x128 : Shape := ⟨5, ![4, 129, 16, 8, 128]⟩
abbrev S129x4x8x16x128 : Shape := ⟨5, ![129, 4, 8, 16, 128]⟩
abbrev S129x4x8x1x128 : Shape := ⟨5, ![129, 4, 8, 1, 128]⟩
abbrev S129x4x8x128 : Shape := ⟨4, ![129, 4, 8, 128]⟩
abbrev S16x16 : Shape := ⟨2, ![16, 16]⟩
abbrev S1x4x8x16x128 : Shape := ⟨5, ![1, 4, 8, 16, 128]⟩
abbrev S4x8x16x128 : Shape := ⟨4, ![4, 8, 16, 128]⟩
abbrev S1x4x8x128 : Shape := ⟨4, ![1, 4, 8, 128]⟩
abbrev S4x8x128 : Shape := ⟨3, ![4, 8, 128]⟩
abbrev S4x8x16x16 : Shape := ⟨4, ![4, 8, 16, 16]⟩
abbrev S1x1x16x16 : Shape := ⟨4, ![1, 1, 16, 16]⟩
abbrev S4x8x128x1 : Shape := ⟨4, ![4, 8, 128, 1]⟩
abbrev S4x2064x8 : Shape := ⟨3, ![4, 2064, 8]⟩
abbrev S4x2064x8x1 : Shape := ⟨4, ![4, 2064, 8, 1]⟩
abbrev S1x1x1x128 : Shape := ⟨4, ![1, 1, 1, 128]⟩

abbrev nBuf : Space → Nat
  | .hbm => 169
  | .vmem => 0
  | .smem => 0
  | _ => 0

abbrev hbmTy0_0 (i : Nat) : BufTy := match i % 128 with
  | 0 => ⟨S4x2064x5120, .f32⟩
  | 1 => ⟨S4x8x128x128, .f32⟩
  | 2 => ⟨S1024, .f32⟩
  | 3 => ⟨S128, .f32⟩
  | 4 => ⟨S4x2064x1024, .f32⟩
  | 5 => ⟨S4x2064x1024, .f32⟩
  | 6 => ⟨S4x2064x1024, .f32⟩
  | 7 => ⟨S_, .f32⟩
  | 8 => ⟨S1024, .f32⟩
  | 9 => ⟨S1024, .f32⟩
  | 10 => ⟨S4x2064x1024, .f32⟩
  | 11 => ⟨S4x2064x1024, .f32⟩
  | 12 => ⟨S_, .f32⟩
  | 13 => ⟨S4x2064x1024, .f32⟩
  | 14 => ⟨S4x2064x1024, .f32⟩
  | 15 => ⟨S_, .f32⟩
  | 16 => ⟨S4x2064x1024, .f32⟩
  | 17 => ⟨S4x2064x1024, .f32⟩
  | 18 => ⟨S1x1x1024, .f32⟩
  | 19 => ⟨S4x2064x1024, .f32⟩
  | 20 => ⟨S4x2064x1024, .f32⟩
  | 21 => ⟨S1x1x1024, .f32⟩
  | 22 => ⟨S4x2064x1024, .f32⟩
  | 23 => ⟨S4x2064x1024, .f32⟩
  | 24 => ⟨S4x2064x1024, .f32⟩
  | 25 => ⟨S4x2064x1024, .f32⟩
  | 26 => ⟨S_, .f32⟩
  | 27 => ⟨S4x2064x1024, .f32⟩
  | 28 => ⟨S4x2064x1024, .f32⟩
  | 29 => ⟨S_, .f32⟩
  | 30 => ⟨S4x2064x1024, .f32⟩
  | 31 => ⟨S4x2064x1024, .f32⟩
  | 32 => ⟨S4x2064x1024, .f32⟩
  | 33 => ⟨S4x2064x8x128, .f32⟩
  | 34 => ⟨S_, .f32⟩
  | 35 => ⟨S4x2064x1024, .f32⟩
  | 36 => ⟨S4x2064x1024, .f32⟩
  | 37 => ⟨S4x2064x8x128, .f32⟩
  | 38 => ⟨S4x2064x1024, .f32⟩
  | 39 => ⟨S4x2064x8x128, .f32⟩
  | 40 => ⟨S4x2064x8x128, .f32⟩
  | 41 => ⟨S4x129x16x8x128, .f32⟩
  | 42 => ⟨S129x4x8x16x128, .f32⟩
  | 43 => ⟨S4x129x16x8x128, .f32⟩
  | 44 => ⟨S129x4x8x16x128, .f32⟩
  | 45 => ⟨S4x129x16x8x128, .f32⟩
  | 46 => ⟨S129x4x8x16x128, .f32⟩
  | 47 => ⟨S4x129x16x8x128, .f32⟩
  | 48 => ⟨S129x4x8x16x128, .f32⟩
  | 49 => ⟨S_, .f32⟩
  | 50 => ⟨S_, .f32⟩
  | 51 => ⟨S129x4x8x16x128, .f32⟩
  | 52 => ⟨S129x4x8x1x128, .f32⟩
  | 53 => ⟨S129x4x8x16x128, .f32⟩
  | 54 => ⟨S129x4x8x16x128, .f32⟩
  | 55 => ⟨S129x4x8x16x128, .f32⟩
  | 56 => ⟨S129x4x8x16x128, .f32⟩
  | 57 => ⟨S129x4x8x16x128, .f32⟩
  | 58 => ⟨S129x4x8x16x128, .f32⟩
  | 59 => ⟨S129x4x8x16x128, .f32⟩
  | 60 => ⟨S129x4x8x16x128, .f32⟩
  | 61 => ⟨S129x4x8x16x128, .f32⟩
  | 62 => ⟨S129x4x8x128, .f32⟩
  | 63 => ⟨S129x4x8x128, .f32⟩
  | 64 => ⟨S_, .f32⟩
  | 65 => ⟨S16x16, .f32⟩
  | 66 => ⟨S16x16, .i32⟩
  | 67 => ⟨S_, .i32⟩
  | 68 => ⟨S16x16, .i32⟩
  | 69 => ⟨S16x16, .i32⟩
  | 70 => ⟨S16x16, .i32⟩
  | 71 => ⟨S16x16, .i1⟩
  | 72 => ⟨S_, .f32⟩
  | 73 => ⟨S16x16, .f32⟩
  | 74 => ⟨S16x16, .f32⟩
  | 75 => ⟨S_, .f32⟩
  | 76 => ⟨S129x4x8x16x128, .f32⟩
  | 77 => ⟨S_, .i32⟩
  | 78 => ⟨S129x4x8x16x128, .f32⟩
  | 79 => ⟨S129x4x8x16x128, .f32⟩
  | 80 => ⟨S129x4x8x16x128, .f32⟩
  | 81 => ⟨S129x4x8x16x128, .f32⟩
  | 82 => ⟨S129x4x8x128, .f32⟩
  | 83 => ⟨S16x16, .f32⟩
  | 84 => ⟨S_, .i32⟩
  | 85 => ⟨S4x8x128x128, .f32⟩
  | 86 => ⟨S129x4x8x16x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x4x8x16x128, .f32⟩
  | 94 => ⟨S4x8x16x128, .f32⟩
  | 95 => ⟨S_, .i32⟩
  | 96 => ⟨S_, .i32⟩
  | 97 => ⟨S_, .i32⟩
  | 98 => ⟨S_, .i32⟩
  | 99 => ⟨S1x4x8x16x128, .f32⟩
  | 100 => ⟨S4x8x16x128, .f32⟩
  | 101 => ⟨S_, .i32⟩
  | 102 => ⟨S_, .i32⟩
  | 103 => ⟨S_, .i32⟩
  | 104 => ⟨S_, .i32⟩
  | 105 => ⟨S1x4x8x16x128, .f32⟩
  | 106 => ⟨S4x8x16x128, .f32⟩
  | 107 => ⟨S_, .i32⟩
  | 108 => ⟨S_, .i32⟩
  | 109 => ⟨S_, .i32⟩
  | 110 => ⟨S_, .i32⟩
  | 111 => ⟨S1x4x8x16x128, .f32⟩
  | 112 => ⟨S4x8x16x128, .f32⟩
  | 113 => ⟨S_, .i32⟩
  | 114 => ⟨S_, .i32⟩
  | 115 => ⟨S_, .i32⟩
  | 116 => ⟨S1x4x8x128, .f32⟩
  | 117 => ⟨S4x8x128, .f32⟩
  | 118 => ⟨S4x8x16x16, .f32⟩
  | 119 => ⟨S1x1x16x16, .f32⟩
  | 120 => ⟨S4x8x16x16, .f32⟩
  | 121 => ⟨S4x8x16x16, .f32⟩
  | 122 => ⟨S4x8x16x128, .f32⟩
  | 123 => ⟨S4x8x16x128, .f32⟩
  | 124 => ⟨S4x8x16x128, .f32⟩
  | 125 => ⟨S4x8x128x1, .f32⟩
  | 126 => ⟨S4x8x128x128, .f32⟩
  | 127 => ⟨S4x8x128x128, .f32⟩
  | _ => ⟨S4x2064x5120, .f32⟩

abbrev hbmTy0_1 (i : Nat) : BufTy := match i % 128 with
  | 0 => ⟨S4x8x128x128, .f32⟩
  | 1 => ⟨S4x8x128x128, .f32⟩
  | 2 => ⟨S1x4x8x16x128, .f32⟩
  | 3 => ⟨S_, .i32⟩
  | 4 => ⟨S_, .i32⟩
  | 5 => ⟨S_, .i32⟩
  | 6 => ⟨S_, .i32⟩
  | 7 => ⟨S129x4x8x16x128, .f32⟩
  | 8 => ⟨S_, .i32⟩
  | 9 => ⟨S_, .i32⟩
  | 10 => ⟨S4x129x16x8x128, .f32⟩
  | 11 => ⟨S4x2064x8x128, .f32⟩
  | 12 => ⟨S4x2064x8x128, .f32⟩
  | 13 => ⟨S_, .f32⟩
  | 14 => ⟨S4x2064x8, .f32⟩
  | 15 => ⟨S4x2064x8x1, .f32⟩
  | 16 => ⟨S_, .f32⟩
  | 17 => ⟨S4x2064x8x1, .f32⟩
  | 18 => ⟨S4x2064x8x1, .f32⟩
  | 19 => ⟨S_, .f32⟩
  | 20 => ⟨S4x2064x8x1, .f32⟩
  | 21 => ⟨S4x2064x8x1, .f32⟩
  | 22 => ⟨S4x2064x8x1, .f32⟩
  | 23 => ⟨S4x2064x8x128, .f32⟩
  | 24 => ⟨S4x2064x8x128, .f32⟩
  | 25 => ⟨S1x1x1x128, .f32⟩
  | 26 => ⟨S4x2064x8x128, .f32⟩
  | 27 => ⟨S4x2064x8x128, .f32⟩
  | 28 => ⟨S4x2064x1024, .f32⟩
  | 29 => ⟨S4x2064x1024, .f32⟩
  | 30 => ⟨S4x2064x1024, .f32⟩
  | 31 => ⟨S4x2064x1024, .f32⟩
  | 32 => ⟨S_, .f32⟩
  | 33 => ⟨S4x2064x1024, .f32⟩
  | 34 => ⟨S4x2064x1024, .f32⟩
  | 35 => ⟨S_, .f32⟩
  | 36 => ⟨S4x2064x1024, .f32⟩
  | 37 => ⟨S4x2064x1024, .f32⟩
  | 38 => ⟨S4x2064x1024, .f32⟩
  | 39 => ⟨S4x2064x1024, .f32⟩
  | 40 => ⟨S4x2064x1024, .bf16⟩
  | _ => ⟨S4x2064x5120, .f32⟩

abbrev hbmTy (i : Nat) : BufTy := match i / 128 with
  | 0 => hbmTy0_0 i
  | 1 => hbmTy0_1 i
  | _ => ⟨S4x2064x5120, .f32⟩

abbrev bufTy : (tb : Table) → Fin (tcTables nBuf tb) → BufTy
  | .hbm, ⟨i, _⟩ => hbmTy i
  | _, _ => ⟨S4x2064x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_call0_cst : Ref sig .tc := ⟨.hbm, 49, rfl⟩
abbrev main_call1_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_cst : Ref sig .tc := ⟨.hbm, 72, rfl⟩
abbrev main_call2_v5 : Ref sig .tc := ⟨.hbm, 73, rfl⟩
abbrev main_v47 : Ref sig .tc := ⟨.hbm, 74, rfl⟩
abbrev main_cst_4 : Ref sig .tc := ⟨.hbm, 75, rfl⟩
abbrev main_v48 : Ref sig .tc := ⟨.hbm, 76, rfl⟩
abbrev main_c : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_v49_3 : Ref sig .tc := ⟨.hbm, 81, rfl⟩
abbrev main_v49_4 : Ref sig .tc := ⟨.hbm, 82, rfl⟩
abbrev main_v49_5 : Ref sig .tc := ⟨.hbm, 83, rfl⟩
abbrev main_v49_6 : Ref sig .tc := ⟨.hbm, 84, rfl⟩
abbrev main_v49_7 : Ref sig .tc := ⟨.hbm, 85, rfl⟩
abbrev main_v49_8 : Ref sig .tc := ⟨.hbm, 86, rfl⟩
abbrev main_while0c_c_16 : Ref sig .tc := ⟨.hbm, 87, rfl⟩
abbrev main_while0c_v70 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v70 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v71 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v72 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_c_1 : Ref sig .tc := ⟨.hbm, 109, rfl⟩
abbrev main_while0b_call6_c_2 : Ref sig .tc := ⟨.hbm, 110, rfl⟩
abbrev main_while0b_call6_v0 : Ref sig .tc := ⟨.hbm, 111, rfl⟩
abbrev main_while0b_v73 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_v0 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_v85 : Ref sig .tc := ⟨.hbm, 128, rfl⟩
abbrev main_while0b_v86 : Ref sig .tc := ⟨.hbm, 129, rfl⟩
abbrev main_while0b_call8_v0 : Ref sig .tc := ⟨.hbm, 130, rfl⟩
abbrev main_while0b_call8_c : Ref sig .tc := ⟨.hbm, 131, rfl⟩
abbrev main_while0b_call8_c_0 : Ref sig .tc := ⟨.hbm, 132, rfl⟩
abbrev main_while0b_call8_c_1 : Ref sig .tc := ⟨.hbm, 133, rfl⟩
abbrev main_while0b_call8_c_2 : Ref sig .tc := ⟨.hbm, 134, rfl⟩
abbrev main_while0b_v87 : Ref sig .tc := ⟨.hbm, 135, rfl⟩
abbrev main_while0b_c_16 : Ref sig .tc := ⟨.hbm, 136, rfl⟩
abbrev main_while0b_v88 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_cst_5 : Ref sig .tc := ⟨.hbm, 141, rfl⟩
abbrev main_v53 : Ref sig .tc := ⟨.hbm, 142, rfl⟩
abbrev main_v54 : Ref sig .tc := ⟨.hbm, 143, rfl⟩
abbrev main_cst_6 : Ref sig .tc := ⟨.hbm, 144, rfl⟩
abbrev main_v55 : Ref sig .tc := ⟨.hbm, 145, rfl⟩
abbrev main_v56 : Ref sig .tc := ⟨.hbm, 146, rfl⟩
abbrev main_cst_7 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_call9_v0 : Ref sig .tc := ⟨.hbm, 158, rfl⟩
abbrev main_call9_v1 : Ref sig .tc := ⟨.hbm, 159, rfl⟩
abbrev main_call9_cst : Ref sig .tc := ⟨.hbm, 160, rfl⟩
abbrev main_call9_v2 : Ref sig .tc := ⟨.hbm, 161, rfl⟩
abbrev main_call9_v3 : Ref sig .tc := ⟨.hbm, 162, rfl⟩
abbrev main_call9_cst_0 : Ref sig .tc := ⟨.hbm, 163, rfl⟩
abbrev main_call9_v4 : Ref sig .tc := ⟨.hbm, 164, rfl⟩
abbrev main_call9_v5 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩

abbrev nD : Nat := 1
abbrev τ : Topo := Topo.v7x

variable {F : FTy → Type} [FloatOps F]

abbrev main_while0_count : Scf.Loop 32 := ⟨0#32, 129#32, 1#32⟩
-- ==== Ffn.lean ====
abbrev S8256x2048 : Shape := ⟨2, ![8256, 2048]⟩
abbrev S4x2x5632 : Shape := ⟨3, ![4, 2, 5632]⟩
abbrev S2x2048x11264 : Shape := ⟨3, ![2, 2048, 11264]⟩
abbrev S3x5632 : Shape := ⟨2, ![3, 5632]⟩
abbrev S5632 : Shape := ⟨1, ![5632]⟩
abbrev S1x5632 : Shape := ⟨2, ![1, 5632]⟩
abbrev S8256x5632 : Shape := ⟨2, ![8256, 5632]⟩
abbrev S2064x2048 : Shape := ⟨2, ![2064, 2048]⟩
abbrev S1x2048x512 : Shape := ⟨3, ![1, 2048, 512]⟩
abbrev S1x2x512 : Shape := ⟨3, ![1, 2, 512]⟩
abbrev S3x512 : Shape := ⟨2, ![3, 512]⟩
abbrev S1x512 : Shape := ⟨2, ![1, 512]⟩
abbrev S2064x512 : Shape := ⟨2, ![2064, 512]⟩
abbrev S1x2072x512 : Shape := ⟨3, ![1, 2072, 512]⟩
abbrev S2048x512 : Shape := ⟨2, ![2048, 512]⟩
abbrev S1x1x512 : Shape := ⟨3, ![1, 1, 512]⟩
abbrev S688x2048 : Shape := ⟨2, ![688, 2048]⟩
abbrev S688x512 : Shape := ⟨2, ![688, 512]⟩
abbrev S1x688x512 : Shape := ⟨3, ![1, 688, 512]⟩

abbrev nBuf : Space → Nat
  | .hbm => 8
  | .vmem => 19
  | .smem => 0
  | _ => 0

abbrev bufTy : (tb : Table) → Fin (tcTables nBuf tb) → BufTy
  | .hbm, ⟨0, _⟩ => ⟨S8256x2048, .bf16⟩
  | .hbm, ⟨1, _⟩ => ⟨S4x2x5632, .f32⟩
  | .hbm, ⟨2, _⟩ => ⟨S2x2048x11264, .f32⟩
  | .hbm, ⟨3, _⟩ => ⟨S3x5632, .f32⟩
  | .hbm, ⟨4, _⟩ => ⟨S5632, .f32⟩
  | .hbm, ⟨5, _⟩ => ⟨S1x5632, .f32⟩
  | .hbm, ⟨6, _⟩ => ⟨S8256x5632, .bf16⟩
  | .hbm, ⟨7, _⟩ => ⟨S4x2x5632, .f32⟩
  | .local _ .vmem, ⟨0, _⟩ => ⟨S2064x2048, .bf16⟩
  | .local _ .vmem, ⟨1, _⟩ => ⟨S2064x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2x512, .f32⟩
  | .local _ .vmem, ⟨7, _⟩ => ⟨S1x2x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S2064x512, .bf16⟩
  | .local _ .vmem, ⟨13, _⟩ => ⟨S2064x512, .bf16⟩
  | .local _ .vmem, ⟨14, _⟩ => ⟨S1x2x512, .f32⟩
  | .local _ .vmem, ⟨15, _⟩ => ⟨S1x2x512, .f32⟩
  | .local _ .vmem, ⟨16, _⟩ => ⟨S1x2072x512, .f32⟩
  | .local _ .vmem, ⟨17, _⟩ => ⟨S2048x512, .bf16⟩
  | .local _ .vmem, ⟨18, _⟩ => ⟨S2048x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S2064x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2064x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8256x2048 : Shape := ⟨2, ![8256, 2048]⟩
abbrev S4x2x5632 : Shape := ⟨3, ![4, 2, 5632]⟩
abbrev S2x2048x11264 : Shape := ⟨3, ![2, 2048, 11264]⟩
abbrev S3x5632 : Shape := ⟨2, ![3, 5632]⟩
abbrev S5632 : Shape := ⟨1, ![5632]⟩
abbrev S4x2064x2048 : Shape := ⟨3, ![4, 2064, 2048]⟩
abbrev S1x2048x11264 : Shape := ⟨3, ![1, 2048, 11264]⟩
abbrev S2048x11264 : Shape := ⟨2, ![2048, 11264]⟩
abbrev S4x2064x11264 : Shape := ⟨3, ![4, 2064, 11264]⟩
abbrev S4x2064x5632 : Shape := ⟨3, ![4, 2064, 5632]⟩
abbrev S4x2066x5632 : Shape := ⟨3, ![4, 2066, 5632]⟩
abbrev S1x5632 : Shape := ⟨2, ![1, 5632]⟩
abbrev S1x1x5632 : Shape := ⟨3, ![1, 1, 5632]⟩
abbrev S_ : Shape := ⟨0, ![]⟩
abbrev S8256x5632 : Shape := ⟨2, ![8256, 5632]⟩

abbrev nBuf : Space → Nat
  | .hbm => 57
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2x5632, .f32⟩
  | .hbm, ⟨2, _⟩ => ⟨S2x2048x11264, .f32⟩
  | .hbm, ⟨3, _⟩ => ⟨S3x5632, .f32⟩
  | .hbm, ⟨4, _⟩ => ⟨S5632, .f32⟩
  | .hbm, ⟨5, _⟩ => ⟨S8256x2048, .f32⟩
  | .hbm, ⟨6, _⟩ => ⟨S4x2064x2048, .f32⟩
  | .hbm, ⟨7, _⟩ => ⟨S1x2048x11264, .f32⟩
  | .hbm, ⟨8, _⟩ => ⟨S2048x11264, .f32⟩
  | .hbm, ⟨9, _⟩ => ⟨S4x2064x11264, .f32⟩
  | .hbm, ⟨10, _⟩ => ⟨S4x2064x5632, .f32⟩
  | .hbm, ⟨11, _⟩ => ⟨S4x2064x5632, .f32⟩
  | .hbm, ⟨12, _⟩ => ⟨S4x2066x5632, .f32⟩
  | .hbm, ⟨13, _⟩ => ⟨S1x5632, .f32⟩
  | .hbm, ⟨14, _⟩ => ⟨S5632, .f32⟩
  | .hbm, ⟨15, _⟩ => ⟨S4x2064x5632, .f32⟩
  | .hbm, ⟨16, _⟩ => ⟨S1x1x5632, .f32⟩
  | .hbm, ⟨17, _⟩ => ⟨S4x2064x5632, .f32⟩
  | .hbm, ⟨18, _⟩ => ⟨S4x2064x5632, .f32⟩
  | .hbm, ⟨19, _⟩ => ⟨S1x1x5632, .f32⟩
  | .hbm, ⟨20, _⟩ => ⟨S4x2064x5632, .f32⟩
  | .hbm, ⟨21, _⟩ => ⟨S4x2064x5632, .f32⟩
  | .hbm, ⟨22, _⟩ => ⟨S1x5632, .f32⟩
  | .hbm, ⟨23, _⟩ => ⟨S5632, .f32⟩
  | .hbm, ⟨24, _⟩ => ⟨S4x2064x5632, .f32⟩
  | .hbm, ⟨25, _⟩ => ⟨S1x1x5632, .f32⟩
  | .hbm, ⟨26, _⟩ => ⟨S4x2064x5632, .f32⟩
  | .hbm, ⟨27, _⟩ => ⟨S4x2064x5632, .f32⟩
  | .hbm, ⟨28, _⟩ => ⟨S4x2064x5632, .f32⟩
  | .hbm, ⟨29, _⟩ => ⟨S1x5632, .f32⟩
  | .hbm, ⟨30, _⟩ => ⟨S5632, .f32⟩
  | .hbm, ⟨31, _⟩ => ⟨S4x2064x5632, .f32⟩
  | .hbm, ⟨32, _⟩ => ⟨S1x1x5632, .f32⟩
  | .hbm, ⟨33, _⟩ => ⟨S4x2064x5632, .f32⟩
  | .hbm, ⟨34, _⟩ => ⟨S4x2064x5632, .f32⟩
  | .hbm, ⟨35, _⟩ => ⟨S4x2064x5632, .f32⟩
  | .hbm, ⟨36, _⟩ => ⟨S4x2064x5632, .f32⟩
  | .hbm, ⟨37, _⟩ => ⟨S4x2064x5632, .f32⟩
  | .hbm, ⟨38, _⟩ => ⟨S_, .f32⟩
  | .hbm, ⟨39, _⟩ => ⟨S4x2064x5632, .f32⟩
  | .hbm, ⟨40, _⟩ => ⟨S4x2064x5632, .f32⟩
  | .hbm, ⟨41, _⟩ => ⟨S4x2064x5632, .f32⟩
  | .hbm, ⟨42, _⟩ => ⟨S_, .f32⟩
  | .hbm, ⟨43, _⟩ => ⟨S4x2064x5632, .f32⟩
  | .hbm, ⟨44, _⟩ => ⟨S4x2064x5632, .f32⟩
  | .hbm, ⟨45, _⟩ => ⟨S4x2064x5632, .f32⟩
  | .hbm, ⟨46, _⟩ => ⟨S_, .f32⟩
  | .hbm, ⟨47, _⟩ => ⟨S4x2064x5632, .f32⟩
  | .hbm, ⟨48, _⟩ => ⟨S4x2064x5632, .f32⟩
  | .hbm, ⟨49, _⟩ => ⟨S_, .f32⟩
  | .hbm, ⟨50, _⟩ => ⟨S4x2064x5632, .f32⟩
  | .hbm, ⟨51, _⟩ => ⟨S4x2064x5632, .f32⟩
  | .hbm, ⟨52, _⟩ => ⟨S4x2064x5632, .f32⟩
  | .hbm, ⟨53, _⟩ => ⟨S4x2064x5632, .f32⟩
  | .hbm, ⟨54, _⟩ => ⟨S8256x5632, .f32⟩
  | .hbm, ⟨55, _⟩ => ⟨S8256x5632, .bf16⟩
  | .hbm, ⟨56, _⟩ => ⟨S4x2x5632, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Down.lean ====
abbrev S8256x5632 : Shape := ⟨2, ![8256, 5632]⟩
abbrev S2x5632x2048 : Shape := ⟨3, ![2, 5632, 2048]⟩
abbrev S8256x2048 : Shape := ⟨2, ![8256, 2048]⟩
abbrev S688x2816 : Shape := ⟨2, ![688, 2816]⟩
abbrev S1x2816x1024 : Shape := ⟨3, ![1, 2816, 1024]⟩
abbrev S688x1024 : Shape := ⟨2, ![688, 1024]⟩
abbrev S2816x1024 : Shape := ⟨2, ![2816, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8256x5632, .bf16⟩
  | .hbm, ⟨1, _⟩ => ⟨S2x5632x2048, .bf16⟩
  | .hbm, ⟨2, _⟩ => ⟨S8256x2048, .f32⟩
  | .hbm, ⟨3, _⟩ => ⟨S8256x2048, .f32⟩
  | .local _ .vmem, ⟨0, _⟩ => ⟨S688x2816, .bf16⟩
  | .local _ .vmem, ⟨1, _⟩ => ⟨S688x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8256x5632 : Shape := ⟨2, ![8256, 5632]⟩
abbrev S2x5632x2048 : Shape := ⟨3, ![2, 5632, 2048]⟩
abbrev S8256x2048 : Shape := ⟨2, ![8256, 2048]⟩
abbrev S1x5632x2048 : Shape := ⟨3, ![1, 5632, 2048]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S2x5632x2048, .bf16⟩
  | .hbm, ⟨2, _⟩ => ⟨S8256x2048, .f32⟩
  | .hbm, ⟨3, _⟩ => ⟨S8256x5632, .f32⟩
  | .hbm, ⟨4, _⟩ => ⟨S1x5632x2048, .bf16⟩
  | .hbm, ⟨5, _⟩ => ⟨S5632x2048, .bf16⟩
  | .hbm, ⟨6, _⟩ => ⟨S5632x2048, .f32⟩
  | .hbm, ⟨7, _⟩ => ⟨S8256x2048, .f32⟩
  | .hbm, ⟨8, _⟩ => ⟨S8256x2048, .f32⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvIn.lean ====
abbrev S8256x2048 : Shape := ⟨2, ![8256, 2048]⟩
abbrev S1x2048x5120 : Shape := ⟨3, ![1, 2048, 5120]⟩
abbrev S2048x5120 : Shape := ⟨2, ![2048, 5120]⟩
abbrev S8256x5120 : Shape := ⟨2, ![8256, 5120]⟩
abbrev S1376x2048 : Shape := ⟨2, ![1376, 2048]⟩
abbrev S2048x1024 : Shape := ⟨2, ![2048, 1024]⟩
abbrev S1376x1024 : Shape := ⟨2, ![1376, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8256x2048, .bf16⟩
  | .hbm, ⟨1, _⟩ => ⟨S1x2048x5120, .f32⟩
  | .hbm, ⟨2, _⟩ => ⟨S2048x5120, .f32⟩
  | .hbm, ⟨3, _⟩ => ⟨S8256x5120, .f32⟩
  | .local _ .vmem, ⟨0, _⟩ => ⟨S1376x2048, .bf16⟩
  | .local _ .vmem, ⟨1, _⟩ => ⟨S1376x2048, .bf16⟩
  | .local _ .vmem, ⟨2, _⟩ => ⟨S2048x1024, .f32⟩
  | .local _ .vmem, ⟨3, _⟩ => ⟨S2048x1024, .f32⟩
  | .local _ .vmem, ⟨4, _⟩ => ⟨S1376x1024, .f32⟩
  | .local _ .vmem, ⟨5, _⟩ => ⟨S1376x1024, .f32⟩
  | .local _ .vmem, ⟨6, _⟩ => ⟨S2048x1024, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvInRefIdeal.lean ====
abbrev S8256x2048 : Shape := ⟨2, ![8256, 2048]⟩
abbrev S1x2048x5120 : Shape := ⟨3, ![1, 2048, 5120]⟩
abbrev S2048x5120 : Shape := ⟨2, ![2048, 5120]⟩
abbrev S8256x5120 : Shape := ⟨2, ![8256, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S1x2048x5120, .f32⟩
  | .hbm, ⟨2, _⟩ => ⟨S8256x2048, .f32⟩
  | .hbm, ⟨3, _⟩ => ⟨S2048x5120, .f32⟩
  | .hbm, ⟨4, _⟩ => ⟨S8256x5120, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvOut.lean ====
abbrev S8256x1024 : Shape := ⟨2, ![8256, 1024]⟩
abbrev S1x2048x2048 : Shape := ⟨3, ![1, 2048, 2048]⟩
abbrev S8256x2048 : Shape := ⟨2, ![8256, 2048]⟩
abbrev S688x1024 : Shape := ⟨2, ![688, 1024]⟩
abbrev S1x1024x1024 : Shape := ⟨3, ![1, 1024, 1024]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1x2048x2048, .f32⟩
  | .hbm, ⟨3, _⟩ => ⟨S8256x2048, .f32⟩
  | .hbm, ⟨4, _⟩ => ⟨S8256x2048, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S1024x1024, .bf16⟩
  | .local _ .vmem, ⟨13, _⟩ => ⟨S1024x1024, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvOutRefIdeal.lean ====
abbrev S8256x1024 : Shape := ⟨2, ![8256, 1024]⟩
abbrev S1x2048x2048 : Shape := ⟨3, ![1, 2048, 2048]⟩
abbrev S8256x2048 : Shape := ⟨2, ![8256, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1x2048x2048, .f32⟩
  | .hbm, ⟨3, _⟩ => ⟨S8256x2048, .f32⟩
  | .hbm, ⟨4, _⟩ => ⟨S8256x1024, .f32⟩
  | .hbm, ⟨5, _⟩ => ⟨S8256x1024, .f32⟩
  | .hbm, ⟨6, _⟩ => ⟨S8256x2048, .f32⟩
  | .hbm, ⟨7, _⟩ => ⟨S2048x2048, .f32⟩
  | .hbm, ⟨8, _⟩ => ⟨S8256x2048, .f32⟩
  | .hbm, ⟨9, _⟩ => ⟨S8256x2048, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Rkv.lean ====
abbrev S8256x2048 : Shape := ⟨2, ![8256, 2048]⟩
abbrev S1x2048x2048 : Shape := ⟨3, ![1, 2048, 2048]⟩
abbrev S2048x2048 : Shape := ⟨2, ![2048, 2048]⟩
abbrev S1376x2048 : Shape := ⟨2, ![1376, 2048]⟩
abbrev S2048x1024 : Shape := ⟨2, ![2048, 1024]⟩
abbrev S1376x1024 : Shape := ⟨2, ![1376, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8256x2048, .bf16⟩
  | .hbm, ⟨1, _⟩ => ⟨S1x2048x2048, .f32⟩
  | .hbm, ⟨2, _⟩ => ⟨S2048x2048, .f32⟩
  | .hbm, ⟨3, _⟩ => ⟨S8256x2048, .f32⟩
  | .local _ .vmem, ⟨0, _⟩ => ⟨S1376x2048, .bf16⟩
  | .local _ .vmem, ⟨1, _⟩ => ⟨S1376x2048, .bf16⟩
  | .local _ .vmem, ⟨2, _⟩ => ⟨S2048x1024, .f32⟩
  | .local _ .vmem, ⟨3, _⟩ => ⟨S2048x1024, .f32⟩
  | .local _ .vmem, ⟨4, _⟩ => ⟨S1376x1024, .f32⟩
  | .local _ .vmem, ⟨5, _⟩ => ⟨S1376x1024, .f32⟩
  | .local _ .vmem, ⟨6, _⟩ => ⟨S2048x1024, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvRefIdeal.lean ====
abbrev S8256x2048 : Shape := ⟨2, ![8256, 2048]⟩
abbrev S1x2048x2048 : Shape := ⟨3, ![1, 2048, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S1x2048x2048, .f32⟩
  | .hbm, ⟨2, _⟩ => ⟨S8256x2048, .f32⟩
  | .hbm, ⟨3, _⟩ => ⟨S2048x2048, .f32⟩
  | .hbm, ⟨4, _⟩ => ⟨S8256x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddOut.lean ====
abbrev S8256x2048 : Shape := ⟨2, ![8256, 2048]⟩
abbrev S1x2048x2048 : Shape := ⟨3, ![1, 2048, 2048]⟩
abbrev S2048x2048 : Shape := ⟨2, ![2048, 2048]⟩
abbrev S688x2048 : Shape := ⟨2, ![688, 2048]⟩
abbrev S2048x1024 : Shape := ⟨2, ![2048, 1024]⟩
abbrev S688x1024 : Shape := ⟨2, ![688, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8256x2048, .bf16⟩
  | .hbm, ⟨1, _⟩ => ⟨S1x2048x2048, .f32⟩
  | .hbm, ⟨2, _⟩ => ⟨S8256x2048, .f32⟩
  | .hbm, ⟨3, _⟩ => ⟨S2048x2048, .f32⟩
  | .hbm, ⟨4, _⟩ => ⟨S8256x2048, .f32⟩
  | .local _ .vmem, ⟨0, _⟩ => ⟨S688x2048, .bf16⟩
  | .local _ .vmem, ⟨1, _⟩ => ⟨S688x2048, .bf16⟩
  | .local _ .vmem, ⟨2, _⟩ => ⟨S2048x1024, .f32⟩
  | .local _ .vmem, ⟨3, _⟩ => ⟨S2048x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S2048x1024, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutRefIdeal.lean ====
abbrev S8256x2048 : Shape := ⟨2, ![8256, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S1x2048x2048, .f32⟩
  | .hbm, ⟨2, _⟩ => ⟨S8256x2048, .f32⟩
  | .hbm, ⟨3, _⟩ => ⟨S8256x2048, .f32⟩
  | .hbm, ⟨4, _⟩ => ⟨S2048x2048, .f32⟩
  | .hbm, ⟨5, _⟩ => ⟨S8256x2048, .f32⟩
  | .hbm, ⟨6, _⟩ => ⟨S8256x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Glu.lean ====
abbrev S8256x1024 : Shape := ⟨2, ![8256, 1024]⟩
abbrev S1x1024x1024 : Shape := ⟨3, ![1, 1024, 1024]⟩
abbrev S1024x1024 : Shape := ⟨2, ![1024, 1024]⟩
abbrev S1376x1024 : Shape := ⟨2, ![1376, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8256x1024, .f32⟩
  | .hbm, ⟨1, _⟩ => ⟨S1x1024x1024, .f32⟩
  | .hbm, ⟨2, _⟩ => ⟨S1024x1024, .f32⟩
  | .hbm, ⟨3, _⟩ => ⟨S8256x1024, .bf16⟩
  | .local _ .vmem, ⟨0, _⟩ => ⟨S1376x1024, .f32⟩
  | .local _ .vmem, ⟨1, _⟩ => ⟨S1376x1024, .f32⟩
  | .local _ .vmem, ⟨2, _⟩ => ⟨S1024x1024, .f32⟩
  | .local _ .vmem, ⟨3, _⟩ => ⟨S1376x1024, .f32⟩
  | .local _ .vmem, ⟨4, _⟩ => ⟨S1376x1024, .f32⟩
  | .local _ .vmem, ⟨5, _⟩ => ⟨S1376x1024, .bf16⟩
  | .local _ .vmem, ⟨6, _⟩ => ⟨S1376x1024, .bf16⟩
  | .local _ .vmem, ⟨7, _⟩ => ⟨S1024x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8256x1024 : Shape := ⟨2, ![8256, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024x1024, .f32⟩
  | .hbm, ⟨2, _⟩ => ⟨S1024x1024, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S_, .f32⟩
  | .hbm, ⟨7, _⟩ => ⟨S8256x1024, .f32⟩
  | .hbm, ⟨8, _⟩ => ⟨S8256x1024, .f32⟩
  | .hbm, ⟨9, _⟩ => ⟨S_, .f32⟩
  | .hbm, ⟨10, _⟩ => ⟨S8256x1024, .f32⟩
  | .hbm, ⟨11, _⟩ => ⟨S8256x1024, .f32⟩
  | .hbm, ⟨12, _⟩ => ⟨S8256x1024, .f32⟩
  | .hbm, ⟨13, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Final.lean ====
abbrev S8256x2048 : Shape := ⟨2, ![8256, 2048]⟩
abbrev S2048 : Shape := ⟨1, ![2048]⟩
abbrev S1x2048 : Shape := ⟨2, ![1, 2048]⟩
abbrev S8192x2048 : Shape := ⟨2, ![8192, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FinalRefIdeal.lean ====
abbrev S8256x2048 : Shape := ⟨2, ![8256, 2048]⟩
abbrev S2048 : Shape := ⟨1, ![2048]⟩
abbrev S4x2064x2048 : Shape := ⟨3, ![4, 2064, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S4x2064x2048, .f32⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S8192x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Mix.lean ====
abbrev S1024x2048 : Shape := ⟨2, ![1024, 2048]⟩
abbrev S1x128x2048 : Shape := ⟨3, ![1, 128, 2048]⟩
abbrev S2x2048 : Shape := ⟨2, ![2, 2048]⟩
abbrev S1x6x2048 : Shape := ⟨3, ![1, 6, 2048]⟩
abbrev S128x8x2048 : Shape := ⟨3, ![128, 8, 2048]⟩
abbrev S128x2048 : Shape := ⟨2, ![128, 2048]⟩
abbrev S1x2048 : Shape := ⟨2, ![1, 2048]⟩
abbrev S2048 : Shape := ⟨1, ![2048]⟩
abbrev S6x2048 : Shape := ⟨2, ![6, 2048]⟩
abbrev S128x1x2048 : Shape := ⟨3, ![128, 1, 2048]⟩
abbrev S32x8x2048 : Shape := ⟨3, ![32, 8, 2048]⟩
abbrev S32x1x2048 : Shape := ⟨3, ![32, 1, 2048]⟩
abbrev S32x16x2048 : Shape := ⟨3, ![32, 16, 2048]⟩
abbrev S32x8 : Shape := ⟨2, ![32, 8]⟩
abbrev S32x8x1 : Shape := ⟨3, ![32, 8, 1]⟩
abbrev S1x1x2048 : Shape := ⟨3, ![1, 1, 2048]⟩

abbrev nBuf : Space → Nat
  | .hbm => 18
  | .vmem => 21
  | .smem => 0
  | _ => 0

abbrev bufTy : (tb : Table) → Fin (tcTables nBuf tb) → BufTy
  | .hbm, ⟨0, _⟩ => ⟨S1024x2048, .f32⟩
  | .hbm, ⟨1, _⟩ => ⟨S1x128x2048, .f32⟩
  | .hbm, ⟨2, _⟩ => ⟨S2x2048, .f32⟩
  | .hbm, ⟨3, _⟩ => ⟨S1x6x2048, .f32⟩
  | .hbm, ⟨4, _⟩ => ⟨S128x8x2048, .f32⟩
  | .hbm, ⟨5, _⟩ => ⟨S128x2048, .f32⟩
  | .hbm, ⟨6, _⟩ => ⟨S1x2048, .f32⟩
  | .hbm, ⟨7, _⟩ => ⟨S2048, .f32⟩
  | .hbm, ⟨8, _⟩ => ⟨S6x2048, .f32⟩
  | .hbm, ⟨9, _⟩ => ⟨S128x1x2048, .f32⟩
  | .hbm, ⟨10, _⟩ => ⟨S1x2048, .f32⟩
  | .hbm, ⟨11, _⟩ => ⟨S128x8x2048, .bf16⟩
  | .hbm, ⟨12, _⟩ => ⟨S128x8x2048, .bf16⟩
  | .hbm, ⟨13, _⟩ => ⟨S128x8x2048, .bf16⟩
  | .hbm, ⟨14, _⟩ => ⟨S128x8x2048, .bf16⟩
  | .hbm, ⟨15, _⟩ => ⟨S128x8x2048, .bf16⟩
  | .hbm, ⟨16, _⟩ => ⟨S128x8x2048, .bf16⟩
  | .hbm, ⟨17, _⟩ => ⟨S128x1x2048, .f32⟩
  | .local _ .vmem, ⟨0, _⟩ => ⟨S32x8x2048, .f32⟩
  | .local _ .vmem, ⟨1, _⟩ => ⟨S32x8x2048, .f32⟩
  | .local _ .vmem, ⟨2, _⟩ => ⟨S32x1x2048, .f32⟩
  | .local _ .vmem, ⟨3, _⟩ => ⟨S32x1x2048, .f32⟩
  | .local _ .vmem, ⟨4, _⟩ => ⟨S1x2048, .f32⟩
  | .local _ .vmem, ⟨5, _⟩ => ⟨S6x2048, .f32⟩
  | .local _ .vmem, ⟨6, _⟩ => ⟨S32x8x2048, .bf16⟩
  | .local _ .vmem, ⟨7, _⟩ => ⟨S32x8x2048, .bf16⟩
  | .local _ .vmem, ⟨8, _⟩ => ⟨S32x8x2048, .bf16⟩
  | .local _ .vmem, ⟨9, _⟩ => ⟨S32x8x2048, .bf16⟩
  | .local _ .vmem, ⟨10, _⟩ => ⟨S32x8x2048, .bf16⟩
  | .local _ .vmem, ⟨11, _⟩ => ⟨S32x8x2048, .bf16⟩
  | .local _ .vmem, ⟨12, _⟩ => ⟨S32x8x2048, .bf16⟩
  | .local _ .vmem, ⟨13, _⟩ => ⟨S32x8x2048, .bf16⟩
  | .local _ .vmem, ⟨14, _⟩ => ⟨S32x8x2048, .bf16⟩
  | .local _ .vmem, ⟨15, _⟩ => ⟨S32x8x2048, .bf16⟩
  | .local _ .vmem, ⟨16, _⟩ => ⟨S32x8x2048, .bf16⟩
  | .local _ .vmem, ⟨17, _⟩ => ⟨S32x8x2048, .bf16⟩
  | .local _ .vmem, ⟨18, _⟩ => ⟨S32x1x2048, .f32⟩
  | .local _ .vmem, ⟨19, _⟩ => ⟨S32x1x2048, .f32⟩
  | .local _ .vmem, ⟨20, _⟩ => ⟨S32x16x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x8x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x8x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x8x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x8x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x8x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixRefIdeal.lean ====
abbrev S1024x2048 : Shape := ⟨2, ![1024, 2048]⟩
abbrev S1x128x2048 : Shape := ⟨3, ![1, 128, 2048]⟩
abbrev S2x2048 : Shape := ⟨2, ![2, 2048]⟩
abbrev S1x6x2048 : Shape := ⟨3, ![1, 6, 2048]⟩
abbrev S128x8x2048 : Shape := ⟨3, ![128, 8, 2048]⟩
abbrev S1x2048 : Shape := ⟨2, ![1, 2048]⟩
abbrev S2048 : Shape := ⟨1, ![2048]⟩
abbrev S6x2048 : Shape := ⟨2, ![6, 2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S128x2048 : Shape := ⟨2, ![128, 2048]⟩
abbrev S128x1x2048 : Shape := ⟨3, ![128, 1, 2048]⟩
abbrev S128x7x2048 : Shape := ⟨3, ![128, 7, 2048]⟩

abbrev nBuf : Space → Nat
  | .hbm => 72
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x128x2048, .f32⟩
  | .hbm, ⟨2, _⟩ => ⟨S2x2048, .f32⟩
  | .hbm, ⟨3, _⟩ => ⟨S1x6x2048, .f32⟩
  | .hbm, ⟨4, _⟩ => ⟨S128x8x2048, .f32⟩
  | .hbm, ⟨5, _⟩ => ⟨S1x2048, .f32⟩
  | .hbm, ⟨6, _⟩ => ⟨S2048, .f32⟩
  | .hbm, ⟨7, _⟩ => ⟨S6x2048, .f32⟩
  | .hbm, ⟨8, _⟩ => ⟨S128x8x2048, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x2048, .f32⟩
  | .hbm, ⟨20, _⟩ => ⟨S128x8x2048, .f32⟩
  | .hbm, ⟨21, _⟩ => ⟨S1x1x2048, .f32⟩
  | .hbm, ⟨22, _⟩ => ⟨S128x8x2048, .f32⟩
  | .hbm, ⟨23, _⟩ => ⟨S128x8x2048, .f32⟩
  | .hbm, ⟨24, _⟩ => ⟨S128x2048, .f32⟩
  | .hbm, ⟨25, _⟩ => ⟨S128x1x2048, .f32⟩
  | .hbm, ⟨26, _⟩ => ⟨S128x7x2048, .f32⟩
  | .hbm, ⟨27, _⟩ => ⟨S128x8x2048, .f32⟩
  | .hbm, ⟨28, _⟩ => ⟨S128x8x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S128x8x2048, .f32⟩
  | .hbm, ⟨33, _⟩ => ⟨S128x8x2048, .f32⟩
  | .hbm, ⟨34, _⟩ => ⟨S128x8x2048, .f32⟩
  | .hbm, ⟨35, _⟩ => ⟨S128x8x2048, .bf16⟩
  | .hbm, ⟨36, _⟩ => ⟨S1x2048, .f32⟩
  | .hbm, ⟨37, _⟩ => ⟨S2048, .f32⟩
  | .hbm, ⟨38, _⟩ => ⟨S1x1x2048, .f32⟩
  | .hbm, ⟨39, _⟩ => ⟨S128x8x2048, .f32⟩
  | .hbm, ⟨40, _⟩ => ⟨S128x8x2048, .f32⟩
  | .hbm, ⟨41, _⟩ => ⟨S128x8x2048, .f32⟩
  | .hbm, ⟨42, _⟩ => ⟨S128x8x2048, .bf16⟩
  | .hbm, ⟨43, _⟩ => ⟨S1x2048, .f32⟩
  | .hbm, ⟨44, _⟩ => ⟨S2048, .f32⟩
  | .hbm, ⟨45, _⟩ => ⟨S1x1x2048, .f32⟩
  | .hbm, ⟨46, _⟩ => ⟨S128x8x2048, .f32⟩
  | .hbm, ⟨47, _⟩ => ⟨S128x8x2048, .f32⟩
  | .hbm, ⟨48, _⟩ => ⟨S128x8x2048, .f32⟩
  | .hbm, ⟨49, _⟩ => ⟨S128x8x2048, .bf16⟩
  | .hbm, ⟨50, _⟩ => ⟨S1x2048, .f32⟩
  | .hbm, ⟨51, _⟩ => ⟨S2048, .f32⟩
  | .hbm, ⟨52, _⟩ => ⟨S1x1x2048, .f32⟩
  | .hbm, ⟨53, _⟩ => ⟨S128x8x2048, .f32⟩
  | .hbm, ⟨54, _⟩ => ⟨S128x8x2048, .f32⟩
  | .hbm, ⟨55, _⟩ => ⟨S128x8x2048, .f32⟩
  | .hbm, ⟨56, _⟩ => ⟨S128x8x2048, .bf16⟩
  | .hbm, ⟨57, _⟩ => ⟨S1x2048, .f32⟩
  | .hbm, ⟨58, _⟩ => ⟨S2048, .f32⟩
  | .hbm, ⟨59, _⟩ => ⟨S1x1x2048, .f32⟩
  | .hbm, ⟨60, _⟩ => ⟨S128x8x2048, .f32⟩
  | .hbm, ⟨61, _⟩ => ⟨S128x8x2048, .f32⟩
  | .hbm, ⟨62, _⟩ => ⟨S128x8x2048, .f32⟩
  | .hbm, ⟨63, _⟩ => ⟨S128x8x2048, .bf16⟩
  | .hbm, ⟨64, _⟩ => ⟨S1x2048, .f32⟩
  | .hbm, ⟨65, _⟩ => ⟨S2048, .f32⟩
  | .hbm, ⟨66, _⟩ => ⟨S1x1x2048, .f32⟩
  | .hbm, ⟨67, _⟩ => ⟨S128x8x2048, .f32⟩
  | .hbm, ⟨68, _⟩ => ⟨S128x8x2048, .f32⟩
  | .hbm, ⟨69, _⟩ => ⟨S128x8x2048, .f32⟩
  | .hbm, ⟨70, _⟩ => ⟨S128x8x2048, .bf16⟩
  | .hbm, ⟨71, _⟩ => ⟨S128x1x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩

abbrev nD : Nat := 1
abbrev τ : Topo := Topo.v7x

variable {F : FTy → Type} [FloatOps F]
-- ==== Last.lean ====
abbrev S1024x2048 : Shape := ⟨2, ![1024, 2048]⟩
abbrev S2048 : Shape := ⟨1, ![2048]⟩
abbrev S1x2048 : Shape := ⟨2, ![1, 2048]⟩
abbrev S1024 : Shape := ⟨1, ![1024]⟩
abbrev S1024x1 : Shape := ⟨2, ![1024, 1]⟩

abbrev nBuf : Space → Nat
  | .hbm => 4
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048, .f32⟩
  | .hbm, ⟨3, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S1024x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== LastRefIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x2048, .f32⟩
  | .hbm, ⟨14, _⟩ => ⟨S1024x2048, .f32⟩
  | .hbm, ⟨15, _⟩ => ⟨S1x2048, .f32⟩
  | .hbm, ⟨16, _⟩ => ⟨S1024x2048, .f32⟩
  | .hbm, ⟨17, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnS.lean ====
abbrev S1024x2048 : Shape := ⟨2, ![1024, 2048]⟩
abbrev S128x2x5632 : Shape := ⟨3, ![128, 2, 5632]⟩
abbrev S2x2048x11264 : Shape := ⟨3, ![2, 2048, 11264]⟩
abbrev S3x5632 : Shape := ⟨2, ![3, 5632]⟩
abbrev S5632 : Shape := ⟨1, ![5632]⟩
abbrev S1x5632 : Shape := ⟨2, ![1, 5632]⟩
abbrev S1024x5632 : Shape := ⟨2, ![1024, 5632]⟩
abbrev S1x2048x512 : Shape := ⟨3, ![1, 2048, 512]⟩
abbrev S128x2x512 : Shape := ⟨3, ![128, 2, 512]⟩
abbrev S3x512 : Shape := ⟨2, ![3, 512]⟩
abbrev S1x512 : Shape := ⟨2, ![1, 512]⟩
abbrev S1024x512 : Shape := ⟨2, ![1024, 512]⟩
abbrev S128x16x512 : Shape := ⟨3, ![128, 16, 512]⟩
abbrev S2048x512 : Shape := ⟨2, ![2048, 512]⟩
abbrev S1x1x512 : Shape := ⟨3, ![1, 1, 512]⟩
abbrev S256x2048 : Shape := ⟨2, ![256, 2048]⟩
abbrev S256x512 : Shape := ⟨2, ![256, 512]⟩
abbrev S32x8x512 : Shape := ⟨3, ![32, 8, 512]⟩

abbrev nBuf : Space → Nat
  | .hbm => 8
  | .vmem => 18
  | .smem => 0
  | _ => 0

abbrev bufTy : (tb : Table) → Fin (tcTables nBuf tb) → BufTy
  | .hbm, ⟨0, _⟩ => ⟨S1024x2048, .bf16⟩
  | .hbm, ⟨1, _⟩ => ⟨S128x2x5632, .f32⟩
  | .hbm, ⟨2, _⟩ => ⟨S2x2048x11264, .f32⟩
  | .hbm, ⟨3, _⟩ => ⟨S3x5632, .f32⟩
  | .hbm, ⟨4, _⟩ => ⟨S5632, .f32⟩
  | .hbm, ⟨5, _⟩ => ⟨S1x5632, .f32⟩
  | .hbm, ⟨6, _⟩ => ⟨S1024x5632, .bf16⟩
  | .hbm, ⟨7, _⟩ => ⟨S128x2x5632, .f32⟩
  | .local _ .vmem, ⟨0, _⟩ => ⟨S1024x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S128x2x512, .f32⟩
  | .local _ .vmem, ⟨6, _⟩ => ⟨S128x2x512, .f32⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S128x2x512, .f32⟩
  | .local _ .vmem, ⟨14, _⟩ => ⟨S128x2x512, .f32⟩
  | .local _ .vmem, ⟨15, _⟩ => ⟨S128x16x512, .f32⟩
  | .local _ .vmem, ⟨16, _⟩ => ⟨S2048x512, .bf16⟩
  | .local _ .vmem, ⟨17, _⟩ => ⟨S2048x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnSRefIdeal.lean ====
abbrev S1024x2048 : Shape := ⟨2, ![1024, 2048]⟩
abbrev S128x2x5632 : Shape := ⟨3, ![128, 2, 5632]⟩
abbrev S2x2048x11264 : Shape := ⟨3, ![2, 2048, 11264]⟩
abbrev S3x5632 : Shape := ⟨2, ![3, 5632]⟩
abbrev S5632 : Shape := ⟨1, ![5632]⟩
abbrev S128x8x2048 : Shape := ⟨3, ![128, 8, 2048]⟩
abbrev S1x2048x11264 : Shape := ⟨3, ![1, 2048, 11264]⟩
abbrev S2048x11264 : Shape := ⟨2, ![2048, 11264]⟩
abbrev S128x8x11264 : Shape := ⟨3, ![128, 8, 11264]⟩
abbrev S128x8x5632 : Shape := ⟨3, ![128, 8, 5632]⟩
abbrev S128x10x5632 : Shape := ⟨3, ![128, 10, 5632]⟩
abbrev S1x5632 : Shape := ⟨2, ![1, 5632]⟩
abbrev S1x1x5632 : Shape := ⟨3, ![1, 1, 5632]⟩
abbrev S_ : Shape := ⟨0, ![]⟩
abbrev S1024x5632 : Shape := ⟨2, ![1024, 5632]⟩

abbrev nBuf : Space → Nat
  | .hbm => 57
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S128x2x5632, .f32⟩
  | .hbm, ⟨2, _⟩ => ⟨S2x2048x11264, .f32⟩
  | .hbm, ⟨3, _⟩ => ⟨S3x5632, .f32⟩
  | .hbm, ⟨4, _⟩ => ⟨S5632, .f32⟩
  | .hbm, ⟨5, _⟩ => ⟨S1024x2048, .f32⟩
  | .hbm, ⟨6, _⟩ => ⟨S128x8x2048, .f32⟩
  | .hbm, ⟨7, _⟩ => ⟨S1x2048x11264, .f32⟩
  | .hbm, ⟨8, _⟩ => ⟨S2048x11264, .f32⟩
  | .hbm, ⟨9, _⟩ => ⟨S128x8x11264, .f32⟩
  | .hbm, ⟨10, _⟩ => ⟨S128x8x5632, .f32⟩
  | .hbm, ⟨11, _⟩ => ⟨S128x8x5632, .f32⟩
  | .hbm, ⟨12, _⟩ => ⟨S128x10x5632, .f32⟩
  | .hbm, ⟨13, _⟩ => ⟨S1x5632, .f32⟩
  | .hbm, ⟨14, _⟩ => ⟨S5632, .f32⟩
  | .hbm, ⟨15, _⟩ => ⟨S128x8x5632, .f32⟩
  | .hbm, ⟨16, _⟩ => ⟨S1x1x5632, .f32⟩
  | .hbm, ⟨17, _⟩ => ⟨S128x8x5632, .f32⟩
  | .hbm, ⟨18, _⟩ => ⟨S128x8x5632, .f32⟩
  | .hbm, ⟨19, _⟩ => ⟨S1x1x5632, .f32⟩
  | .hbm, ⟨20, _⟩ => ⟨S128x8x5632, .f32⟩
  | .hbm, ⟨21, _⟩ => ⟨S128x8x5632, .f32⟩
  | .hbm, ⟨22, _⟩ => ⟨S1x5632, .f32⟩
  | .hbm, ⟨23, _⟩ => ⟨S5632, .f32⟩
  | .hbm, ⟨24, _⟩ => ⟨S128x8x5632, .f32⟩
  | .hbm, ⟨25, _⟩ => ⟨S1x1x5632, .f32⟩
  | .hbm, ⟨26, _⟩ => ⟨S128x8x5632, .f32⟩
  | .hbm, ⟨27, _⟩ => ⟨S128x8x5632, .f32⟩
  | .hbm, ⟨28, _⟩ => ⟨S128x8x5632, .f32⟩
  | .hbm, ⟨29, _⟩ => ⟨S1x5632, .f32⟩
  | .hbm, ⟨30, _⟩ => ⟨S5632, .f32⟩
  | .hbm, ⟨31, _⟩ => ⟨S128x8x5632, .f32⟩
  | .hbm, ⟨32, _⟩ => ⟨S1x1x5632, .f32⟩
  | .hbm, ⟨33, _⟩ => ⟨S128x8x5632, .f32⟩
  | .hbm, ⟨34, _⟩ => ⟨S128x8x5632, .f32⟩
  | .hbm, ⟨35, _⟩ => ⟨S128x8x5632, .f32⟩
  | .hbm, ⟨36, _⟩ => ⟨S128x8x5632, .f32⟩
  | .hbm, ⟨37, _⟩ => ⟨S128x8x5632, .f32⟩
  | .hbm, ⟨38, _⟩ => ⟨S_, .f32⟩
  | .hbm, ⟨39, _⟩ => ⟨S128x8x5632, .f32⟩
  | .hbm, ⟨40, _⟩ => ⟨S128x8x5632, .f32⟩
  | .hbm, ⟨41, _⟩ => ⟨S128x8x5632, .f32⟩
  | .hbm, ⟨42, _⟩ => ⟨S_, .f32⟩
  | .hbm, ⟨43, _⟩ => ⟨S128x8x5632, .f32⟩
  | .hbm, ⟨44, _⟩ => ⟨S128x8x5632, .f32⟩
  | .hbm, ⟨45, _⟩ => ⟨S128x8x5632, .f32⟩
  | .hbm, ⟨46, _⟩ => ⟨S_, .f32⟩
  | .hbm, ⟨47, _⟩ => ⟨S128x8x5632, .f32⟩
  | .hbm, ⟨48, _⟩ => ⟨S128x8x5632, .f32⟩
  | .hbm, ⟨49, _⟩ => ⟨S_, .f32⟩
  | .hbm, ⟨50, _⟩ => ⟨S128x8x5632, .f32⟩
  | .hbm, ⟨51, _⟩ => ⟨S128x8x5632, .f32⟩
  | .hbm, ⟨52, _⟩ => ⟨S128x8x5632, .f32⟩
  | .hbm, ⟨53, _⟩ => ⟨S128x8x5632, .f32⟩
  | .hbm, ⟨54, _⟩ => ⟨S1024x5632, .f32⟩
  | .hbm, ⟨55, _⟩ => ⟨S1024x5632, .bf16⟩
  | .hbm, ⟨56, _⟩ => ⟨S128x2x5632, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== HgrnS.lean ====
abbrev S128x8x5120 : Shape := ⟨3, ![128, 8, 5120]⟩
abbrev S128x8x128x128 : Shape := ⟨4, ![128, 8, 128, 128]⟩
abbrev S1024 : Shape := ⟨1, ![1024]⟩
abbrev S128 : Shape := ⟨1, ![128]⟩
abbrev S1x1024 : Shape := ⟨2, ![1, 1024]⟩
abbrev S1x128 : Shape := ⟨2, ![1, 128]⟩
abbrev S128x8x1024 : Shape := ⟨3, ![128, 8, 1024]⟩
abbrev S8x8x1024 : Shape := ⟨3, ![8, 8, 1024]⟩
abbrev S8x8x128x128 : Shape := ⟨4, ![8, 8, 128, 128]⟩
abbrev S64x128x128 : Shape := ⟨3, ![64, 128, 128]⟩
abbrev S1x1x1024 : Shape := ⟨3, ![1, 1, 1024]⟩
abbrev S8x1x1024 : Shape := ⟨3, ![8, 1, 1024]⟩
abbrev S8x1x128 : Shape := ⟨3, ![8, 1, 128]⟩
abbrev S64x1x128 : Shape := ⟨3, ![64, 1, 128]⟩
abbrev S1x1x128 : Shape := ⟨3, ![1, 1, 128]⟩
abbrev S1x1x128x128 : Shape := ⟨4, ![1, 1, 128, 128]⟩
abbrev S128x128 : Shape := ⟨2, ![128, 128]⟩
abbrev S1x128x128 : Shape := ⟨3, ![1, 128, 128]⟩
abbrev S8x8 : Shape := ⟨2, ![8, 8]⟩
abbrev S1x8x8 : Shape := ⟨3, ![1, 8, 8]⟩
abbrev S8x8x128 : Shape := ⟨3, ![8, 8, 128]⟩
abbrev S64x8x128 : Shape := ⟨3, ![64, 8, 128]⟩
abbrev S64x8x8 : Shape := ⟨3, ![64, 8, 8]⟩
abbrev S64x8 : Shape := ⟨2, ![64, 8]⟩
abbrev S64x8x1 : Shape := ⟨3, ![64, 8, 1]⟩

abbrev nBuf : Space → Nat
  | .hbm => 8
  | .vmem => 17
  | .smem => 0
  | _ => 0

abbrev bufTy : (tb : Table) → Fin (tcTables nBuf tb) → BufTy
  | .hbm, ⟨0, _⟩ => ⟨S128x8x5120, .f32⟩
  | .hbm, ⟨1, _⟩ => ⟨S128x8x128x128, .f32⟩
  | .hbm, ⟨2, _⟩ => ⟨S1024, .f32⟩
  | .hbm, ⟨3, _⟩ => ⟨S128, .f32⟩
  | .hbm, ⟨4, _⟩ => ⟨S1x1024, .f32⟩
  | .hbm, ⟨5, _⟩ => ⟨S1x128, .f32⟩
  | .hbm, ⟨6, _⟩ => ⟨S128x8x1024, .bf16⟩
  | .hbm, ⟨7, _⟩ => ⟨S128x8x128x128, .f32⟩
  | .local _ .vmem, ⟨0, _⟩ => ⟨S8x8x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S8x8x1024, .f32⟩
  | .local _ .vmem, ⟨7, _⟩ => ⟨S8x8x1024, .f32⟩
  | .local _ .vmem, ⟨8, _⟩ => ⟨S8x8x128x128, .f32⟩
  | .local _ .vmem, ⟨9, _⟩ => ⟨S8x8x128x128, .f32⟩
  | .local _ .vmem, ⟨10, _⟩ => ⟨S1x1024, .f32⟩
  | .local _ .vmem, ⟨11, _⟩ => ⟨S1x128, .f32⟩
  | .local _ .vmem, ⟨12, _⟩ => ⟨S8x8x1024, .bf16⟩
  | .local _ .vmem, ⟨13, _⟩ => ⟨S8x8x1024, .bf16⟩
  | .local _ .vmem, ⟨14, _⟩ => ⟨S8x8x128x128, .f32⟩
  | .local _ .vmem, ⟨15, _⟩ => ⟨S8x8x128x128, .f32⟩
  | .local _ .vmem, ⟨16, _⟩ => ⟨S64x128x128, .f32⟩
  | _, _ => ⟨S128x8x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 16, 1], ![false, false, false]⟩

def k0_cond2 (i : grid0.Coords) : BitVec 1 :=
  let arg2 : BitVec 32 := BitVec.ofNat 32 (i 2).val
  let c0_i32_55 : BitVec 32 := 0#32
  let v161 : BitVec 1 := Scalar.cmpi .eq arg2 c0_i32_55
  let v162 : BitVec 32 := Scalar.extui v161
  let c0_i32_56 : BitVec 32 := 0#32
  let v163 : BitVec 1 := Scalar.cmpi .ne v162 c0_i32_56
  v163

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S8x8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== HgrnSRefIdeal.lean ====
abbrev S128x8x5120 : Shape := ⟨3, ![128, 8, 5120]⟩
abbrev S128x8x128x128 : Shape := ⟨4, ![128, 8, 128, 128]⟩
abbrev S1024 : Shape := ⟨1, ![1024]⟩
abbrev S128 : Shape := ⟨1, ![128]⟩
abbrev S128x8x1024 : Shape := ⟨3, ![128, 8, 1024]⟩
abbrev S_ : Shape := ⟨0, ![]⟩
abbrev S1x1x1024 : Shape := ⟨3, ![1, 1, 1024]⟩
abbrev S128x8x8x128 : Shape := ⟨4, ![128, 8, 8, 128]⟩
abbrev S128x16x8x128 : Shape := ⟨4, ![128, 16, 8, 128]⟩
abbrev S128x8x16x128 : Shape := ⟨4, ![128, 8, 16, 128]⟩
abbrev S128x8x1x128 : Shape := ⟨4, ![128, 8, 1, 128]⟩
abbrev S128x8x128 : Shape := ⟨3, ![128, 8, 128]⟩
abbrev S16x16 : Shape := ⟨2, ![16, 16]⟩
abbrev S128x8x16x16 : Shape := ⟨4, ![128, 8, 16, 16]⟩
abbrev S1x1x16x16 : Shape := ⟨4, ![1, 1, 16, 16]⟩
abbrev S128x8x128x1 : Shape := ⟨4, ![128, 8, 128, 1]⟩
abbrev S128x8x8 : Shape := ⟨3, ![128, 8, 8]⟩
abbrev S128x8x8x1 : Shape := ⟨4, ![128, 8, 8, 1]⟩
abbrev S1x1x1x128 : Shape := ⟨4, ![1, 1, 1, 128]⟩

abbrev nBuf : Space → Nat
  | .hbm => 126
  | .vmem => 0
  | .smem => 0
  | _ => 0

abbrev bufTy : (tb : Table) → Fin (tcTables nBuf tb) → BufTy
  | .hbm, ⟨0, _⟩ => ⟨S128x8x5120, .f32⟩
  | .hbm, ⟨1, _⟩ => ⟨S128x8x128x128, .f32⟩
  | .hbm, ⟨2, _⟩ => ⟨S1024, .f32⟩
  | .hbm, ⟨3, _⟩ => ⟨S128, .f32⟩
  | .hbm, ⟨4, _⟩ => ⟨S128x8x1024, .f32⟩
  | .hbm, ⟨5, _⟩ => ⟨S128x8x1024, .f32⟩
  | .hbm, ⟨6, _⟩ => ⟨S128x8x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S128x8x1024, .f32⟩
  | .hbm, ⟨11, _⟩ => ⟨S128x8x1024, .f32⟩
  | .hbm, ⟨12, _⟩ => ⟨S_, .f32⟩
  | .hbm, ⟨13, _⟩ => ⟨S128x8x1024, .f32⟩
  | .hbm, ⟨14, _⟩ => ⟨S128x8x1024, .f32⟩
  | .hbm, ⟨15, _⟩ => ⟨S_, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S1x1x1024, .f32⟩
  | .hbm, ⟨22, _⟩ => ⟨S128x8x1024, .f32⟩
  | .hbm, ⟨23, _⟩ => ⟨S128x8x1024, .f32⟩
  | .hbm, ⟨24, _⟩ => ⟨S128x8x1024, .f32⟩
  | .hbm, ⟨25, _⟩ => ⟨S128x8x1024, .f32⟩
  | .hbm, ⟨26, _⟩ => ⟨S_, .f32⟩
  | .hbm, ⟨27, _⟩ => ⟨S128x8x1024, .f32⟩
  | .hbm, ⟨28, _⟩ => ⟨S128x8x1024, .f32⟩
  | .hbm, ⟨29, _⟩ => ⟨S_, .f32⟩
  | .hbm, ⟨30, _⟩ => ⟨S128x8x1024, .f32⟩
  | .hbm, ⟨31, _⟩ => ⟨S128x8x1024, .f32⟩
  | .hbm, ⟨32, _⟩ => ⟨S128x8x1024, .f32⟩
  | .hbm, ⟨33, _⟩ => ⟨S128x8x8x128, .f32⟩
  | .hbm, ⟨34, _⟩ => ⟨S_, .f32⟩
  | .hbm, ⟨35, _⟩ => ⟨S128x8x1024, .f32⟩
  | .hbm, ⟨36, _⟩ => ⟨S128x8x1024, .f32⟩
  | .hbm, ⟨37, _⟩ => ⟨S128x8x8x128, .f32⟩
  | .hbm, ⟨38, _⟩ => ⟨S128x8x1024, .f32⟩
  | .hbm, ⟨39, _⟩ => ⟨S128x8x8x128, .f32⟩
  | .hbm, ⟨40, _⟩ => ⟨S128x8x8x128, .f32⟩
  | .hbm, ⟨41, _⟩ => ⟨S_, .i32⟩
  | .hbm, ⟨42, _⟩ => ⟨S_, .f32⟩
  | .hbm, ⟨43, _⟩ => ⟨S128x16x8x128, .f32⟩
  | .hbm, ⟨44, _⟩ => ⟨S128x8x16x128, .f32⟩
  | .hbm, ⟨45, _⟩ => ⟨S_, .i32⟩
  | .hbm, ⟨46, _⟩ => ⟨S_, .f32⟩
  | .hbm, ⟨47, _⟩ => ⟨S128x16x8x128, .f32⟩
  | .hbm, ⟨48, _⟩ => ⟨S128x8x16x128, .f32⟩
  | .hbm, ⟨49, _⟩ => ⟨S_, .i32⟩
  | .hbm, ⟨50, _⟩ => ⟨S_, .f32⟩
  | .hbm, ⟨51, _⟩ => ⟨S128x16x8x128, .f32⟩
  | .hbm, ⟨52, _⟩ => ⟨S128x8x16x128, .f32⟩
  | .hbm, ⟨53, _⟩ => ⟨S_, .i32⟩
  | .hbm, ⟨54, _⟩ => ⟨S_, .f32⟩
  | .hbm, ⟨55, _⟩ => ⟨S128x16x8x128, .f32⟩
  | .hbm, ⟨56, _⟩ => ⟨S128x8x16x128, .f32⟩
  | .hbm, ⟨57, _⟩ => ⟨S_, .f32⟩
  | .hbm, ⟨58, _⟩ => ⟨S_, .f32⟩
  | .hbm, ⟨59, _⟩ => ⟨S128x8x16x128, .f32⟩
  | .hbm, ⟨60, _⟩ => ⟨S128x8x1x128, .f32⟩
  | .hbm, ⟨61, _⟩ => ⟨S128x8x16x128, .f32⟩
  | .hbm, ⟨62, _⟩ => ⟨S128x8x16x128, .f32⟩
  | .hbm, ⟨63, _⟩ => ⟨S128x8x16x128, .f32⟩
  | .hbm, ⟨64, _⟩ => ⟨S128x8x16x128, .f32⟩
  | .hbm, ⟨65, _⟩ => ⟨S128x8x16x128, .f32⟩
  | .hbm, ⟨66, _⟩ => ⟨S128x8x16x128, .f32⟩
  | .hbm, ⟨67, _⟩ => ⟨S128x8x16x128, .f32⟩
  | .hbm, ⟨68, _⟩ => ⟨S128x8x16x128, .f32⟩
  | .hbm, ⟨69, _⟩ => ⟨S128x8x16x128, .f32⟩
  | .hbm, ⟨70, _⟩ => ⟨S128x8x128, .f32⟩
  | .hbm, ⟨71, _⟩ => ⟨S128x8x128, .f32⟩
  | .hbm, ⟨72, _⟩ => ⟨S_, .f32⟩
  | .hbm, ⟨73, _⟩ => ⟨S16x16, .f32⟩
  | .hbm, ⟨74, _⟩ => ⟨S16x16, .i32⟩
  | .hbm, ⟨75, _⟩ => ⟨S_, .i32⟩
  | .hbm, ⟨76, _⟩ => ⟨S16x16, .i32⟩
  | .hbm, ⟨77, _⟩ => ⟨S16x16, .i32⟩
  | .hbm, ⟨78, _⟩ => ⟨S16x16, .i32⟩
  | .hbm, ⟨79, _⟩ => ⟨S16x16, .i1⟩
  | .hbm, ⟨80, _⟩ => ⟨S_, .f32⟩
  | .hbm, ⟨81, _⟩ => ⟨S16x16, .f32⟩
  | .hbm, ⟨82, _⟩ => ⟨S16x16, .f32⟩
  | .hbm, ⟨83, _⟩ => ⟨S128x8x16x16, .f32⟩
  | .hbm, ⟨84, _⟩ => ⟨S1x1x16x16, .f32⟩
  | .hbm, ⟨85, _⟩ => ⟨S128x8x16x16, .f32⟩
  | .hbm, ⟨86, _⟩ => ⟨S128x8x16x16, .f32⟩
  | .hbm, ⟨87, _⟩ => ⟨S128x8x16x128, .f32⟩
  | .hbm, ⟨88, _⟩ => ⟨S128x8x16x128, .f32⟩
  | .hbm, ⟨89, _⟩ => ⟨S128x8x16x128, .f32⟩
  | .hbm, ⟨90, _⟩ => ⟨S128x8x128x1, .f32⟩
  | .hbm, ⟨91, _⟩ => ⟨S128x8x128x128, .f32⟩
  | .hbm, ⟨92, _⟩ => ⟨S128x8x128x128, .f32⟩
  | .hbm, ⟨93, _⟩ => ⟨S128x8x128x128, .f32⟩
  | .hbm, ⟨94, _⟩ => ⟨S128x8x128x128, .f32⟩
  | .hbm, ⟨95, _⟩ => ⟨S128x16x8x128, .f32⟩
  | .hbm, ⟨96, _⟩ => ⟨S128x8x8x128, .f32⟩
  | .hbm, ⟨97, _⟩ => ⟨S128x8x8x128, .f32⟩
  | .hbm, ⟨98, _⟩ => ⟨S_, .f32⟩
  | .hbm, ⟨99, _⟩ => ⟨S128x8x8, .f32⟩
  | .hbm, ⟨100, _⟩ => ⟨S128x8x8x1, .f32⟩
  | .hbm, ⟨101, _⟩ => ⟨S_, .f32⟩
  | .hbm, ⟨102, _⟩ => ⟨S128x8x8x1, .f32⟩
  | .hbm, ⟨103, _⟩ => ⟨S128x8x8x1, .f32⟩
  | .hbm, ⟨104, _⟩ => ⟨S_, .f32⟩
  | .hbm, ⟨105, _⟩ => ⟨S128x8x8x1, .f32⟩
  | .hbm, ⟨106, _⟩ => ⟨S128x8x8x1, .f32⟩
  | .hbm, ⟨107, _⟩ => ⟨S128x8x8x1, .f32⟩
  | .hbm, ⟨108, _⟩ => ⟨S128x8x8x128, .f32⟩
  | .hbm, ⟨109, _⟩ => ⟨S128x8x8x128, .f32⟩
  | .hbm, ⟨110, _⟩ => ⟨S1x1x1x128, .f32⟩
  | .hbm, ⟨111, _⟩ => ⟨S128x8x8x128, .f32⟩
  | .hbm, ⟨112, _⟩ => ⟨S128x8x8x128, .f32⟩
  | .hbm, ⟨113, _⟩ => ⟨S128x8x1024, .f32⟩
  | .hbm, ⟨114, _⟩ => ⟨S128x8x1024, .f32⟩
  | .hbm, ⟨115, _⟩ => ⟨S128x8x1024, .f32⟩
  | .hbm, ⟨116, _⟩ => ⟨S128x8x1024, .f32⟩
  | .hbm, ⟨117, _⟩ => ⟨S_, .f32⟩
  | .hbm, ⟨118, _⟩ => ⟨S128x8x1024, .f32⟩
  | .hbm, ⟨119, _⟩ => ⟨S128x8x1024, .f32⟩
  | .hbm, ⟨120, _⟩ => ⟨S_, .f32⟩
  | .hbm, ⟨121, _⟩ => ⟨S128x8x1024, .f32⟩
  | .hbm, ⟨122, _⟩ => ⟨S128x8x1024, .f32⟩
  | .hbm, ⟨123, _⟩ => ⟨S128x8x1024, .f32⟩
  | .hbm, ⟨124, _⟩ => ⟨S128x8x1024, .f32⟩
  | .hbm, ⟨125, _⟩ => ⟨S128x8x1024, .bf16⟩
  | _, _ => ⟨S128x8x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_call2_v0 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_call3_v0 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_call4_v0 : Ref sig .tc := ⟨.hbm, 54, rfl⟩
abbrev main_v31 : Ref sig .tc := ⟨.hbm, 55, rfl⟩
abbrev main_v32 : Ref sig .tc := ⟨.hbm, 56, rfl⟩
abbrev main_call5_call0_cst : Ref sig .tc := ⟨.hbm, 57, rfl⟩
abbrev main_call5_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_call6_v0 : Ref sig .tc := ⟨.hbm, 74, rfl⟩
abbrev main_call6_c : Ref sig .tc := ⟨.hbm, 75, rfl⟩
abbrev main_call6_v1 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_call6_cst : Ref sig .tc := ⟨.hbm, 80, rfl⟩
abbrev main_call6_v5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_cst_8 : Ref sig .tc := ⟨.hbm, 101, rfl⟩
abbrev main_v65 : Ref sig .tc := ⟨.hbm, 102, rfl⟩
abbrev main_v66 : Ref sig .tc := ⟨.hbm, 103, rfl⟩
abbrev main_cst_9 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call7_v0 : Ref sig .tc := ⟨.hbm, 115, rfl⟩
abbrev main_call7_v1 : Ref sig .tc := ⟨.hbm, 116, rfl⟩
abbrev main_call7_cst : Ref sig .tc := ⟨.hbm, 117, rfl⟩
abbrev main_call7_v2 : Ref sig .tc := ⟨.hbm, 118, rfl⟩
abbrev main_call7_v3 : Ref sig .tc := ⟨.hbm, 119, rfl⟩
abbrev main_call7_cst_0 : Ref sig .tc := ⟨.hbm, 120, rfl⟩
abbrev main_call7_v4 : Ref sig .tc := ⟨.hbm, 121, rfl⟩
abbrev main_call7_v5 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩

abbrev nD : Nat := 1
abbrev τ : Topo := Topo.v7x

variable {F : FTy → Type} [FloatOps F]
-- ==== Proof.HgrnSpec.lean ====
/- The HGRN2 recurrence of one chunk of rows, and of a whole sequence chunk by chunk, over the extended reals. -/
module

public import Idealize.ShloMosaic.Lib.Pointwise

@[expose] public section

set_option maxRecDepth 16384

noncomputable section

namespace Cert.HgrnSpec

open Idealize.ShloMosaic

/-- The forget gate with its lower bound `l`. -/
def gate (l f : EReal) : EReal := l + (1 - l) * Ideal.logistic f

/-- `x` times its sigmoid. -/
def swish (x : EReal) : EReal := x * Ideal.logistic x

section Chunk

variable (q f v : Fin 16 → Fin 128 → EReal) (l : Fin 128 → EReal) (S : Fin 128 → Fin 128 → EReal)

/-- The log decay of key `k` from the start of the chunk up to and with row `t`. -/
def decayTo (t : Fin 16) (k : Fin 128) : EReal := ∑ s : Fin 16, if s ≤ t then Ideal.log (gate (l k) (f s k)) else 0

/-- The query of a row, with the decay since the start of the chunk. -/
def queryAt (t : Fin 16) (k : Fin 128) : EReal := swish (q t k) * Ideal.exp (decayTo f l t k)

/-- The key of a row, with the decay since the start of the chunk taken back. -/
def keyAt (s : Fin 16) (k : Fin 128) : EReal := (1 - gate (l k) (f s k)) * Ideal.exp (-decayTo f l s k)

/-- The key of a row, with the decay from it to the end of the chunk. -/
def keyEnd (s : Fin 16) (k : Fin 128) : EReal :=
  (1 - gate (l k) (f s k)) * Ideal.exp (decayTo f l 15 k - decayTo f l s k)

/-- The causal score of row `t` for row `s`. -/
def score (t s : Fin 16) : EReal := if s ≤ t then ∑ k : Fin 128, queryAt q f l t k * keyAt f l s k else 0

/-- A row's mix: what the state at the start of the chunk gives, then what the chunk's own rows give. -/
def mixRow (t : Fin 16) (w : Fin 128) : EReal :=
  (∑ k : Fin 128, queryAt q f l t k * S k w) + ∑ s : Fin 16, score q f l t s * v s w

/-- The state at the end of the chunk. -/
def nextState (k w : Fin 128) : EReal :=
  S k w * Ideal.exp (decayTo f l 15 k) + ∑ s : Fin 16, keyEnd f l s k * v s w

end Chunk

section Whole

variable (z : Fin 4 → Fin 2064 → Fin 5120 → EReal) (s0 : Fin 4 → Fin 8 → Fin 128 → Fin 128 → EReal)
variable (lb : Fin 1024 → EReal) (nw : Fin 128 → EReal)

/-- The rows of chunk `j` of sequence `b`, head `h`, in the column group `g` of the activations. -/
def rowsOf (g : Nat) (b : Fin 4) (h : Fin 8) (j : Nat) (t : Fin 16) (k : Fin 128) : EReal :=
  z b ⟨(16 * j + t.val) % 2064, Nat.mod_lt _ (by decide)⟩ ⟨(1024 * g + 128 * h.val + k.val) % 5120, Nat.mod_lt _ (by decide)⟩

/-- The lower bounds of a head's keys. -/
def boundOf (h : Fin 8) (k : Fin 128) : EReal := lb ⟨128 * h.val + k.val, by omega⟩

/-- The state of sequence `b`, head `h` before chunk `j`. -/
def stateAt (b : Fin 4) (h : Fin 8) : Nat → Fin 128 → Fin 128 → EReal
  | 0 => s0 b h
  | j + 1 => nextState (rowsOf z 2 b h j) (rowsOf z 3 b h j) (boundOf lb h) (stateAt b h j)

/-- The mix of row `t` of chunk `j`. -/
def mixAt (b : Fin 4) (h : Fin 8) (j : Nat) (t : Fin 16) (w : Fin 128) : EReal :=
  mixRow (rowsOf z 1 b h j) (rowsOf z 2 b h j) (rowsOf z 3 b h j) (boundOf lb h) (stateAt z s0 lb b h j) t w

/-- The normalised, gated row: `o` over its root mean square, times the weight and the gate `g`. -/
def finish (o : Fin 128 → EReal) (n g : EReal) (w : Fin 128) : EReal :=
  o w * Ideal.rsqrt (Ideal.div (∑ k : Fin 128, o k * o k) (Ideal.ofBits .f32 0x43000000#32)
    + Ideal.ofBits .f32 0x358637BD#32) * n * swish g

/-- The result row. -/
def resultAt (b : Fin 4) (h : Fin 8) (j : Nat) (t : Fin 16) (w : Fin 128) : EReal :=
  finish (mixAt z s0 lb b h j t) (nw w) (rowsOf z 4 b h j t w) w

end Whole

end Cert.HgrnSpec

end
-- ==== Proof.HgrnUnits.lean ====
/- One chunk of the HGRN2 kernel, for the thirty-two pairs of a head and a sequence, read at an index. -/
module

public import proofs.«01_k».proof.Proof.Gen.HgrnIdeal.Skeleton
public import proofs.«01_k».proof.Proof.HgrnSpec
public import Idealize.ShloMosaic.Lib.Pipeline.ValueKit
public import Idealize.ShloMosaic.Lib.KernelVsHost

@[expose] public section

set_option maxRecDepth 16384

noncomputable section

namespace Cert.HgrnIdeal.Units

open Cert.HgrnIdeal Cert.HgrnIdeal.Gen Cert.HgrnSpec Idealize.ShloMosaic Idealize.ShloMosaic.TcCoe Idealize.SL.Sem

/-- A value added to the one `d` rows before it, where there is one. -/
def shiftAdd (d : Nat) (x : Fin 16 → EReal) (t : Fin 16) : EReal :=
  x t + if h : d ≤ t.val then x ⟨t.val - d, by omega⟩ else 0

/-- Four such additions, at distances 1, 2, 4 and 8, add up all rows up to `t`. -/
theorem shiftAdd_all (x : Fin 16 → EReal) (t : Fin 16) :
    shiftAdd 8 (shiftAdd 4 (shiftAdd 2 (shiftAdd 1 x))) t = ∑ s : Fin 16, if s ≤ t then x s else 0 := by
  fin_cases t <;>
  · simp [shiftAdd, Fin.sum_univ_succ, Fin.le_def]
    try abel

/-- The row number of each entry of a chunk. -/
def rowIx : IVec S32x16x128 32 := iota .tc S32x16x128 32 [1] iota_S32x16x128_d1_w32

theorem rowIx_eq (d : List (Fin S32x16x128.rank)) (h) (hd : d = [1]) : iota .tc S32x16x128 32 d h = rowIx := by
  subst hd
  rfl

/-- A choice by a condition's bit. -/
theorem select_ite (p : Prop) [Decidable p] (a b : EReal) :
    Scalar.select (if p then 1#1 else 0#1) a b = if p then a else b := by
  by_cases h : p <;> simp [h, Scalar.select]

/-- A rotation by `d` rows, kept from row `d` on, added to the rotated vector. -/
theorem rotate_apply (d : BitVec 32) (hd : d.toNat < 16) (x : FVec Ideal S32x16x128 .f32) (u : Fin 32) (t : Fin 16)
    (k : Fin 128) :
    addf x (select (cmpi .sge rowIx (broadcast S32x16x128 d)) (dynamicRotate 1 d none x rotates_S32x16x128_d1)
      (broadcast S32x16x128 (Scalar.ofBits (F := Ideal) .f32 0x00000000#32))) (ix3 u t k)
      = shiftAdd d.toNat (fun t => x (ix3 u t k)) t := by
  have key : IntOp.cmpi .sge (BitVec.ofNat 32 t.val) d = if d.toNat ≤ t.val then 1#1 else 0#1 := by
    obtain ⟨n, rfl⟩ : ∃ n : Fin 16, d = BitVec.ofNat 32 n.val := ⟨⟨d.toNat, hd⟩, by simp⟩
    revert n t
    decide
  have ht : t.val < 16 := t.isLt
  pointwise [rowIx]
  rw [key, select_ite]
  unfold shiftAdd
  by_cases h : d.toNat ≤ t.val
  · simp only [if_pos h, dif_pos h]
    exact congrArg (fun r => x (ix3 u t k) + x (ix3 u r k)) (Fin.ext (by
      show (t.val + 16 - (d.toNat + 0) % 16) % 16 = t.val - d.toNat
      omega))
  · simp only [if_neg h, dif_neg h]

/-- The units of a chunk: unit `u` is head `u / 4` of sequence `u % 4`. -/
theorem units_apply (x : Vec Ideal S4x16x1024 .f32) (i : S32x16x128.Idx) :
    k0_pay77 x i = x (ix3 ⟨(i 0).val % 4, Nat.mod_lt _ (by decide)⟩ (i 1)
      ⟨128 * ((i 0).val / 4) + (i 2).val, by have : (i 0).val < 32 := (i 0).isLt; have : (i 2).val < 128 := (i 2).isLt; omega⟩) := by
  have i0 : (i 0).val < 32 := (i 0).isLt
  have i2 : (i 2).val < 128 := (i 2).isLt
  pointwise [k0_pay77]
  split_ifs <;> exact congrArg x (congrArg₂ (fun a b => ix3 a (i 1) b) (Fin.ext (by dsimp only; omega)) (Fin.ext (by dsimp only; omega)))

/-- The lower bounds of the units' keys. -/
theorem bounds_apply (x : Vec Ideal S1x1024 .f32) (i : S32x1x128.Idx) :
    k0_pay72 x i = x (ix2 0
      ⟨128 * ((i 0).val / 4) + (i 2).val, by have : (i 0).val < 32 := (i 0).isLt; have : (i 2).val < 128 := (i 2).isLt; omega⟩) := by
  have i0 : (i 0).val < 32 := (i 0).isLt
  have i2 : (i 2).val < 128 := (i 2).isLt
  pointwise [k0_pay72]
  split_ifs <;> exact congrArg x (congrArg (fun a => ix2 0 a) (Fin.ext (by dsimp only; omega)))

variable (lb : FVec Ideal S32x1x128 .f32) (q f v g : FVec Ideal S32x16x128 .f32) (st : FVec Ideal S32x128x128 .f32)
variable (nw : FVec Ideal S1x1x128 .f32)

/-- The forget gates of a chunk. -/
theorem gate_apply (u : Fin 32) (t : Fin 16) (k : Fin 128) :
    k0_pay132 lb f (ix3 u t k) = gate (lb (ix3 u 0 k)) (f (ix3 u t k)) := by
  pointwise [k0_pay132]
  rfl

/-- The log decays since the start of the chunk, of every unit. -/
def cumV : FVec Ideal S32x16x128 .f32 := k0_pay138 rowIx (k0_pay135 lb f) k0_pay136 (k0_pay137 lb f)

/-- A chunk's mix, of every unit. -/
def mixV : FVec Ideal S32x16x128 .f32 :=
  k0_pay140 k0_pay76 st v (k0_pay133 q) (k0_pay134 lb f) rowIx (k0_pay135 lb f) k0_pay136 (k0_pay137 lb f)

/-- The states after a chunk. -/
def nextV : FVec Ideal S32x128x128 .f32 :=
  k0_pay141 st v (k0_pay134 lb f) rowIx (k0_pay135 lb f) k0_pay136 (k0_pay137 lb f)

/-- The chunk's normalised, gated rows. -/
def doneV : FVec Ideal S32x16x128 .bf16 :=
  k0_pay143 nw g (mixV lb q f v st)
    (k0_pay142 k0_pay76 st v (k0_pay133 q) (k0_pay134 lb f) rowIx (k0_pay135 lb f) k0_pay136 (k0_pay137 lb f))

theorem cum_apply (u : Fin 32) (t : Fin 16) (k : Fin 128) :
    cumV lb f (ix3 u t k) = decayTo (fun t k => f (ix3 u t k)) (fun k => lb (ix3 u 0 k)) t k := by
  unfold cumV k0_pay138 k0_pay137 k0_pay136 k0_pay135
  simp only [rowIx_eq _ _ rfl, rotate_apply _ (by decide : (1#32).toNat < 16), rotate_apply _ (by decide : (2#32).toNat < 16), rotate_apply _ (by decide : (4#32).toNat < 16), rotate_apply _ (by decide : (8#32).toNat < 16)]
  refine (shiftAdd_all _ t).trans ?_
  unfold decayTo
  refine Finset.sum_congr rfl fun s _ => ?_
  pointwise
  rw [gate_apply]

theorem cum_eq : k0_pay138 rowIx (k0_pay135 lb f) k0_pay136 (k0_pay137 lb f) = cumV lb f := rfl

theorem mix_apply (u : Fin 32) (t : Fin 16) (w : Fin 128) :
    mixV lb q f v st (ix3 u t w) = mixRow (fun t k => q (ix3 u t k)) (fun t k => f (ix3 u t k)) (fun t k => v (ix3 u t k))
      (fun k => lb (ix3 u 0 k)) (fun k w => st (ix3 u w k)) t w := by
  unfold mixV
  have key : ∀ s t : Fin 16, IntOp.cmpi .sle (BitVec.ofNat 32 s.val) (BitVec.ofNat 32 t.val) = if s ≤ t then 1#1 else 0#1 := by
    decide
  pointwise [k0_pay140, k0_pay76, k0_pay133, k0_pay134, k0_pay139]
  simp only [cum_eq, cum_apply, gate_apply, key, zero_sub]
  unfold mixRow score queryAt keyAt swish
  refine congrArg₂ (· + ·) rfl (Finset.sum_congr rfl fun s _ => ?_)
  rw [select_ite]
  by_cases h : s ≤ t
  · simp only [if_pos h]
  · simp only [if_neg h, zero_mul]

theorem next_apply (u : Fin 32) (w k : Fin 128) :
    nextV lb f v st (ix3 u w k) = nextState (fun t k => f (ix3 u t k)) (fun t k => v (ix3 u t k))
      (fun k => lb (ix3 u 0 k)) (fun k w => st (ix3 u w k)) k w := by
  unfold nextV
  pointwise [k0_pay141, k0_pay134, k0_pay139]
  simp only [cum_eq, cum_apply, gate_apply]
  unfold nextState keyEnd
  exact congrArg₂ (· + ·) rfl (Finset.sum_congr rfl fun s _ => mul_comm _ _)

theorem done_apply (u : Fin 32) (t : Fin 16) (w : Fin 128) :
    doneV lb q f v g st nw (ix3 u t w) = finish (fun w => mixV lb q f v st (ix3 u t w)) (nw (ix3 0 0 w)) (g (ix3 u t w)) w := by
  unfold doneV
  pointwise [k0_pay143, k0_pay142]
  rfl

/-! The kernel's three chunks of a point name their vectors differently; they are the same functions of their rows. -/

section Same

variable (xq xf xv xg : Vec Ideal S4x16x1024 .f32)

theorem next1 : k0_pay94 st (k0_pay83 xv) (k0_pay87 lb xf (k0_pay78 xf) (k0_pay79 xf) (k0_pay80 xf) (k0_pay81 xf) (k0_pay82 xf))
    rowIx (k0_pay88 lb xf (k0_pay78 xf) (k0_pay79 xf) (k0_pay80 xf) (k0_pay81 xf) (k0_pay82 xf)) k0_pay89
    (k0_pay90 lb xf (k0_pay78 xf) (k0_pay79 xf) (k0_pay80 xf) (k0_pay81 xf) (k0_pay82 xf)) (FloatOps.ofBits (F := Ideal) .f32 0x00000000#32)
    = nextV lb (k0_pay77 xf) (k0_pay77 xv) st := rfl

theorem next2 : k0_pay118 st (k0_pay106 xv) (k0_pay111 lb (k0_pay108 lb) (k0_pay109 xf)) (k0_pay113 lb (k0_pay108 lb) (k0_pay109 xf)) (k0_pay116 lb (k0_pay108 lb) (k0_pay109 xf))
    = nextV lb (k0_pay77 xf) (k0_pay77 xv) st := rfl

theorem next3 : k0_pay141 st (k0_pay130 xv) (k0_pay134 lb (k0_pay129 xf))
    rowIx (k0_pay135 lb (k0_pay129 xf)) k0_pay136 (k0_pay137 lb (k0_pay129 xf))
    = nextV lb (k0_pay77 xf) (k0_pay77 xv) st := rfl

theorem done1 : k0_pay96 nw (k0_pay84 xg) (k0_pay93 k0_pay76 st (k0_pay83 xv) (k0_pay86 (k0_pay77 xq)) (k0_pay87 lb xf (k0_pay78 xf) (k0_pay79 xf) (k0_pay80 xf) (k0_pay81 xf) (k0_pay82 xf))
    rowIx (k0_pay88 lb xf (k0_pay78 xf) (k0_pay79 xf) (k0_pay80 xf) (k0_pay81 xf) (k0_pay82 xf)) k0_pay89
    (k0_pay90 lb xf (k0_pay78 xf) (k0_pay79 xf) (k0_pay80 xf) (k0_pay81 xf) (k0_pay82 xf)) (FloatOps.ofBits (F := Ideal) .f32 0x00000000#32))
    (k0_pay95 k0_pay76 st (k0_pay83 xv) (k0_pay86 (k0_pay77 xq)) (k0_pay87 lb xf (k0_pay78 xf) (k0_pay79 xf) (k0_pay80 xf) (k0_pay81 xf) (k0_pay82 xf))
    rowIx (k0_pay88 lb xf (k0_pay78 xf) (k0_pay79 xf) (k0_pay80 xf) (k0_pay81 xf) (k0_pay82 xf)) k0_pay89
    (k0_pay90 lb xf (k0_pay78 xf) (k0_pay79 xf) (k0_pay80 xf) (k0_pay81 xf) (k0_pay82 xf)) (FloatOps.ofBits (F := Ideal) .f32 0x00000000#32))
    = doneV lb (k0_pay77 xq) (k0_pay77 xf) (k0_pay77 xv) (k0_pay77 xg) st nw := rfl

theorem done2 : k0_pay119 nw k0_pay76 st (k0_pay106 xv) (k0_pay107 xg) (k0_pay114 lb (k0_pay105 xq) (k0_pay108 lb) (k0_pay109 xf))
    (k0_pay115 lb (k0_pay108 lb) (k0_pay109 xf))
    = doneV lb (k0_pay77 xq) (k0_pay77 xf) (k0_pay77 xv) (k0_pay77 xg) st nw := rfl

theorem done3 : k0_pay143 nw (k0_pay131 xg) (k0_pay140 k0_pay76 st (k0_pay130 xv) (k0_pay133 (k0_pay128 xq)) (k0_pay134 lb (k0_pay129 xf))
    rowIx (k0_pay135 lb (k0_pay129 xf)) k0_pay136 (k0_pay137 lb (k0_pay129 xf)))
    (k0_pay142 k0_pay76 st (k0_pay130 xv) (k0_pay133 (k0_pay128 xq)) (k0_pay134 lb (k0_pay129 xf))
    rowIx (k0_pay135 lb (k0_pay129 xf)) k0_pay136 (k0_pay137 lb (k0_pay129 xf)))
    = doneV lb (k0_pay77 xq) (k0_pay77 xf) (k0_pay77 xv) (k0_pay77 xg) st nw := rfl

end Same

end Cert.HgrnIdeal.Units

end
-- ==== Proof.HgrnPoint.lean ====
/- What one grid point of the HGRN2 kernel stores, as functions of its blocks. -/
module

public import proofs.«01_k».proof.Proof.HgrnUnits
public import Idealize.ShloMosaic.Lib.Pipeline.ValueKit
public import Idealize.ShloMosaic.Lib.Pointwise

@[expose] public section

set_option maxRecDepth 16384

noncomputable section

namespace Cert.HgrnIdeal.Units

open Cert.HgrnIdeal Cert.HgrnIdeal.Gen Cert.HgrnSpec Idealize.ShloMosaic Idealize.ShloMosaic.TcCoe Idealize.SL.Sem
open Idealize.ShloMosaic.Pipeline (Dat)

/-- The first sixteen rows of a block. -/
abbrev rows0 (x : Vec Ideal S4x48x1024 .f32) : Vec Ideal S4x16x1024 .f32 :=
  View.ld x (Rect.unit ![0, 0, 0] ![4, 16, 1024] inb_S4x48x1024_S4x16x1024_0_0_0)

/-- The next sixteen. -/
abbrev rows1 (x : Vec Ideal S4x48x1024 .f32) : Vec Ideal S4x16x1024 .f32 :=
  View.ld x (Rect.unit ![0, 16, 0] ![4, 16, 1024] inb_S4x48x1024_S4x16x1024_0_16_0)

/-- The last sixteen. -/
abbrev rows2 (x : Vec Ideal S4x48x1024 .f32) : Vec Ideal S4x16x1024 .f32 :=
  View.ld x (Rect.unit ![0, 32, 0] ![4, 16, 1024] inb_S4x48x1024_S4x16x1024_0_32_0)

section Point

variable (xq xf xv xg : Vec Ideal S4x48x1024 .f32) (lb : Vec Ideal S1x1024 .f32) (nw : Vec Ideal S1x128 .f32)
variable (st : FVec Ideal S32x128x128 .f32)

/-- The states after a point's first chunk. -/
def state1 : FVec Ideal S32x128x128 .f32 := nextV (k0_pay72 lb) (k0_pay77 (rows0 xf)) (k0_pay77 (rows0 xv)) st

/-- After its second. -/
def state2 : FVec Ideal S32x128x128 .f32 :=
  nextV (k0_pay72 lb) (k0_pay77 (rows1 xf)) (k0_pay77 (rows1 xv)) (state1 xf xv lb st)

/-- After its third. -/
def state3 : FVec Ideal S32x128x128 .f32 :=
  nextV (k0_pay72 lb) (k0_pay77 (rows2 xf)) (k0_pay77 (rows2 xv)) (state2 xf xv lb st)

/-- The finished rows of a point's first chunk. -/
def rowsDone0 : FVec Ideal S32x16x128 .bf16 :=
  doneV (k0_pay72 lb) (k0_pay77 (rows0 xq)) (k0_pay77 (rows0 xf)) (k0_pay77 (rows0 xv)) (k0_pay77 (rows0 xg)) st (k0_pay73 nw)

/-- Of its second. -/
def rowsDone1 : FVec Ideal S32x16x128 .bf16 :=
  doneV (k0_pay72 lb) (k0_pay77 (rows1 xq)) (k0_pay77 (rows1 xf)) (k0_pay77 (rows1 xv)) (k0_pay77 (rows1 xg))
    (state1 xf xv lb st) (k0_pay73 nw)

/-- Of its third. -/
def rowsDone2 : FVec Ideal S32x16x128 .bf16 :=
  doneV (k0_pay72 lb) (k0_pay77 (rows2 xq)) (k0_pay77 (rows2 xf)) (k0_pay77 (rows2 xv)) (k0_pay77 (rows2 xg))
    (state2 xf xv lb st) (k0_pay73 nw)

end Point

/-- The heads, in the order their stores come to be listed. -/
abbrev heads : List (Fin 8) := [7, 6, 5, 4, 3, 2, 1, 0]

/-- The pairs of a head and a sequence, in that order. -/
abbrev units : List (Fin 32) := [31, 30, 29, 28, 27, 26, 25, 24, 23, 22, 21, 20, 19, 18, 17, 16, 15, 14, 13, 12, 11, 10, 9, 8,
  7, 6, 5, 4, 3, 2, 1, 0]

/-- The store of a head's rows of one chunk. -/
def headPiece (D : FVec Ideal S32x16x128 .bf16) (r : Fin 3) (h : Fin 8) : View.Piece (Elt Ideal) S4x48x1024 .bf16 :=
  ⟨Rect.unit ![0, 16 * r.val, 128 * h.val] ![4, 16, 128] (by revert r h; decide),
    extractStridedSlice S4x16x128 ![4 * h.val, 0, 0] D (by revert h; decide)⟩

/-- The stores of a point's three chunks. -/
def pointPieces (D0 D1 D2 : FVec Ideal S32x16x128 .bf16) : List (View.Piece (Elt Ideal) S4x48x1024 .bf16) :=
  heads.map (headPiece D2 2) ++ (heads.map (headPiece D1 1) ++ heads.map (headPiece D0 0))

/-- The chunk of a row. -/
def byChunk (D0 D1 D2 : FVec Ideal S32x16x128 .bf16) (c : Nat) : FVec Ideal S32x16x128 .bf16 :=
  if c = 0 then D0 else if c = 1 then D1 else D2

/-- What a point writes. -/
def pointOut (D0 D1 D2 : FVec Ideal S32x16x128 .bf16) : S4x48x1024.Idx → EReal := fun y =>
  byChunk D0 D1 D2 ((y 1).val / 16) (ix3 ⟨4 * ((y 2).val / 128) + (y 0).val, by
    have : (y 0).val < 4 := (y 0).isLt; have : (y 2).val < 1024 := (y 2).isLt; omega⟩
    ⟨(y 1).val % 16, Nat.mod_lt _ (by decide)⟩ ⟨(y 2).val % 128, Nat.mod_lt _ (by decide)⟩)

theorem head_agree (D0 D1 D2 D : FVec Ideal S32x16x128 .bf16) (r : Fin 3) (h : Fin 8) (hD : byChunk D0 D1 D2 r.val = D)
    (z : (headPiece D r h).1.shape.Idx) : (headPiece D r h).2 z = pointOut D0 D1 D2 ((headPiece D r h).1.emb z) := by
  have z0 : (z 0).val < 4 := (z 0).isLt
  have z1 : (z 1).val < 16 := (z 1).isLt
  have z2 : (z 2).val < 128 := (z 2).isLt
  have e0 : ((headPiece D r h).1.emb z 0).val = 0 + 1 * (z 0).val := rfl
  have e1 : ((headPiece D r h).1.emb z 1).val = 16 * r.val + 1 * (z 1).val := rfl
  have e2 : ((headPiece D r h).1.emb z 2).val = 128 * h.val + 1 * (z 2).val := rfl
  unfold pointOut
  rw [show ((headPiece D r h).1.emb z 1).val / 16 = r.val by omega, hD]
  show D _ = D _
  refine congrArg D (funext fun a => ?_)
  fin_cases a
  · exact Fin.ext (by
      show 4 * h.val + (z 0).val = 4 * (((headPiece D r h).1.emb z 2).val / 128) + ((headPiece D r h).1.emb z 0).val
      omega)
  · exact Fin.ext (by show 0 + (z 1).val = ((headPiece D r h).1.emb z 1).val % 16; omega)
  · exact Fin.ext (by show 0 + (z 2).val = ((headPiece D r h).1.emb z 2).val % 128; omega)

theorem point_canon (D0 D1 D2 : FVec Ideal S32x16x128 .bf16) (y : S4x48x1024.Idx) :
    View.canon (pointPieces D0 D1 D2) y = pointOut D0 D1 D2 y := by
  have y0 : (y 0).val < 4 := (y 0).isLt
  have y1 : (y 1).val < 48 := (y 1).isLt
  have y2 : (y 2).val < 1024 := (y 2).isLt
  have hm : ∀ h : Fin 8, h ∈ heads := by decide
  refine View.canon_apply_of_pieces (Val := Elt Ideal) (e := .bf16) (pointOut D0 D1 D2) _ ?_ y ?_
  · intro p hp
    unfold pointPieces at hp
    rcases List.mem_append.1 hp with hp | hp
    · obtain ⟨h, _, rfl⟩ := List.mem_map.1 hp
      exact head_agree D0 D1 D2 D2 2 h rfl
    rcases List.mem_append.1 hp with hp | hp
    · obtain ⟨h, _, rfl⟩ := List.mem_map.1 hp
      exact head_agree D0 D1 D2 D1 1 h rfl
    · obtain ⟨h, _, rfl⟩ := List.mem_map.1 hp
      exact head_agree D0 D1 D2 D0 0 h rfl
  · have hin : ∀ (D : FVec Ideal S32x16x128 .bf16) (r : Fin 3), r.val = (y 1).val / 16 →
        y ∈ (headPiece D r ⟨(y 2).val / 128, by omega⟩).1.set := by
      intro D r hr
      unfold headPiece
      rw [Rect.mem_set_unit]
      simp only [Fin.forall_fin_succ, Fin.forall_fin_zero]
      simp
      omega
    have h3 : (y 1).val / 16 = 0 ∨ (y 1).val / 16 = 1 ∨ (y 1).val / 16 = 2 := by omega
    unfold pointPieces
    rcases h3 with h | h | h
    · exact ⟨_, List.mem_append_right _ (List.mem_append_right _ (List.mem_map_of_mem (hm _))), hin D0 0 h.symm⟩
    · exact ⟨_, List.mem_append_right _ (List.mem_append_left _ (List.mem_map_of_mem (hm _))), hin D1 1 h.symm⟩
    · exact ⟨_, List.mem_append_left _ (List.mem_map_of_mem (hm _)), hin D2 2 h.symm⟩

/-- A pair's first state, transposed. -/
def startVec (s : Vec Ideal S4x8x128x128 .f32) (u : Fin 32) : FVec Ideal S1x128x128 .f32 :=
  k0_pay7 (View.ld s (Rect.unit ![u.val % 4, u.val / 4, 0, 0] ![1, 1, 128, 128] (by revert u; decide)))

theorem startVec_apply (s : Vec Ideal S4x8x128x128 .f32) (u : Fin 32) (z : S1x128x128.Idx) :
    startVec s u z = s (ix4 ⟨u.val % 4, by omega⟩ ⟨u.val / 4, by omega⟩ (z 2) (z 1)) := by
  pointwise [startVec, k0_pay7]

/-- Its store. -/
def startPiece (s : Vec Ideal S4x8x128x128 .f32) (u : Fin 32) : View.Piece (Elt Ideal) S32x128x128 .f32 :=
  ⟨Rect.unit ![u.val, 0, 0] ![1, 128, 128] (by revert u; decide), startVec s u⟩

/-- The first states, transposed. -/
def startOf (s : Vec Ideal S4x8x128x128 .f32) : FVec Ideal S32x128x128 .f32 := fun i =>
  s (ix4 ⟨(i 0).val % 4, Nat.mod_lt _ (by decide)⟩ ⟨(i 0).val / 4, by have : (i 0).val < 32 := (i 0).isLt; omega⟩ (i 2) (i 1))

theorem start_canon (s : Vec Ideal S4x8x128x128 .f32) (y : S32x128x128.Idx) :
    View.canon (units.map (startPiece s)) y = startOf s y := by
  have y0 : (y 0).val < 32 := (y 0).isLt
  have y1 : (y 1).val < 128 := (y 1).isLt
  have y2 : (y 2).val < 128 := (y 2).isLt
  have hm : ∀ u : Fin 32, u ∈ units := by decide
  refine View.canon_apply_of_pieces (Val := Elt Ideal) (e := .f32) (startOf s) _ ?_ y ?_
  · intro p hp z
    obtain ⟨u, _, rfl⟩ := List.mem_map.1 hp
    have z0 : (z 0).val < 1 := (z 0).isLt
    have e0 : ((startPiece s u).1.emb z 0).val = u.val + 1 * (z 0).val := rfl
    have e1 : ((startPiece s u).1.emb z 1).val = 0 + 1 * (z 1).val := rfl
    have e2 : ((startPiece s u).1.emb z 2).val = 0 + 1 * (z 2).val := rfl
    refine (startVec_apply s u z).trans ?_
    unfold startOf
    refine congrArg s (funext fun a => ?_)
    fin_cases a
    · exact Fin.ext (by show u.val % 4 = ((startPiece s u).1.emb z 0).val % 4; omega)
    · exact Fin.ext (by show u.val / 4 = ((startPiece s u).1.emb z 0).val / 4; omega)
    · exact Fin.ext (by show (z 2).val = ((startPiece s u).1.emb z 2).val; omega)
    · exact Fin.ext (by show (z 1).val = ((startPiece s u).1.emb z 1).val; omega)
  · refine ⟨_, List.mem_map_of_mem (hm (y 0)), ?_⟩
    unfold startPiece
    rw [Rect.mem_set_unit]
    simp only [Fin.forall_fin_succ, Fin.forall_fin_zero]
    simp
    omega

/-- A pair's last state, transposed back. -/
def lastVec (st : FVec Ideal S32x128x128 .f32) (u : Fin 32) : FVec Ideal S1x1x128x128 .f32 :=
  shapeCast S1x1x128x128 (transpose S128x128 [1, 0] (shapeCast S128x128
      (extractStridedSlice S1x128x128 ![u.val, 0, 0] st (by revert u; decide)) shapeCasts_S1x128x128_S128x128)
      transposes_S128x128_p1_0_S128x128) shapeCasts_S128x128_S1x1x128x128

theorem lastVec_apply (st : FVec Ideal S32x128x128 .f32) (u : Fin 32) (z : S1x1x128x128.Idx) :
    lastVec st u z = st (ix3 u (z 3) (z 2)) := by
  pointwise [lastVec]

/-- Its store. -/
def lastPiece (st : FVec Ideal S32x128x128 .f32) (u : Fin 32) : View.Piece (Elt Ideal) S4x8x128x128 .f32 :=
  ⟨Rect.unit ![u.val % 4, u.val / 4, 0, 0] ![1, 1, 128, 128] (by revert u; decide), lastVec st u⟩

/-- The last states, transposed back. -/
def lastOf (st : FVec Ideal S32x128x128 .f32) : S4x8x128x128.Idx → EReal := fun i =>
  st (ix3 ⟨4 * (i 1).val + (i 0).val, by have : (i 0).val < 4 := (i 0).isLt; have : (i 1).val < 8 := (i 1).isLt; omega⟩ (i 3) (i 2))

theorem last_canon (st : FVec Ideal S32x128x128 .f32) (y : S4x8x128x128.Idx) :
    View.canon (units.map (lastPiece st)) y = lastOf st y := by
  have y0 : (y 0).val < 4 := (y 0).isLt
  have y1 : (y 1).val < 8 := (y 1).isLt
  have y2 : (y 2).val < 128 := (y 2).isLt
  have y3 : (y 3).val < 128 := (y 3).isLt
  have hm : ∀ u : Fin 32, u ∈ units := by decide
  refine View.canon_apply_of_pieces (Val := Elt Ideal) (e := .f32) (lastOf st) _ ?_ y ?_
  · intro p hp z
    obtain ⟨u, _, rfl⟩ := List.mem_map.1 hp
    have z0 : (z 0).val < 1 := (z 0).isLt
    have z1 : (z 1).val < 1 := (z 1).isLt
    have e0 : ((lastPiece st u).1.emb z 0).val = u.val % 4 + 1 * (z 0).val := rfl
    have e1 : ((lastPiece st u).1.emb z 1).val = u.val / 4 + 1 * (z 1).val := rfl
    have e2 : ((lastPiece st u).1.emb z 2).val = 0 + 1 * (z 2).val := rfl
    have e3 : ((lastPiece st u).1.emb z 3).val = 0 + 1 * (z 3).val := rfl
    refine (lastVec_apply st u z).trans ?_
    unfold lastOf
    refine congrArg st (funext fun a => ?_)
    fin_cases a
    · exact Fin.ext (by
        show u.val = 4 * ((lastPiece st u).1.emb z 1).val + ((lastPiece st u).1.emb z 0).val
        omega)
    · exact Fin.ext (by show (z 3).val = ((lastPiece st u).1.emb z 3).val; omega)
    · exact Fin.ext (by show (z 2).val = ((lastPiece st u).1.emb z 2).val; omega)
  · refine ⟨_, List.mem_map_of_mem (hm ⟨4 * (y 1).val + (y 0).val, by omega⟩), ?_⟩
    unfold lastPiece
    rw [Rect.mem_set_unit]
    simp only [Fin.forall_fin_succ, Fin.forall_fin_zero]
    simp
    omega

end Cert.HgrnIdeal.Units

end
-- ==== Proof.HgrnValue.lean ====
/- The HGRN2 kernel: what its grid leaves in its two result arrays, at every index. -/
module

public import proofs.«01_k».proof.Proof.Gen.HgrnIdeal.Value
public import proofs.«01_k».proof.Proof.HgrnPoint
public import Idealize.ShloMosaic.Lib.Pipeline.ValueKit
public import Idealize.ShloMosaic.Lib.Pointwise

@[expose] public section

set_option maxRecDepth 16384

noncomputable section

namespace Cert.HgrnIdeal.Chunks

open Cert.HgrnIdeal Cert.HgrnIdeal.Gen Cert.HgrnIdeal.Units Cert.HgrnSpec Idealize.ShloMosaic Idealize.ShloMosaic.TcCoe Idealize.SL.Sem
open Idealize.ShloMosaic.Pipeline (Dat)

variable (m : (ℓ : Loc nD τ sig) → Buf (Elt Ideal) ℓ)

/-- The kept scratch reads back what it was given. -/
theorem scratch_read (h : scM0_0.IsWhole) (X : Vec Ideal S32x128x128 .f32) :
    View.read (Elt Ideal) (View.whole cc0_scratch0) (h.unread X) = X := h.read_unread X

/-- The stores of the first states, read back whole. -/
theorem start_read (s : Vec Ideal S4x8x128x128 .f32) :
    (View.whole cc0_scratch0).readCov (units.map (startPiece s))
      (Rect.unit ![0, 0, 0] ![32, 128, 128] inb_S32x128x128_S32x128x128_0_0_0).toLoadRect = startOf s := by
  rw [View.readCov_eq_canon']
  funext i
  refine (start_canon s _).trans (congrArg (startOf s) (funext fun a => ?_))
  fin_cases a <;> exact Fin.ext (by show 0 + 1 * _ = _; omega)

/-- The states a point starts from. -/
def before (c : Dev nD) (t : Fin cfg0.N) : FVec Ideal S32x128x128 .f32 :=
  if t.val % 43 = 0 then startOf (iblk m c 4 t)
  else (outsAt0 m c (t.val - 1) (Nat.lt_of_le_of_lt (Nat.sub_le _ _) t.isLt)).2.2

theorem pay1_self (X : FVec Ideal S32x128x128 .f32) : k0_pay1 X = X := by
  funext i
  pointwise [k0_pay1]

/-- The states after it. -/
theorem state_after (c : Dev nD) (t : Fin cfg0.N) :
    (outsAt0 m c t.val t.isLt).2.2 = state3 (iblk m c 1 t) (iblk m c 2 t) (iblk m c 5 t) (before m c t) := by
  unfold state3 state2 state1
  by_cases h0 : t.val % 43 = 0
  · have h1 : ¬ t.val % 43 = 42 := by omega
    rw [outsAt0_A m c t h0 h1, before, if_pos h0]
    frame_out
    simp only [rowIx_eq _ _ rfl, next1, next2, next3, pay1_self]
    rw [← start_read]
    rfl
  · by_cases h1 : t.val % 43 = 42
    · rw [outsAt0_C m c t h0 h1, before, if_neg h0]
      frame_out
      simp only [scratch_read]
      simp only [rowIx_eq _ _ rfl, next1, next2, next3, pay1_self]
    · rw [outsAt0_B m c t h0 h1, before, if_neg h0]
      frame_out
      simp only [scratch_read]
      simp only [rowIx_eq _ _ rfl, next1, next2, next3, pay1_self]

/-- The rows it writes. -/
theorem rows_after (c : Dev nD) (t : Fin cfg0.N) (y : S4x48x1024.Idx) :
    (outsAt0 m c t.val t.isLt).1 y = pointOut (rowsDone0 (iblk m c 0 t) (iblk m c 1 t) (iblk m c 2 t) (iblk m c 3 t) (iblk m c 5 t) (iblk m c 6 t) (before m c t)) (rowsDone1 (iblk m c 0 t) (iblk m c 1 t) (iblk m c 2 t) (iblk m c 3 t) (iblk m c 5 t) (iblk m c 6 t) (before m c t)) (rowsDone2 (iblk m c 0 t) (iblk m c 1 t) (iblk m c 2 t) (iblk m c 3 t) (iblk m c 5 t) (iblk m c 6 t) (before m c t)) y := by
  rw [← point_canon]
  by_cases h0 : t.val % 43 = 0
  · have h1 : ¬ t.val % 43 = 42 := by omega
    rw [outsAt0_A m c t h0 h1, before, if_pos h0]
    frame_out
    simp only [rowIx_eq _ _ rfl, next1, next2, next3, k0_pay97, k0_pay98, k0_pay99, k0_pay100, k0_pay101, k0_pay102, k0_pay103, k0_pay104, k0_pay120, k0_pay121, k0_pay122, k0_pay123, k0_pay124, k0_pay125, k0_pay126, k0_pay127, k0_pay144, k0_pay145, k0_pay146, k0_pay147, k0_pay148, k0_pay149, k0_pay150, k0_pay151, done1, done2, done3]
    rw [← start_read]
    rfl
  · by_cases h1 : t.val % 43 = 42
    · rw [outsAt0_C m c t h0 h1, before, if_neg h0]
      frame_out
      simp only [scratch_read]
      simp only [rowIx_eq _ _ rfl, next1, next2, next3, k0_pay97, k0_pay98, k0_pay99, k0_pay100, k0_pay101, k0_pay102, k0_pay103, k0_pay104, k0_pay120, k0_pay121, k0_pay122, k0_pay123, k0_pay124, k0_pay125, k0_pay126, k0_pay127, k0_pay144, k0_pay145, k0_pay146, k0_pay147, k0_pay148, k0_pay149, k0_pay150, k0_pay151, done1, done2, done3]
      rfl
    · rw [outsAt0_B m c t h0 h1, before, if_neg h0]
      frame_out
      simp only [scratch_read]
      simp only [rowIx_eq _ _ rfl, next1, next2, next3, k0_pay97, k0_pay98, k0_pay99, k0_pay100, k0_pay101, k0_pay102, k0_pay103, k0_pay104, k0_pay120, k0_pay121, k0_pay122, k0_pay123, k0_pay124, k0_pay125, k0_pay126, k0_pay127, k0_pay144, k0_pay145, k0_pay146, k0_pay147, k0_pay148, k0_pay149, k0_pay150, k0_pay151, done1, done2, done3]
      rfl

/-- The last states it writes. -/
theorem last_after (c : Dev nD) (t : Fin cfg0.N) (h1 : t.val % 43 = 42) (y : S4x8x128x128.Idx) :
    (outsAt0 m c t.val t.isLt).2.1 y
      = lastOf (state3 (iblk m c 1 t) (iblk m c 2 t) (iblk m c 5 t) (before m c t)) y := by
  rw [← last_canon]
  have h0 : ¬ t.val % 43 = 0 := by omega
  rw [outsAt0_C m c t h0 h1, before, if_neg h0]
  frame_out
  simp only [scratch_read]
  simp only [rowIx_eq _ _ rfl, next1, next2, next3]
  rfl
/-! ## The results as functions of the whole arrays -/

/-- The sequence of a pair. -/
def seqOf (u : Fin 32) : Fin 4 := ⟨u.val % 4, Nat.mod_lt _ (by decide)⟩

/-- The head of a pair. -/
def headOf (u : Fin 32) : Fin 8 := ⟨u.val / 4, by omega⟩

section Chunk

variable (z : Fin 4 → Fin 2064 → Fin 5120 → EReal) (s0 : Fin 4 → Fin 8 → Fin 128 → Fin 128 → EReal)
variable (lb : Fin 1024 → EReal) (nw : Fin 128 → EReal) (j : Nat)
variable (L : FVec Ideal S32x1x128 .f32) (Q F X G : FVec Ideal S32x16x128 .f32) (st : FVec Ideal S32x128x128 .f32)
variable (W : FVec Ideal S1x1x128 .f32)

/-- A chunk's vectors hold the chunk's rows. -/
structure Reads : Prop where
  bound : ∀ u k, L (ix3 u 0 k) = boundOf lb (headOf u) k
  forget : ∀ u t k, F (ix3 u t k) = rowsOf z 2 (seqOf u) (headOf u) j t k
  input : ∀ u t k, X (ix3 u t k) = rowsOf z 3 (seqOf u) (headOf u) j t k
  state : ∀ u w k, st (ix3 u w k) = stateAt z s0 lb (seqOf u) (headOf u) j k w

/-- Then the next states are those before the next chunk. -/
theorem next_chunk (h : Reads z s0 lb j L F X st) (u : Fin 32) (w k : Fin 128) :
    nextV L F X st (ix3 u w k) = stateAt z s0 lb (seqOf u) (headOf u) (j + 1) k w := by
  rw [next_apply]
  simp only [h.bound, h.forget, h.input, h.state]
  rfl

/-- And the finished rows are the result's. -/
theorem done_chunk (h : Reads z s0 lb j L F X st) (hq : ∀ u t k, Q (ix3 u t k) = rowsOf z 1 (seqOf u) (headOf u) j t k)
    (hg : ∀ u t k, G (ix3 u t k) = rowsOf z 4 (seqOf u) (headOf u) j t k) (hw : ∀ k, W (ix3 0 0 k) = nw k)
    (u : Fin 32) (t : Fin 16) (w : Fin 128) :
    doneV L Q F X G st W (ix3 u t w) = resultAt z s0 lb nw (seqOf u) (headOf u) j t w := by
  rw [done_apply]
  simp only [mix_apply, h.bound, h.forget, h.input, h.state, hq, hg, hw]
  rfl

end Chunk

section Rows

variable (z : Fin 4 → Fin 2064 → Fin 5120 → EReal) (x : Vec Ideal S4x48x1024 .f32) (g n : Nat) (hg : g < 5) (hn : n < 43)
include hg hn

theorem rows0_at (hx : ∀ b (r : Fin 48) (k : Fin 1024), x (ix3 b r k) = z b ⟨48 * n + r.val, by omega⟩ ⟨1024 * g + k.val, by omega⟩)
    (u : Fin 32) (t : Fin 16) (k : Fin 128) :
    k0_pay77 (rows0 x) (ix3 u t k) = rowsOf z g (seqOf u) (headOf u) (3 * n + 0) t k := by
  rw [units_apply]
  have e : ∀ (b : Fin 4) (q : Fin 1024), rows0 x (ix3 b t q) = x (ix3 b ⟨0 + t.val, by omega⟩ q) := by
    intro b q
    refine congrArg x (funext fun a => ?_)
    fin_cases a <;> exact Fin.ext (by show _ + 1 * _ = _; dsimp; omega)
  refine (e _ _).trans ((hx _ _ _).trans ?_)
  unfold rowsOf
  refine congrArg₂ (z _) (Fin.ext ?_) (Fin.ext ?_)
  · show 48 * n + (0 + t.val) = (16 * (3 * n + 0) + t.val) % 2064
    omega
  · show 1024 * g + (128 * (u.val / 4) + k.val) = (1024 * g + 128 * (u.val / 4) + k.val) % 5120
    omega

theorem rows1_at (hx : ∀ b (r : Fin 48) (k : Fin 1024), x (ix3 b r k) = z b ⟨48 * n + r.val, by omega⟩ ⟨1024 * g + k.val, by omega⟩)
    (u : Fin 32) (t : Fin 16) (k : Fin 128) :
    k0_pay77 (rows1 x) (ix3 u t k) = rowsOf z g (seqOf u) (headOf u) (3 * n + 1) t k := by
  rw [units_apply]
  have e : ∀ (b : Fin 4) (q : Fin 1024), rows1 x (ix3 b t q) = x (ix3 b ⟨16 + t.val, by omega⟩ q) := by
    intro b q
    refine congrArg x (funext fun a => ?_)
    fin_cases a <;> exact Fin.ext (by show _ + 1 * _ = _; dsimp; omega)
  refine (e _ _).trans ((hx _ _ _).trans ?_)
  unfold rowsOf
  refine congrArg₂ (z _) (Fin.ext ?_) (Fin.ext ?_)
  · show 48 * n + (16 + t.val) = (16 * (3 * n + 1) + t.val) % 2064
    omega
  · show 1024 * g + (128 * (u.val / 4) + k.val) = (1024 * g + 128 * (u.val / 4) + k.val) % 5120
    omega

theorem rows2_at (hx : ∀ b (r : Fin 48) (k : Fin 1024), x (ix3 b r k) = z b ⟨48 * n + r.val, by omega⟩ ⟨1024 * g + k.val, by omega⟩)
    (u : Fin 32) (t : Fin 16) (k : Fin 128) :
    k0_pay77 (rows2 x) (ix3 u t k) = rowsOf z g (seqOf u) (headOf u) (3 * n + 2) t k := by
  rw [units_apply]
  have e : ∀ (b : Fin 4) (q : Fin 1024), rows2 x (ix3 b t q) = x (ix3 b ⟨32 + t.val, by omega⟩ q) := by
    intro b q
    refine congrArg x (funext fun a => ?_)
    fin_cases a <;> exact Fin.ext (by show _ + 1 * _ = _; dsimp; omega)
  refine (e _ _).trans ((hx _ _ _).trans ?_)
  unfold rowsOf
  refine congrArg₂ (z _) (Fin.ext ?_) (Fin.ext ?_)
  · show 48 * n + (32 + t.val) = (16 * (3 * n + 2) + t.val) % 2064
    omega
  · show 1024 * g + (128 * (u.val / 4) + k.val) = (1024 * g + 128 * (u.val / 4) + k.val) % 5120
    omega

end Rows

/-- The activations. -/
def zArr (c : Dev nD) : Fin 4 → Fin 2064 → Fin 5120 → EReal := fun b r k => m ((c : Thread nD τ).loc main_arg0) (ix3 b r k)

/-- The first states. -/
def sArr (c : Dev nD) : Fin 4 → Fin 8 → Fin 128 → Fin 128 → EReal := fun b h k w => m ((c : Thread nD τ).loc main_arg1) (ix4 b h k w)

/-- The lower bounds. -/
def lArr (c : Dev nD) : Fin 1024 → EReal := fun k => m ((c : Thread nD τ).loc main_arg2) (ix1 k)

/-- The norm's weights. -/
def nArr (c : Dev nD) : Fin 128 → EReal := fun k => m ((c : Thread nD τ).loc main_arg3) (ix1 k)

/-! Which blocks a point reads and writes. -/

theorem index0 : ∀ t : Fin cfg0.N, win0_0.index t = ![0, t.val, 1] :=
  (by decide +kernel : ∀ t : Fin grid0.N, win0_0.index t = ![0, t.val, 1])

theorem index1 : ∀ t : Fin cfg0.N, win0_1.index t = ![0, t.val, 2] :=
  (by decide +kernel : ∀ t : Fin grid0.N, win0_1.index t = ![0, t.val, 2])

theorem index2 : ∀ t : Fin cfg0.N, win0_2.index t = ![0, t.val, 3] :=
  (by decide +kernel : ∀ t : Fin grid0.N, win0_2.index t = ![0, t.val, 3])

theorem index3 : ∀ t : Fin cfg0.N, win0_3.index t = ![0, t.val, 4] :=
  (by decide +kernel : ∀ t : Fin grid0.N, win0_3.index t = ![0, t.val, 4])

theorem index4 : ∀ t : Fin cfg0.N, win0_4.index t = ![0, 0, 0, 0] :=
  (by decide +kernel : ∀ t : Fin grid0.N, win0_4.index t = ![0, 0, 0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem index7 : ∀ t : Fin cfg0.N, win0_7.index t = ![0, t.val, 0] :=
  (by decide +kernel : ∀ t : Fin grid0.N, win0_7.index t = ![0, t.val, 0])

theorem index8 : ∀ t : Fin cfg0.N, win0_8.index t = ![0, 0, 0, 0] :=
  (by decide +kernel : ∀ t : Fin grid0.N, win0_8.index t = ![0, 0, 0, 0])

theorem point_lt (t : Fin cfg0.N) : t.val < 43 := lt_of_lt_of_eq t.isLt (show cfg0.N = 43 from N_0)

section Blocks

variable (c : Dev nD) (t : Fin cfg0.N)

theorem block0 (b : Fin 4) (r : Fin 48) (k : Fin 1024) : iblk m c 0 t (ix3 b r k) =
    zArr m c b ⟨48 * t.val + r.val, by have := point_lt t; omega⟩ ⟨1024 * 1 + k.val, by omega⟩ := by
  have e := index0 t
  unfold zArr
  blk_point [iblk, V, e]

theorem block1 (b : Fin 4) (r : Fin 48) (k : Fin 1024) : iblk m c 1 t (ix3 b r k) =
    zArr m c b ⟨48 * t.val + r.val, by have := point_lt t; omega⟩ ⟨1024 * 2 + k.val, by omega⟩ := by
  have e := index1 t
  unfold zArr
  blk_point [iblk, V, e]

theorem block2 (b : Fin 4) (r : Fin 48) (k : Fin 1024) : iblk m c 2 t (ix3 b r k) =
    zArr m c b ⟨48 * t.val + r.val, by have := point_lt t; omega⟩ ⟨1024 * 3 + k.val, by omega⟩ := by
  have e := index2 t
  unfold zArr
  blk_point [iblk, V, e]

theorem block3 (b : Fin 4) (r : Fin 48) (k : Fin 1024) : iblk m c 3 t (ix3 b r k) =
    zArr m c b ⟨48 * t.val + r.val, by have := point_lt t; omega⟩ ⟨1024 * 4 + k.val, by omega⟩ := by
  have e := index3 t
  unfold zArr
  blk_point [iblk, V, e]

theorem block4 (i : S4x8x128x128.Idx) : iblk m c 4 t i = m ((c : Thread nD τ).loc main_arg1) i := by
  have e := index4 t
  blk_point [iblk, V, e]

theorem block5 (k : Fin 1024) : iblk m c 5 t (ix2 0 k) = lArr m c k := by
  have e := index5 t
  unfold lArr
  blk_simp [iblk, V, e]
  entry_read
  pointwise
  refine congrArg (fun q : Fin 1024 => m (c, Proc.tc.devRef main_arg2) (ix1 q)) (Fin.ext ?_)
  show win0_5.index t 1 * 1024 + 1 * k.val = k.val
  rw [e]
  show 0 * 1024 + 1 * k.val = k.val
  omega

theorem block6 (k : Fin 128) : iblk m c 6 t (ix2 0 k) = nArr m c k := by
  have e := index6 t
  unfold nArr
  blk_simp [iblk, V, e]
  entry_read
  pointwise
  refine congrArg (fun q : Fin 128 => m (c, Proc.tc.devRef main_arg3) (ix1 q)) (Fin.ext ?_)
  show win0_6.index t 1 * 128 + 1 * k.val = k.val
  rw [e]
  show 0 * 128 + 1 * k.val = k.val
  omega

theorem bound_at (u : Fin 32) (k : Fin 128) : k0_pay72 (iblk m c 5 t) (ix3 u 0 k) = boundOf (lArr m c) (headOf u) k :=
  (bounds_apply _ _).trans (block5 m c t _)

theorem weight_at (k : Fin 128) : k0_pay73 (iblk m c 6 t) (ix3 0 0 k) = nArr m c k := by
  pointwise [k0_pay73]
  exact block6 m c t k

/-- What holds before a point: the scratch has the states before the point's first chunk. -/
abbrev Ready : Prop := ∀ u w k, before m c t (ix3 u w k) =
  stateAt (zArr m c) (sArr m c) (lArr m c) (seqOf u) (headOf u) (3 * t.val) k w

theorem reads0 (h : Ready m c t) : Reads (zArr m c) (sArr m c) (lArr m c) (3 * t.val) (k0_pay72 (iblk m c 5 t))
    (k0_pay77 (rows0 (iblk m c 1 t))) (k0_pay77 (rows0 (iblk m c 2 t))) (before m c t) :=
  ⟨bound_at m c t, rows0_at _ _ 2 t.val (by decide) (point_lt t) (block1 m c t),
    rows0_at _ _ 3 t.val (by decide) (point_lt t) (block2 m c t), h⟩

theorem reads1 (h : Ready m c t) : Reads (zArr m c) (sArr m c) (lArr m c) (3 * t.val + 1) (k0_pay72 (iblk m c 5 t))
    (k0_pay77 (rows1 (iblk m c 1 t))) (k0_pay77 (rows1 (iblk m c 2 t)))
    (state1 (iblk m c 1 t) (iblk m c 2 t) (iblk m c 5 t) (before m c t)) :=
  ⟨bound_at m c t, rows1_at _ _ 2 t.val (by decide) (point_lt t) (block1 m c t),
    rows1_at _ _ 3 t.val (by decide) (point_lt t) (block2 m c t), next_chunk _ _ _ _ _ _ _ _ (reads0 m c t h)⟩

theorem reads2 (h : Ready m c t) : Reads (zArr m c) (sArr m c) (lArr m c) (3 * t.val + 2) (k0_pay72 (iblk m c 5 t))
    (k0_pay77 (rows2 (iblk m c 1 t))) (k0_pay77 (rows2 (iblk m c 2 t)))
    (state2 (iblk m c 1 t) (iblk m c 2 t) (iblk m c 5 t) (before m c t)) :=
  ⟨bound_at m c t, rows2_at _ _ 2 t.val (by decide) (point_lt t) (block1 m c t),
    rows2_at _ _ 3 t.val (by decide) (point_lt t) (block2 m c t), next_chunk _ _ _ _ _ _ _ _ (reads1 m c t h)⟩

/-- After a point, the states are those before the next point's first chunk. -/
theorem state3_at (h : Ready m c t) (u : Fin 32) (w k : Fin 128) :
    state3 (iblk m c 1 t) (iblk m c 2 t) (iblk m c 5 t) (before m c t) (ix3 u w k) =
      stateAt (zArr m c) (sArr m c) (lArr m c) (seqOf u) (headOf u) (3 * t.val + 3) k w :=
  next_chunk _ _ _ _ _ _ _ _ (reads2 m c t h) u w k

end Blocks

/-- So it holds before every point. -/
theorem ready (c : Dev nD) : ∀ (n : Nat) (hn : n < cfg0.N), Ready m c ⟨n, hn⟩ := by
  intro n
  induction n with
  | zero =>
    intro hn u w k
    unfold before
    rw [if_pos (by rfl)]
    exact block4 m c ⟨0, hn⟩ _
  | succ n ih =>
    intro hn u w k
    have hN := point_lt ⟨n + 1, hn⟩
    unfold before
    rw [if_neg (by show ¬ (n + 1) % 43 = 0; have : n + 1 < 43 := hN; omega)]
    simp only [Nat.add_sub_cancel]
    rw [state_after m c ⟨n, by omega⟩]
    exact state3_at m c ⟨n, by omega⟩ (ih _) u w k

/-- The mixed rows of all the sequences. -/
def mixedSpec (c : Dev nD) : S4x2064x1024.Idx → EReal := fun i =>
  resultAt (zArr m c) (sArr m c) (lArr m c) (nArr m c) (i 0)
    ⟨(i 2).val / 128, by have : (i 2).val < 1024 := (i 2).isLt; omega⟩ ((i 1).val / 16)
    ⟨(i 1).val % 16, Nat.mod_lt _ (by decide)⟩ ⟨(i 2).val % 128, Nat.mod_lt _ (by decide)⟩

/-- The states after the last chunk. -/
def lastSpec (c : Dev nD) : S4x8x128x128.Idx → EReal := fun i =>
  stateAt (zArr m c) (sArr m c) (lArr m c) (i 0) (i 1) 129 (i 2) (i 3)

/-- The rows a point writes are its chunks' rows of the result. -/
theorem point_rows (c : Dev nD) (t : Fin cfg0.N) (y : S4x48x1024.Idx) :
    (outsAt0 m c t.val t.isLt).1 y = resultAt (zArr m c) (sArr m c) (lArr m c) (nArr m c) (y 0)
      ⟨(y 2).val / 128, by have : (y 2).val < 1024 := (y 2).isLt; omega⟩ (3 * t.val + (y 1).val / 16)
      ⟨(y 1).val % 16, Nat.mod_lt _ (by decide)⟩ ⟨(y 2).val % 128, Nat.mod_lt _ (by decide)⟩ := by
  have y0 : (y 0).val < 4 := (y 0).isLt
  have y1 : (y 1).val < 48 := (y 1).isLt
  have y2 : (y 2).val < 1024 := (y 2).isLt
  have hr := ready m c t.val t.isLt
  have hseq : ∀ h, seqOf ⟨4 * ((y 2).val / 128) + (y 0).val, h⟩ = y 0 := fun h => Fin.ext (by
    show (4 * ((y 2).val / 128) + (y 0).val) % 4 = (y 0).val
    omega)
  have hhead : ∀ h, headOf ⟨4 * ((y 2).val / 128) + (y 0).val, h⟩ = ⟨(y 2).val / 128, by omega⟩ := fun h => Fin.ext (by
    show (4 * ((y 2).val / 128) + (y 0).val) / 4 = (y 2).val / 128
    omega)
  have h3 : (y 1).val / 16 = 0 ∨ (y 1).val / 16 = 1 ∨ (y 1).val / 16 = 2 := by omega
  rw [rows_after]
  unfold pointOut
  rcases h3 with h | h | h
  · rw [h]
    refine (done_chunk _ _ _ (nArr m c) _ _ _ _ _ _ _ _ (reads0 m c t hr)
      (rows0_at _ _ 1 t.val (by decide) (point_lt t) (block0 m c t))
      (rows0_at _ _ 4 t.val (by decide) (point_lt t) (block3 m c t)) (weight_at m c t) _ _ _).trans ?_
    rw [hseq, hhead, Nat.add_zero]
  · rw [h]
    refine (done_chunk _ _ _ (nArr m c) _ _ _ _ _ _ _ _ (reads1 m c t hr)
      (rows1_at _ _ 1 t.val (by decide) (point_lt t) (block0 m c t))
      (rows1_at _ _ 4 t.val (by decide) (point_lt t) (block3 m c t)) (weight_at m c t) _ _ _).trans ?_
    rw [hseq, hhead]
  · rw [h]
    refine (done_chunk _ _ _ (nArr m c) _ _ _ _ _ _ _ _ (reads2 m c t hr)
      (rows2_at _ _ 1 t.val (by decide) (point_lt t) (block0 m c t))
      (rows2_at _ _ 4 t.val (by decide) (point_lt t) (block3 m c t)) (weight_at m c t) _ _ _).trans ?_
    rw [hseq, hhead]

/-- The first result array. -/
theorem array7 (c : Dev nD) : (dats m 0 c).arrAt 7 cfg0.N = mixedSpec m c := by
  refine (dats m 0 c).arrAt_eq_of_covers 7 _ (by decide +kernel) fun t hf y => ?_
  have y0 : (y 0).val < 4 := (y 0).isLt
  have y1 : (y 1).val < 48 := (y 1).isLt
  have y2 : (y 2).val < 1024 := (y 2).isLt
  blk_simp
  rw [after0_7, point_rows]
  have h0 : ((win0_7.blk t).view.emb y 0).val = (y 0).val := by
    show win0_7.index t 0 * 4 + 1 * (y 0).val = _
    rw [index7]
    show 0 * 4 + 1 * (y 0).val = _
    omega
  have h1 : ((win0_7.blk t).view.emb y 1).val = 48 * t.val + (y 1).val := by
    show win0_7.index t 1 * 48 + 1 * (y 1).val = _
    rw [index7]
    show t.val * 48 + 1 * (y 1).val = _
    omega
  have h2 : ((win0_7.blk t).view.emb y 2).val = (y 2).val := by
    show win0_7.index t 2 * 1024 + 1 * (y 2).val = _
    rw [index7]
    show 0 * 1024 + 1 * (y 2).val = _
    omega
  unfold mixedSpec
  have e0 : (win0_7.blk t).view.emb y 0 = y 0 := Fin.ext h0
  have e2 : (win0_7.blk t).view.emb y 2 = y 2 := Fin.ext h2
  have ec : ((win0_7.blk t).view.emb y 1).val / 16 = 3 * t.val + (y 1).val / 16 := by omega
  have er : ((win0_7.blk t).view.emb y 1).val % 16 = (y 1).val % 16 := by omega
  simp only [e0, e2, ec, er]

/-- The second result array. -/
theorem array8 (c : Dev nD) : (dats m 0 c).arrAt 8 cfg0.N = lastSpec m c := by
  refine (dats m 0 c).arrAt_eq_of_covers 8 _ (by decide +kernel) fun t hf y => ?_
  have y0 : (y 0).val < 4 := (y 0).isLt
  have y1 : (y 1).val < 8 := (y 1).isLt
  have ht : t.val = 42 := by
    have : ∀ t : Fin grid0.N, win0_8.flush t = true → t.val = 42 := by decide +kernel
    exact this t hf
  blk_simp
  rw [after0_8, last_after m c t (by omega)]
  unfold lastOf lastSpec
  refine (state3_at m c t (ready m c t.val t.isLt) _ _ _).trans ?_
  have e : ∀ a, (win0_8.blk t).view.emb y a = y a := by
    intro a
    refine Fin.ext ?_
    show win0_8.index t a * S4x8x128x128.size a + 1 * (y a).val = (y a).val
    rw [index8]
    fin_cases a <;> simp
  have hj : 3 * t.val + 3 = 129 := by omega
  rw [e 0, e 1, e 2, e 3, hj]
  refine congrArg₂ (fun b h => stateAt _ _ _ b h 129 (y 2) (y 3)) (Fin.ext ?_) (Fin.ext ?_)
  · show (4 * (y 1).val + (y 0).val) % 4 = (y 0).val
    omega
  · show (4 * (y 1).val + (y 0).val) / 4 = (y 1).val
    omega

end Cert.HgrnIdeal.Chunks

end
-- ==== Proof.HgrnRef.lean ====
/- The plain HGRN2 program read at an index: gates, queries, running sums, one trip of its loop, its results. -/
module

public import proofs.«01_k».proof.Proof.Gen.HgrnRefIdeal.Step
public import proofs.«01_k».proof.Proof.HgrnSpec
public import Idealize.ShloMosaic.Lib.Pipeline.ValueKit
public import Idealize.ShloMosaic.Lib.Pointwise
public import Idealize.ShloMosaic.Lib.KernelVsHost

@[expose] public section

set_option maxRecDepth 16384

noncomputable section

namespace Cert.HgrnRefIdeal.Read
open Idealize.ShloMosaic Idealize.ShloMosaic.TcCoe Cert.HgrnRefIdeal Cert.HgrnRefIdeal.Gen Cert.HgrnRefIdeal.Step
open Cert.HgrnSpec

/-- The row of a sequence that is row `t` of chunk `j`. -/
abbrev row (j : Fin 129) (t : Fin 16) : Fin 2064 := ⟨16 * j.val + t.val, by omega⟩

/-- The column that is column `k` of head `h`. -/
abbrev col (h : Fin 8) (k : Fin 128) : Fin 1024 := ⟨128 * h.val + k.val, by omega⟩

/-- Cutting an array of rows into heads and chunks, at an index. -/
theorem chunked (x : Vec Ideal S4x2064x1024 .f32) (i : S129x4x8x16x128.Idx) :
    transpose S129x4x8x16x128 [1, 0, 3, 2, 4] (shapeCast S4x129x16x8x128 (shapeCast S4x2064x8x128 x
        shapeCasts_S4x2064x1024_S4x2064x8x128) shapeCasts_S4x2064x8x128_S4x129x16x8x128)
        transposes_S4x129x16x8x128_S129x4x8x16x128_1_0_3_2_4 i
      = x (ix3 (i 1) (row (i 0) (i 3)) (col (i 2) (i 4))) := by
  pointwise
  refine congrArg x (congrArg₂ (ix3 (i 1)) (Fin.ext ?_) (Fin.ext ?_))
  · show (i 0).val * 16 + (i 3).val = 16 * (i 0).val + (i 3).val
    omega
  · show (i 2).val * 128 + (i 4).val = 128 * (i 2).val + (i 4).val
    omega

/-- Putting the chunks of an array after one another, at an index. -/
theorem joined (o : Vec Ideal S129x4x8x16x128 .f32) (i : S4x2064x8x128.Idx) :
    shapeCast S4x2064x8x128 (transpose S4x129x16x8x128 [1, 0, 3, 2, 4] o
        transposes_S129x4x8x16x128_S4x129x16x8x128_1_0_3_2_4) shapeCasts_S4x129x16x8x128_S4x2064x8x128 i
      = o (ix5 ⟨(i 1).val / 16, by have : (i 1).val < 2064 := (i 1).isLt; omega⟩ (i 0) (i 2)
          ⟨(i 1).val % 16, Nat.mod_lt _ (by decide)⟩ (i 3)) := by
  pointwise

variable (x : Vec Ideal S4x2064x5120 .f32) (l : Vec Ideal S1024 .f32)

/-- The gate, at an index. -/
theorem gate_apply (i : S4x2064x1024.Idx) : A_main_v16 (F := Ideal) x l i
    = gate (l (ix1 (i 2))) (x (ix3 (i 0) (i 1) ⟨2048 + (i 2).val, by have : (i 2).val < 1024 := (i 2).isLt; omega⟩)) := by
  pointwise [A_main_v16, A_main_v15, A_main_v14, A_main_v13, A_main_v12, A_main_v11, A_main_v10, A_main_v8, A_main_v6,
    A_main_v5, A_main_v4, A_main_v1, K_main_v3, K_main_v7, K_main_v9, K_main_cst, K_main_cst_0, K_main_cst_1]
  rfl

/-- The activated query, at an index. -/
theorem query_apply (i : S4x2064x1024.Idx) : A_main_v17 (F := Ideal) x l i
    = swish (x (ix3 (i 0) (i 1) ⟨1024 + (i 2).val, by have : (i 2).val < 1024 := (i 2).isLt; omega⟩)) := by
  pointwise [A_main_v17, A_main_call0_v5, A_main_call0_v3, A_main_call0_v1, A_main_call0_v0, A_main_v0, K_main_call0_v2,
    K_main_call0_v4, K_main_call0_cst, K_main_call0_cst_0]
  rfl

/-- The position in a window of sixteen rows is its row. -/
theorem window_position (n : Fin (⟨5, ![1, 1, 1, 16, 1]⟩ : Shape).numel) :
    (⟨5, ![1, 1, 1, 16, 1]⟩ : Shape).rowMajor.symm n
      = ix5 (0 : Fin 1) (0 : Fin 1) (0 : Fin 1) (⟨n.val, n.isLt⟩ : Fin 16) (0 : Fin 1) := by
  rw [Equiv.symm_apply_eq]
  revert n
  decide +kernel

/-- Adding up over a list of all positions is the sum. -/
theorem fold_add {n : ℕ} (g : Fin n → EReal) :
    (List.finRange n).foldl (fun r k => r + g k) 0 = ∑ k, g k := by
  have h : ∀ (L : List (Fin n)) (a : EReal), L.foldl (fun r k => r + g k) a = a + (L.map g).sum := by
    intro L
    induction L with
    | nil => intro a; simp
    | cons k L ih => intro a; rw [List.foldl_cons, ih, List.map_cons, List.sum_cons, add_assoc]
  rw [h, zero_add]
  rw [← List.ofFn_eq_map, List.sum_ofFn]

/-- The position `n` of the window at row `t` holds row `t + n - 15`, if there is one. -/
theorem window_entry (y : FVec Ideal S129x4x8x16x128 .f32) (j : Fin 129) (b : Fin 4) (h : Fin 8) (t n : Fin 16) (k : Fin 128)
    (p : Fin 5 → ℕ) (hp : p = ![j.val, b.val, h.val, t.val + n.val, k.val])
    (dec : Decidable (∀ a : Fin 5, (![0, 0, 0, 15, 0] : Fin 5 → ℕ) a ≤ p a
      ∧ p a - (![0, 0, 0, 15, 0] : Fin 5 → ℕ) a < S129x4x8x16x128.size a)) :
    (if hin : ∀ a : Fin 5, (![0, 0, 0, 15, 0] : Fin 5 → ℕ) a ≤ p a
          ∧ p a - (![0, 0, 0, 15, 0] : Fin 5 → ℕ) a < S129x4x8x16x128.size a then
        (y (fun a => ⟨p a - (![0, 0, 0, 15, 0] : Fin 5 → ℕ) a, (hin a).2⟩) : EReal) else 0)
      = if n + (t + 1) ≤ t then (y (ix5 j b h (n + (t + 1)) k) : EReal) else 0 := by
  subst hp
  have hv : (n + (t + 1)).val = (n.val + (t.val + 1)) % 16 := by
    simp only [Fin.val_add, Fin.val_one]; omega
  have hle : n + (t + 1) ≤ t ↔ 15 ≤ t.val + n.val := by
    rw [Fin.le_def, hv]; omega
  by_cases hc : 15 ≤ t.val + n.val
  · have hin : ∀ a : Fin 5, (![0, 0, 0, 15, 0] : Fin 5 → ℕ) a ≤ (![j.val, b.val, h.val, t.val + n.val, k.val] : Fin 5 → ℕ) a
        ∧ (![j.val, b.val, h.val, t.val + n.val, k.val] : Fin 5 → ℕ) a - (![0, 0, 0, 15, 0] : Fin 5 → ℕ) a < S129x4x8x16x128.size a
      | ⟨0, _⟩ => ⟨Nat.zero_le _, j.isLt⟩
      | ⟨1, _⟩ => ⟨Nat.zero_le _, b.isLt⟩
      | ⟨2, _⟩ => ⟨Nat.zero_le _, h.isLt⟩
      | ⟨3, _⟩ => ⟨hc, by show t.val + n.val - 15 < 16; omega⟩
      | ⟨4, _⟩ => ⟨Nat.zero_le _, k.isLt⟩
    rw [dif_pos hin, if_pos (hle.2 hc)]
    refine congrArg y (funext fun a => Fin.ext ?_)
    match a with
    | ⟨0, _⟩ => rfl
    | ⟨1, _⟩ => rfl
    | ⟨2, _⟩ => rfl
    | ⟨3, _⟩ => show t.val + n.val - 15 = (n + (t + 1)).val; omega
    | ⟨4, _⟩ => rfl
  · rw [dif_neg fun hin => hc (hin 3).1, if_neg fun h' => hc (hle.1 h')]

/-- The running sums down the rows of a chunk, at an index. -/
theorem running_apply (y : FVec Ideal S129x4x8x16x128 .f32) (v : FVec Ideal S_ .f32) (hv : v (Shape.Idx.first h_S_) = (0 : EReal))
    (j : Fin 129) (b : Fin 4) (h : Fin 8) (t : Fin 16) (k : Fin 128) :
    (Host.reduceWindowAdd (F := Ideal) (φ := .f32) (t := S129x4x8x16x128) ![1, 1, 1, 16, 1] ![1, 1, 1, 1, 1] ![0, 0, 0, 15, 0] ![0, 0, 0, 0, 0] y v
        reduceWindows_S129x4x8x16x128_S129x4x8x16x128_w1s1p0_0_w1s1p0_0_w1s1p0_0_w16s1p15_0_w1s1p0_0 h_S_ (ix5 j b h t k) : EReal)
      = ∑ s : Fin 16, if s ≤ t then (y (ix5 j b h s k) : EReal) else 0 := by
  unfold Host.reduceWindowAdd
  rw [Ideal.hostReduceWindowAdd_def, hv]
  unfold Ideal.hostReduceWindowAdd Host.reduceWindow
  refine (fold_add (n := 16) _).trans ?_
  rw [← Equiv.sum_comp (Equiv.addRight (t + 1)) (fun s : Fin 16 => if s ≤ t then (y (ix5 j b h s k) : EReal) else 0)]
  refine Finset.sum_congr rfl fun n _ => ?_
  refine window_entry y j b h t n k _ (funext fun a => ?_) _
  have hw := window_position n
  match a with
  | ⟨0, _⟩ => exact (congrArg (fun i : (⟨5, ![1, 1, 1, 16, 1]⟩ : Shape).Idx => j.val * 1 + (i 0).val) hw).trans (Nat.mul_one _)
  | ⟨1, _⟩ => exact (congrArg (fun i : (⟨5, ![1, 1, 1, 16, 1]⟩ : Shape).Idx => b.val * 1 + (i 1).val) hw).trans (Nat.mul_one _)
  | ⟨2, _⟩ => exact (congrArg (fun i : (⟨5, ![1, 1, 1, 16, 1]⟩ : Shape).Idx => h.val * 1 + (i 2).val) hw).trans (Nat.mul_one _)
  | ⟨3, _⟩ =>
    exact (congrArg (fun i : (⟨5, ![1, 1, 1, 16, 1]⟩ : Shape).Idx => t.val * 1 + (i 3).val) hw).trans
      (congrArg (· + n.val) (Nat.mul_one _))
  | ⟨4, _⟩ => exact (congrArg (fun i : (⟨5, ![1, 1, 1, 16, 1]⟩ : Shape).Idx => k.val * 1 + (i 4).val) hw).trans (Nat.mul_one _)

/-- The rows of chunk `j` in the column group `g`, as an entry of the activations. -/
theorem rows_eq (g : Nat) (hg : g < 5) (b : Fin 4) (h : Fin 8) (j : Fin 129) (t : Fin 16) (k : Fin 128) (r : Fin 2064)
    (e : Fin 5120) (hr : r.val = 16 * j.val + t.val) (he : e.val = 1024 * g + 128 * h.val + k.val) :
    (x (ix3 b r e) : EReal) = rowsOf (fun b r k => x (ix3 b r k)) g b h j.val t k := by
  unfold rowsOf
  have hm : (16 * j.val + t.val) % 2064 = r.val := by have := r.isLt; omega
  have hn : (1024 * g + 128 * h.val + k.val) % 5120 = e.val := by have := e.isLt; omega
  exact congrArg₂ (fun (r : Fin 2064) (e : Fin 5120) => x (ix3 b r e)) (Fin.ext hm.symm) (Fin.ext hn.symm)

/-- The activations as a function of sequence, row and column. -/
abbrev acts (b : Fin 4) (r : Fin 2064) (k : Fin 5120) : EReal := x (ix3 b r k)

/-- The lower bounds as a function of the column. -/
abbrev bounds (k : Fin 1024) : EReal := l (ix1 k)

section Chunks

variable (j : Fin 129) (b : Fin 4) (h : Fin 8) (t : Fin 16) (k : Fin 128)

/-- The gate of a row in its chunk. -/
theorem gate_row : A_main_v16 (F := Ideal) x l (ix3 b (row j t) (col h k))
    = gate (boundOf (bounds l) h k) (rowsOf (acts x) 2 b h j.val t k) := by
  rw [gate_apply]
  exact congrArg (gate _) (rows_eq x 2 (by decide) b h j t k _ _ rfl
    (by show 2048 + (128 * h.val + k.val) = _; omega))

/-- The chunked queries, activated. -/
theorem swish_row : A_main_v26 (F := Ideal) x l (ix5 j b h t k) = swish (rowsOf (acts x) 1 b h j.val t k) := by
  unfold A_main_v26 A_main_v25 A_main_v18
  rw [chunked]
  refine (query_apply x l _).trans (congrArg swish (rows_eq x 1 (by decide) b h j t k _ _ rfl ?_))
  show 1024 + (128 * h.val + k.val) = _
  omega

/-- The chunked keys before decay. -/
theorem key_row : A_main_v28 (F := Ideal) x l (ix5 j b h t k)
    = 1 - gate (boundOf (bounds l) h k) (rowsOf (acts x) 2 b h j.val t k) := by
  unfold A_main_v28 A_main_v27 A_main_v21
  rw [chunked]
  pointwise [A_main_v20, K_main_v19, K_main_cst_2]
  exact congrArg (fun e : EReal => 1 - e) (gate_row x l j b h t k)

/-- The chunked logarithms of the gates. -/
theorem log_row : A_main_v30 (F := Ideal) x l (ix5 j b h t k)
    = Ideal.log (gate (boundOf (bounds l) h k) (rowsOf (acts x) 2 b h j.val t k)) := by
  unfold A_main_v30 A_main_v29 A_main_v23
  rw [chunked]
  pointwise [A_main_v22]
  exact congrArg Ideal.log (gate_row x l j b h t k)

/-- The chunked values. -/
theorem value_row : A_main_v32 (F := Ideal) x l (ix5 j b h t k) = rowsOf (acts x) 3 b h j.val t k := by
  unfold A_main_v32 A_main_v31 A_main_v24
  rw [chunked]
  pointwise [A_main_v2]
  exact rows_eq x 3 (by decide) b h j t k _ _ rfl (by show 3072 + (128 * h.val + k.val) = _; omega)

/-- The log decay up to a row. -/
theorem decay_row : A_main_v33 (F := Ideal) x l (ix5 j b h t k)
    = decayTo (rowsOf (acts x) 2 b h j.val) (boundOf (bounds l) h) t k := by
  unfold A_main_v33
  rw [running_apply _ _ (by pointwise [K_main_call1_call0_v0, K_main_call1_call0_cst])]
  refine Finset.sum_congr rfl fun s _ => ?_
  rw [log_row]

/-- The decayed queries. -/
theorem queryAt_row : A_main_v36 (F := Ideal) x l (ix5 j b h t k)
    = queryAt (rowsOf (acts x) 1 b h j.val) (rowsOf (acts x) 2 b h j.val) (boundOf (bounds l) h) t k := by
  pointwise [A_main_v36, A_main_v35]
  rw [swish_row, decay_row]
  rfl

/-- The keys with the decay taken back. -/
theorem keyAt_row : A_main_v39 (F := Ideal) x l (ix5 j b h t k)
    = keyAt (rowsOf (acts x) 2 b h j.val) (boundOf (bounds l) h) t k := by
  pointwise [A_main_v39, A_main_v38, A_main_v37]
  rw [key_row, decay_row]
  rfl

/-- The keys with the decay to the end of the chunk. -/
theorem keyEnd_row : A_main_v43 (F := Ideal) x l (ix5 j b h t k)
    = keyEnd (rowsOf (acts x) 2 b h j.val) (boundOf (bounds l) h) t k := by
  pointwise [A_main_v43, A_main_v42, A_main_v41, A_main_v40, A_main_v34]
  rw [key_row, decay_row, decay_row]
  rfl

/-- The decay of a whole chunk. -/
theorem whole_row : A_main_v45 (F := Ideal) x l (ix4 j b h k)
    = Ideal.exp (decayTo (rowsOf (acts x) 2 b h j.val) (boundOf (bounds l) h) 15 k) := by
  pointwise [A_main_v45, A_main_v44, A_main_v34]
  exact congrArg Ideal.exp (decay_row x l j b h 15 k)

end Chunks

end Cert.HgrnRefIdeal.Read

end
-- ==== Proof.HgrnTrip.lean ====
/- One trip of the plain HGRN2 program's loop, read at an index. -/
module

public import proofs.«01_k».proof.Proof.HgrnRef
public import Idealize.ShloMosaic.Lib.Pipeline.ValueKit
public import Idealize.ShloMosaic.Lib.Pointwise
public import Idealize.ShloMosaic.Lib.KernelVsHost

@[expose] public section

set_option maxRecDepth 16384

noncomputable section

namespace Cert.HgrnRefIdeal.Trip
open Idealize.ShloMosaic Idealize.ShloMosaic.TcCoe Cert.HgrnRefIdeal Cert.HgrnRefIdeal.Gen Cert.HgrnRefIdeal.Step
open Cert.HgrnRefIdeal.Read Cert.HgrnSpec

/-- The trip's number read back from its machine word. -/
theorem count_toInt (j : Fin 129) : (BitVec.ofNat 32 j.val).toInt = (j.val : ℤ) := by
  revert j
  decide +kernel

/-- Where the loop cuts into an array of chunks: at the trip's number on the first axis, at 0 on the others. -/
abbrev start5 (j : ℕ) (k : Fin 5) : ℤ :=
  ((![(constantI S_ 32 (BitVec.ofNat 32 j) : (⟨S_, .i32⟩ : BufTy).Contents (Elt Ideal)), constantI S_ 32 0#32,
    constantI S_ 32 0#32, constantI S_ 32 0#32, constantI S_ 32 0#32] : Fin 5 → (⟨S_, .i32⟩ : BufTy).Contents (Elt Ideal)) k
      (Shape.Idx.first h_S_)).toInt

/-- The cut on the first axis. -/
theorem start5_first (j : Fin 129) (ht : S1x4x8x16x128.rank = S129x4x8x16x128.rank) :
    Host.clampedStart S129x4x8x16x128 S1x4x8x16x128 ht (start5 j.val) (0 : Fin 5) = j.val :=
  Host.clampedStart_of_le ht _ _ _ (count_toInt j) (by show j.val + 1 ≤ 129; omega)

/-- The cut on the other axes. -/
theorem start5_rest (j : ℕ) (ht : S1x4x8x16x128.rank = S129x4x8x16x128.rank) :
    Host.clampedStart S129x4x8x16x128 S1x4x8x16x128 ht (start5 j) (1 : Fin 5) = 0
      ∧ Host.clampedStart S129x4x8x16x128 S1x4x8x16x128 ht (start5 j) (2 : Fin 5) = 0
      ∧ Host.clampedStart S129x4x8x16x128 S1x4x8x16x128 ht (start5 j) (3 : Fin 5) = 0
      ∧ Host.clampedStart S129x4x8x16x128 S1x4x8x16x128 ht (start5 j) (4 : Fin 5) = 0 :=
  ⟨Host.clampedStart_of_le ht _ _ _ rfl (by decide +revert), Host.clampedStart_of_le ht _ _ _ rfl (by decide +revert),
    Host.clampedStart_of_le ht _ _ _ rfl (by decide +revert), Host.clampedStart_of_le ht _ _ _ rfl (by decide +revert)⟩

/-- Chunk `j` of a chunked array. -/
def cut (j : ℕ) (y : FVec Ideal S129x4x8x16x128 .f32) : FVec Ideal S4x8x16x128 .f32 :=
  shapeCast S4x8x16x128 (Host.dynamicSlice S1x4x8x16x128 y (start5 j) sliceFits_S129x4x8x16x128_S1x4x8x16x128)
    shapeCasts_S1x4x8x16x128_S4x8x16x128

/-- Chunk `j` of a chunked array, at an index. -/
theorem cut_apply (j : Fin 129) (y : FVec Ideal S129x4x8x16x128 .f32) (b : Fin 4) (h : Fin 8) (t : Fin 16) (k : Fin 128) :
    cut j.val y (ix4 b h t k) = y (ix5 j b h t k) := by
  have hr := start5_rest j.val rfl
  unfold cut
  pointwise [start5_first j, hr.1, hr.2.1, hr.2.2.1, hr.2.2.2]

/-- Where the loop cuts into the array of the chunks' decays. -/
abbrev start4 (j : ℕ) (k : Fin 4) : ℤ :=
  ((![(constantI S_ 32 (BitVec.ofNat 32 j) : (⟨S_, .i32⟩ : BufTy).Contents (Elt Ideal)), constantI S_ 32 0#32,
    constantI S_ 32 0#32, constantI S_ 32 0#32] : Fin 4 → (⟨S_, .i32⟩ : BufTy).Contents (Elt Ideal)) k
      (Shape.Idx.first h_S_)).toInt

/-- The cut on the first axis. -/
theorem start4_first (j : Fin 129) (ht : S1x4x8x128.rank = S129x4x8x128.rank) :
    Host.clampedStart S129x4x8x128 S1x4x8x128 ht (start4 j.val) (0 : Fin 4) = j.val :=
  Host.clampedStart_of_le ht _ _ _ (count_toInt j) (by show j.val + 1 ≤ 129; omega)

/-- The cut on the other axes. -/
theorem start4_rest (j : ℕ) (ht : S1x4x8x128.rank = S129x4x8x128.rank) :
    Host.clampedStart S129x4x8x128 S1x4x8x128 ht (start4 j) (1 : Fin 4) = 0
      ∧ Host.clampedStart S129x4x8x128 S1x4x8x128 ht (start4 j) (2 : Fin 4) = 0
      ∧ Host.clampedStart S129x4x8x128 S1x4x8x128 ht (start4 j) (3 : Fin 4) = 0 :=
  ⟨Host.clampedStart_of_le ht _ _ _ rfl (by decide +revert), Host.clampedStart_of_le ht _ _ _ rfl (by decide +revert),
    Host.clampedStart_of_le ht _ _ _ rfl (by decide +revert)⟩

variable (j : Fin 129) (s : State Ideal) (b : Fin 4) (h : Fin 8) (t : Fin 16) (k w : Fin 128)

/-- The decay of chunk `j`. -/
theorem decay_apply : b28 (F := Ideal) j.val s (ix3 b h k) = s.main_v49_4 (ix4 j b h k) := by
  have hr := start4_rest j.val rfl
  have e27 : b27 (F := Ideal) j.val s = Host.dynamicSlice S1x4x8x128 s.main_v49_4 (start4 j.val)
    sliceFits_S129x4x8x128_S1x4x8x128 := rfl
  pointwise [b28, e27, start4_first j, hr.1, hr.2.1, hr.2.2]

/-- The comparison of two row numbers in machine words. -/
theorem mask_word (t r : Fin 16) :
    IntOp.cmpi CmpIPredicate.sge (IntOp.addi (BitVec.ofNat 32 t.val) 0#32) (BitVec.ofNat 32 r.val)
      = if r ≤ t then 1#1 else 0#1 := by
  revert t r
  decide +kernel

/-- The causal mask. -/
theorem mask_apply (t r : Fin 16) : K_main_v47 (F := Ideal) (ix2 t r) = if r ≤ t then (1 : EReal) else 0 := by
  pointwise [K_main_v47, K_main_v46, K_main_cst_3, K_main_call2_v0, K_main_call2_v1, K_main_call2_v2, K_main_call2_v3,
    K_main_call2_v4, K_main_call2_v5, K_main_call2_c, K_main_call2_cst]
  rw [mask_word]
  by_cases hc : r ≤ t
  · rw [if_pos hc, if_pos hc]; rfl
  · rw [if_neg hc, if_neg hc]; rfl

/-- The masked scores of a trip. -/
theorem score_apply (r : Fin 16) : b32 (F := Ideal) j.val s (ix4 b h t r)
    = (∑ k : Fin 128, s.main_v49_0 (ix5 j b h t k) * s.main_v49_1 (ix5 j b h r k)) * if r ≤ t then (1 : EReal) else 0 := by
  have e5 : b5 (F := Ideal) j.val s = cut j.val s.main_v49_0 := rfl
  have e11 : b11 (F := Ideal) j.val s = cut j.val s.main_v49_1 := rfl
  pointwise [b32, b31, b30, b29, e5, e11, cut_apply, mask_apply]

/-- The rows a trip writes. -/
theorem rows_apply : b35 (F := Ideal) j.val s (ix4 b h t w)
    = (∑ k : Fin 128, s.main_v49_0 (ix5 j b h t k) * s.main_v49_7 (ix4 b h k w))
      + ∑ r : Fin 16, b32 (F := Ideal) j.val s (ix4 b h t r) * s.main_v49_3 (ix5 j b h r w) := by
  have e5 : b5 (F := Ideal) j.val s = cut j.val s.main_v49_0 := rfl
  have e23 : b23 (F := Ideal) j.val s = cut j.val s.main_v49_3 := rfl
  pointwise [b35, b34, b33, e5, e23, cut_apply]

/-- The state a trip leaves. -/
theorem next_apply : b40 (F := Ideal) j.val s (ix4 b h k w)
    = s.main_v49_7 (ix4 b h k w) * s.main_v49_4 (ix4 j b h k)
      + ∑ r : Fin 16, s.main_v49_2 (ix5 j b h r k) * s.main_v49_3 (ix5 j b h r w) := by
  have e17 : b17 (F := Ideal) j.val s = cut j.val s.main_v49_2 := rfl
  have e23 : b23 (F := Ideal) j.val s = cut j.val s.main_v49_3 := rfl
  pointwise [b40, b39, b38, b37, b36, e17, e23, cut_apply, decay_apply]

/-- The rows written so far: chunk `j` is new, the others are as they were. -/
theorem written_apply (i : Fin 129) : b46 (F := Ideal) j.val s (ix5 i b h t w)
    = if i = j then b35 (F := Ideal) j.val s (ix4 b h t w) else s.main_v49_8 (ix5 i b h t w) := by
  have hr := start5_rest j.val rfl
  have e46 : b46 (F := Ideal) j.val s = Host.dynamicUpdateSlice s.main_v49_8 (b41 j.val s) (start5 j.val)
    updateFits_S129x4x8x16x128_S1x4x8x16x128 := rfl
  pointwise [e46, b41, start5_first j, hr.1, hr.2.1, hr.2.2.1, hr.2.2.2]
  have hc : (j.val ≤ i.val ∧ i.val < j.val + 1) ↔ i = j := by rw [Fin.ext_iff]; omega
  by_cases hij : i = j
  · rw [dif_pos (hc.2 hij), if_pos hij]
  · rw [dif_neg (fun h' => hij (hc.1 h')), if_neg hij]

/-! The state after every trip, against the recurrence. -/

/-- The state after `j` trips from a first one. -/
def after (s : State Ideal) : ℕ → State Ideal
  | 0 => s
  | j + 1 => step j (after s j)

section Recurrence

variable (x : Vec Ideal S4x2064x5120 .f32) (s0 : Vec Ideal S4x8x128x128 .f32) (l : Vec Ideal S1024 .f32)

/-- The first state's matrix as a function of its four indices. -/
abbrev firstState (b : Fin 4) (h : Fin 8) (k w : Fin 128) : EReal := s0 (ix4 b h k w)

/-- What no trip changes is after every trip as at the loop's entry. -/
theorem after_kept (j : ℕ) :
    (after (init s0 x l) j).main_v49_0 = A_main_v36 (F := Ideal) x l
      ∧ (after (init s0 x l) j).main_v49_1 = A_main_v39 (F := Ideal) x l
      ∧ (after (init s0 x l) j).main_v49_2 = A_main_v43 (F := Ideal) x l
      ∧ (after (init s0 x l) j).main_v49_3 = A_main_v32 (F := Ideal) x l
      ∧ (after (init s0 x l) j).main_v49_4 = A_main_v45 (F := Ideal) x l := by
  induction j with
  | zero => exact ⟨rfl, rfl, rfl, rfl, rfl⟩
  | succ j ih => exact ih

/-- After `j` trips the loop's matrix is the recurrence's state before chunk `j`. -/
theorem after_state (n : ℕ) (hn : n ≤ 129) (b : Fin 4) (h : Fin 8) (k w : Fin 128) :
    (after (init s0 x l) n).main_v49_7 (ix4 b h k w) = stateAt (acts x) (firstState s0) (bounds l) b h n k w := by
  induction n generalizing k w with
  | zero => rfl
  | succ n ih =>
    obtain ⟨_, _, h2, h3, h4⟩ := after_kept x s0 l n
    refine (next_apply ⟨n, by omega⟩ (after (init s0 x l) n) b h k w).trans ?_
    rw [h2, h3, h4, ih (by omega), whole_row]
    refine congrArg (fun e : EReal => _ + e) (Finset.sum_congr rfl fun r _ => ?_)
    rw [keyEnd_row, value_row]

/-- The rows a trip writes are the recurrence's mix. -/
theorem rows_mix (j : Fin 129) (b : Fin 4) (h : Fin 8) (t : Fin 16) (w : Fin 128) :
    b35 (F := Ideal) j.val (after (init s0 x l) j.val) (ix4 b h t w)
      = mixAt (acts x) (firstState s0) (bounds l) b h j.val t w := by
  obtain ⟨h0, h1, _, h3, _⟩ := after_kept x s0 l j.val
  rw [rows_apply, h0, h3]
  refine congrArg₂ (fun e d : EReal => e + d) (Finset.sum_congr rfl fun k _ => ?_) (Finset.sum_congr rfl fun r _ => ?_)
  · rw [queryAt_row, after_state x s0 l j.val (by omega)]
  · rw [score_apply, h0, h1, value_row]
    refine congrArg (fun e : EReal => e * _) ?_
    unfold score
    by_cases hc : r ≤ t
    · rw [if_pos hc, if_pos hc, mul_one]
      exact Finset.sum_congr rfl fun k _ => by rw [queryAt_row, keyAt_row]
    · rw [if_neg hc, if_neg hc, mul_zero]

/-- After `n` trips the chunks before `n` hold the recurrence's mix. -/
theorem after_rows (n : ℕ) (hn : n ≤ 129) (j : Fin 129) (hj : j.val < n) (b : Fin 4) (h : Fin 8) (t : Fin 16) (w : Fin 128) :
    (after (init s0 x l) n).main_v49_8 (ix5 j b h t w) = mixAt (acts x) (firstState s0) (bounds l) b h j.val t w := by
  induction n with
  | zero => exact absurd hj (Nat.not_lt_zero _)
  | succ n ih =>
    refine (written_apply ⟨n, by omega⟩ (after (init s0 x l) n) b h t w j).trans ?_
    by_cases hc : j = ⟨n, by omega⟩
    · rw [if_pos hc]
      obtain rfl : n = j.val := (congrArg Fin.val hc).symm
      exact rows_mix x s0 l j b h t w
    · rw [if_neg hc]
      refine ih (by omega) ?_
      have : j.val ≠ n := fun e => hc (Fin.ext e)
      omega

/-- The operations after the loop normalise and gate the rows. -/
theorem finished (s : State Ideal) (n : Vec Ideal S128 .f32) (i : S4x2064x1024.Idx) :
    R_main_v69 (F := Ideal) s x n i
      = finish (fun k => s.main_v49_8 (ix5 ⟨(i 1).val / 16, by have : (i 1).val < 2064 := (i 1).isLt; omega⟩ (i 0)
            ⟨(i 2).val / 128, by have : (i 2).val < 1024 := (i 2).isLt; omega⟩
            ⟨(i 1).val % 16, Nat.mod_lt _ (by decide)⟩ k))
          (n (ix1 ⟨(i 2).val % 128, Nat.mod_lt _ (by decide)⟩))
          (x (ix3 (i 0) (i 1) ⟨4096 + (i 2).val, by have : (i 2).val < 1024 := (i 2).isLt; omega⟩))
          ⟨(i 2).val % 128, Nat.mod_lt _ (by decide)⟩ := by
  unfold R_main_v69
  pointwise
  rfl

/-- The program's rows, of its arguments. -/
theorem mixed_apply (n : Vec Ideal S128 .f32) (i : S4x2064x1024.Idx) :
    R_main_v69 (F := Ideal) (after (init s0 x l) 129) x n i
      = resultAt (acts x) (firstState s0) (bounds l) (fun w => n (ix1 w)) (i 0)
          ⟨(i 2).val / 128, by have : (i 2).val < 1024 := (i 2).isLt; omega⟩ ((i 1).val / 16)
          ⟨(i 1).val % 16, Nat.mod_lt _ (by decide)⟩ ⟨(i 2).val % 128, Nat.mod_lt _ (by decide)⟩ := by
  have h1 : (i 1).val < 2064 := (i 1).isLt
  have h2 : (i 2).val < 1024 := (i 2).isLt
  rw [finished]
  unfold resultAt
  refine congrArg₂ (fun (o : Fin 128 → EReal) (g : EReal) => finish o _ g _) (funext fun k => ?_) ?_
  · exact after_rows x s0 l 129 le_rfl ⟨(i 1).val / 16, by omega⟩ (by show (i 1).val / 16 < 129; omega) _ _ _ _
  · exact rows_eq x 4 (by decide) (i 0) ⟨(i 2).val / 128, by omega⟩ ⟨(i 1).val / 16, by omega⟩ ⟨(i 1).val % 16, by omega⟩
      ⟨(i 2).val % 128, by omega⟩ _ _ (by show (i 1).val = 16 * ((i 1).val / 16) + (i 1).val % 16; omega)
      (by show 4096 + (i 2).val = 1024 * 4 + 128 * ((i 2).val / 128) + (i 2).val % 128; omega)

/-- The program's last state, of its arguments. -/
theorem last_apply (i : S4x8x128x128.Idx) :
    (after (init s0 x l) 129).main_v49_7 i
      = stateAt (acts x) (firstState s0) (bounds l) (i 0) (i 1) 129 (i 2) (i 3) := by
  refine Eq.trans (congrArg _ (eq_ix4 i)) ?_
  exact after_state x s0 l 129 le_rfl _ _ _ _

end Recurrence

end Cert.HgrnRefIdeal.Trip

end
-- ==== Proof.HgrnRefRun.lean ====
/- The plain HGRN2 program's loop: what its buffers hold after each trip. -/
module

public import proofs.«01_k».proof.Proof.Gen.HgrnRefIdeal.Run
public import proofs.«01_k».proof.Proof.Gen.HgrnRefIdeal.Step
public import proofs.«01_k».proof.Proof.HgrnTrip
public import Idealize.ShloMosaic.Lib.Pointwise
public import Idealize.ShloMosaic.Lib.Pointwise

@[expose] public section

set_option maxRecDepth 16384

noncomputable section

namespace Cert.HgrnRefIdeal.Loop
open Idealize.ShloMosaic Idealize.ShloMosaic.TcCoe
open Cert.HgrnRefIdeal Cert.HgrnRefIdeal.Gen Cert.HgrnRefIdeal.Value
open Idealize.SL Idealize.SL.RA Idealize.SL.BI
open Idealize.SL.BI.BIBase Idealize.SL.BI.Laws Idealize.SL.ProofMode Idealize.SL.Sem
open Idealize.ShloMosaic.StableHlo
open Idealize.ShloMosaic.Tactic

/-- The buffers the loop carries hold the state `s` and the counter stands at `j`. -/
structure Holds (V : Valuation τ sig (Elt Ideal)) (s : Step.State Ideal) (j : ℕ) : Prop where
  left : V (Proc.devRef .tc main_v49_7) = s.main_v49_7
  outs : V (Proc.devRef .tc main_v49_8) = s.main_v49_8
  query : V (Proc.devRef .tc main_v49_0) = s.main_v49_0
  key : V (Proc.devRef .tc main_v49_1) = s.main_v49_1
  keyEnd : V (Proc.devRef .tc main_v49_2) = s.main_v49_2
  val : V (Proc.devRef .tc main_v49_3) = s.main_v49_3
  decay : V (Proc.devRef .tc main_v49_4) = s.main_v49_4
  mask : V (Proc.devRef .tc main_v49_5) = Step.K_main_v47 (F := Ideal)
  count : V (Proc.devRef .tc main_v49_6) = constantI S_ 32 (BitVec.ofNat 32 j)

/-- One more than the counter. -/
theorem count_succ (j : ℕ) :
    addi (constantI S_ 32 (BitVec.ofNat 32 j)) (constantI S_ 32 1#32)
      = constantI S_ 32 (BitVec.ofNat 32 (j + 1)) := by
  funext i
  show BitVec.ofNat 32 j + 1#32 = BitVec.ofNat 32 (j + 1)
  rw [BitVec.ofNat_add]

set_option maxHeartbeats 4000000 in
/-- A trip of the loop takes the state by `step`. -/
theorem Holds.next {V : Valuation τ sig (Elt Ideal)} {s : Step.State Ideal} {j : ℕ} (h : Holds V s j) :
    Holds (STEP V) (Step.step j s) (j + 1) where
  left := by
    rw [STEP_main_v49_7]
    unfold step_main_v49_7
    rw [h.left, h.keyEnd, h.decay]
    unfold res_main_while0b_v73
    rw [h.val, h.count]
    rfl
  outs := by
    rw [STEP_main_v49_8]
    unfold step_main_v49_8 res_main_while0b_v70 res_main_while0b_v73
    rw [h.left, h.outs, h.query, h.key, h.val, h.mask, h.count]
    rfl
  query := (STEP_main_v49_0 V).trans h.query
  key := (STEP_main_v49_1 V).trans h.key
  keyEnd := (STEP_main_v49_2 V).trans h.keyEnd
  val := (STEP_main_v49_3 V).trans h.val
  decay := (STEP_main_v49_4 V).trans h.decay
  mask := (STEP_main_v49_5 V).trans h.mask
  count := by
    rw [STEP_main_v49_6]
    unfold step_main_v49_6
    rw [h.count]
    exact count_succ j

variable (m : (l : Loc nD τ sig) → Buf (Elt Ideal) l) (c : Dev nD)

/-- The state the first trip is handed, of the arguments. -/
def start : Step.State Ideal :=
  Step.init (m ((c.tc : Thread nD τ).loc main_arg1)) (m ((c.tc : Thread nD τ).loc main_arg0))
    (m ((c.tc : Thread nD τ).loc main_arg2))

set_option maxRecDepth 65536 in
set_option maxHeartbeats 8000000 in
/-- At the loop's entry its buffers hold the first state. -/
theorem entry : Holds (entryContents preI m c) (start m c) 0 := by
  constructor <;> (simp only [entryContents, afterL_cons, afterL_nil]; after_reads_simp) <;> rfl

/-- After `j` trips the loop's buffers hold the state after `j` trips. -/
theorem holds : ∀ j, Holds (STEP^[j] (entryContents preI m c)) (Trip.after (start m c) j) j
  | 0 => entry m c
  | j + 1 => by
    rw [Function.iterate_succ_apply']
    exact (holds j).next

/-- The final state is the left state of the state after all 129 trips. -/
theorem last_left : (STEP^[129] (entryContents preI m c)) (Proc.devRef .tc main_v49_7)
    = (Trip.after (start m c) 129).main_v49_7 := (holds m c 129).left

set_option maxHeartbeats 4000000 in
/-- The mixed result is what the operations after the loop make of the state after all 129 trips. -/
theorem last_out : out_main_v69 (STEP^[129] (entryContents preI m c))
    = Step.R_main_v69 (Trip.after (start m c) 129) (m ((c.tc : Thread nD τ).loc main_arg0))
        (m ((c.tc : Thread nD τ).loc main_arg3)) := by
  unfold out_main_v69
  rw [(holds m c 129).outs, iter_main_arg0 m c 129, iter_main_arg3 m c 129]
  rfl

end Cert.HgrnRefIdeal.Loop

end
-- ==== Proof.HgrnClaim.lean ====
/- The HGRN2 scan: the claim that the chunked kernel and the plain program end with equal results. -/
module

public import proofs.«01_k».proof.Defs
public import proofs.«01_k».proof.Proof.HgrnValue
public import proofs.«01_k».proof.Proof.HgrnRefRun
public import proofs.«01_k».proof.Proof.HgrnTrip

@[expose] public section

set_option maxRecDepth 16384

noncomputable section

namespace Cert.HgrnClaim
open Idealize.ShloMosaic Idealize.ShloMosaic.TcCoe Idealize.SL.Sem
open Cert.HgrnIdeal.Chunks (mixedSpec lastSpec array7 array8)

/-- The chunked kernel and the reference end with equal results whenever they start from equal arguments. -/
theorem algebraic : Cert.algebraic_HgrnIdeal_HgrnRefIdeal := by
  intro m ρ m' ρ' _ hag
  refine ⟨fun c => mixedSpec m c, fun c => lastSpec m c, ?_, ?_⟩
  · exact (θ_run Cert.HgrnIdeal.defs _ _).mono
      (fun _ h c => ⟨(h c).1.trans (array7 m c), (h c).2.1.trans (array8 m c), (h c).2.2⟩)
      (Cert.HgrnIdeal.Value.run_blocks m ρ)
  · refine (θ_run Cert.HgrnRefIdeal.defs _ _).mono (fun _ h c => ⟨(h c).1.trans ?_, (h c).2.1.trans ?_, (h c).2.2⟩)
      (Cert.HgrnRefIdeal.Value.run (F := Ideal) m' ρ')
    · rw [Cert.HgrnRefIdeal.Loop.last_out]
      unfold Cert.HgrnRefIdeal.Loop.start
      rw [(hag c).1, (hag c).2.1, (hag c).2.2.1, (hag c).2.2.2]
      exact funext fun i => Cert.HgrnRefIdeal.Trip.mixed_apply _ _ _ _ i
    · rw [Cert.HgrnRefIdeal.Loop.last_left]
      unfold Cert.HgrnRefIdeal.Loop.start
      rw [(hag c).1, (hag c).2.1, (hag c).2.2.1]
      exact funext fun i => Cert.HgrnRefIdeal.Trip.last_apply _ _ _ i

end Cert.HgrnClaim

end
-- ==== Proof.FfnValue.lean ====
/- The gated feed-forward input stage: what the tiled kernel leaves in its two result arrays, at every index. -/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Tiles

open Cert.FfnIdeal Cert.FfnIdeal.Gen Idealize.ShloMosaic Idealize.ShloMosaic.TcCoe Idealize.SL.Sem
open Idealize.ShloMosaic.Pipeline (Dat)

/-- The gated activation: the tanh form of gelu of `c`, times the gate `v`. -/
def glu (c v : EReal) : EReal :=
  c * (Ideal.ofBits .f32 0x3F000000#32 * (1 + Ideal.tanh (Ideal.ofBits .f32 0x3F4C422A#32 *
    (c + Ideal.ofBits .f32 0x3D372713#32 * (c * (c * c)))))) * v

/-- The three-tap convolution at one position: the bias, then the newest, oldest and middle tap. -/
def taps (b w0 w1 w2 p0 p1 p2 : EReal) : EReal := b + w2 * p2 + w0 * p0 + w1 * p1

/-- A row of the tile's product. -/
def prod (x : Vec Ideal S2064x2048 .bf16) (W : Vec Ideal S2048x512 .bf16) (r : Fin 2064) (l : Fin 512) : EReal :=
  ∑ k : Fin 2048, x (ix2 r k) * W (ix2 k l)

/-- What the padded scratch holds from row 6 on: the two carried rows, then the rows of the product. -/
def band (x : Vec Ideal S2064x2048 .bf16) (W : Vec Ideal S2048x512 .bf16) (s : Vec Ideal S1x2x512 .f32) :
    S1x2072x512.Idx → EReal := fun i =>
  if h : 8 ≤ (i 1).val then prod x W ⟨(i 1).val - 8, by have : (i 1).val < 2072 := (i 1).isLt; omega⟩ (i 2)
  else s (ix3 0 ⟨((i 1).val - 6) % 2, Nat.mod_lt _ (by decide)⟩ (i 2))

/-- The gated tile a point writes. -/
def tile (x : Vec Ideal S2064x2048 .bf16) (W V : Vec Ideal S2048x512 .bf16) (s : Vec Ideal S1x2x512 .f32)
    (w : Vec Ideal S3x512 .f32) (b : Vec Ideal S1x512 .f32) : S2064x512.Idx → EReal := fun i =>
  glu (taps (b (ix2 0 (i 1))) (w (ix2 0 (i 1))) (w (ix2 1 (i 1))) (w (ix2 2 (i 1)))
    (band x W s (ix3 0 ⟨(i 0).val + 6, by have : (i 0).val < 2064 := (i 0).isLt; omega⟩ (i 1)))
    (band x W s (ix3 0 ⟨(i 0).val + 7, by have : (i 0).val < 2064 := (i 0).isLt; omega⟩ (i 1)))
    (prod x W (i 0) (i 1))) (prod x V (i 0) (i 1))

section Band

variable (x : Vec Ideal S2064x2048 .bf16) (W V : Vec Ideal S2048x512 .bf16) (s : Vec Ideal S1x2x512 .f32)
variable (w : Vec Ideal S3x512 .f32) (b : Vec Ideal S1x512 .f32)

/-- The stores into the padded scratch before the first load. -/
abbrev pieces1 : List (View.Piece (Elt Ideal) S1x2072x512 .f32) :=
  [⟨Rect.unit ![0, 8, 0] ![1, 688, 512] inb_S1x2072x512_S1x688x512_0_8_0,
      k0_pay7 (View.ld x (Rect.unit ![0, 0] ![688, 2048] inb_S2064x2048_S688x2048_0_0)) W⟩,
    ⟨Rect.unit ![0, 6, 0] ![1, 2, 512] inb_S1x2072x512_S1x2x512_0_6_0, k0_pay4 s⟩]

/-- Those before the second chunk's load. -/
abbrev pieces2 : List (View.Piece (Elt Ideal) S1x2072x512 .f32) :=
  ⟨Rect.unit ![0, 696, 0] ![1, 688, 512] inb_S1x2072x512_S1x688x512_0_696_0,
      k0_pay13 (View.ld x (Rect.unit ![688, 0] ![688, 2048] inb_S2064x2048_S688x2048_688_0)) W⟩ :: pieces1 x W s

/-- All of them. -/
abbrev pieces3 : List (View.Piece (Elt Ideal) S1x2072x512 .f32) :=
  ⟨Rect.unit ![0, 1384, 0] ![1, 688, 512] inb_S1x2072x512_S1x688x512_0_1384_0,
      k0_pay17 (k0_pay16 (View.ld x (Rect.unit ![1376, 0] ![688, 2048] inb_S2064x2048_S688x2048_1376_0)) W)⟩ ::
    pieces2 x W s

/-- A row of the padded scratch from row 8 on is a row of the product. -/
theorem band_prod (i : S1x2072x512.Idx) (r : Fin 2064) (l : Fin 512) (hr : (i 1).val = 8 + r.val)
    (hl : (i 2).val = l.val) : band x W s i = prod x W r l := by
  unfold band
  rw [dif_pos (by omega : 8 ≤ (i 1).val)]
  exact congrArg₂ (prod x W) (Fin.ext (by simp only [hr]; omega)) (Fin.ext hl)

/-- Rows 6 and 7 of the padded scratch are the two carried rows. -/
theorem band_old (i : S1x2072x512.Idx) (y : S1x2x512.Idx) (hr : (i 1).val = 6 + (y 1).val)
    (hl : (i 2).val = (y 2).val) : band x W s i = s y := by
  have h1 : (y 1).val < 2 := (y 1).isLt
  unfold band
  rw [dif_neg (by omega : ¬ 8 ≤ (i 1).val)]
  refine congrArg s (funext fun a => ?_)
  have h0 : (y 0).val < 1 := (y 0).isLt
  fin_cases a
  · exact Fin.ext (by show 0 = (y 0).val; omega)
  · exact Fin.ext (by show ((i 1).val - 6) % 2 = (y 1).val; omega)
  · exact Fin.ext hl

/-- Every store writes what `band` says. -/
theorem agree3 : ∀ p ∈ pieces3 x W s, ∀ y : p.1.shape.Idx, p.2 y = band x W s (p.1.emb y) := by
  simp only [pieces3, pieces2, pieces1, List.forall_mem_cons, List.not_mem_nil, false_imp_iff, implies_true, and_true]
  refine ⟨?_, ?_, ?_, ?_⟩ <;> intro y
  · rw [band_prod x W s _ ⟨1376 + (y 1).val, by have h : (y 1).val < 688 := (y 1).isLt; omega⟩ (y 2)
      (by show 1384 + 1 * (y 1).val = 8 + (1376 + (y 1).val); omega) (by show 0 + 1 * (y 2).val = (y 2).val; omega)]
    pointwise [k0_pay17, k0_pay16, prod]
  · rw [band_prod x W s _ ⟨688 + (y 1).val, by have h : (y 1).val < 688 := (y 1).isLt; omega⟩ (y 2)
      (by show 696 + 1 * (y 1).val = 8 + (688 + (y 1).val); omega) (by show 0 + 1 * (y 2).val = (y 2).val; omega)]
    pointwise [k0_pay13, k0_pay11, prod]
  · rw [band_prod x W s _ ⟨(y 1).val, by have h : (y 1).val < 688 := (y 1).isLt; omega⟩ (y 2)
      (by show 8 + 1 * (y 1).val = 8 + (y 1).val; omega) (by show 0 + 1 * (y 2).val = (y 2).val; omega)]
    pointwise [k0_pay7, k0_pay5, prod]
  · rw [band_old x W s _ y (by show 6 + 1 * (y 1).val = 6 + (y 1).val; omega)
      (by show 0 + 1 * (y 2).val = (y 2).val; omega)]
    pointwise [k0_pay4]

/-- A load reads the band where the stores before it reach: up to row 696. -/
theorem read1 (i : S1x2072x512.Idx) (h6 : 6 ≤ (i 1).val) (h : (i 1).val < 696) :
    View.canon (pieces1 x W s) i = band x W s i := by
  refine View.canon_apply_of_pieces (band x W s) _
    (fun p hp => agree3 x W s p (List.mem_cons_of_mem _ (List.mem_cons_of_mem _ hp))) i ?_
  have h0 : (i 0).val < 1 := (i 0).isLt
  have h2 : (i 2).val < 512 := (i 2).isLt
  simp only [pieces1, List.exists_mem_cons_iff, List.not_mem_nil, false_and, exists_false, or_false, Rect.mem_set_unit,
    Fin.forall_fin_succ, Fin.forall_fin_zero]
  simp
  omega

/-- Up to row 1384. -/
theorem read2 (i : S1x2072x512.Idx) (h6 : 6 ≤ (i 1).val) (h : (i 1).val < 1384) :
    View.canon (pieces2 x W s) i = band x W s i := by
  refine View.canon_apply_of_pieces (band x W s) _
    (fun p hp => agree3 x W s p (List.mem_cons_of_mem _ hp)) i ?_
  have h0 : (i 0).val < 1 := (i 0).isLt
  have h2 : (i 2).val < 512 := (i 2).isLt
  simp only [pieces2, pieces1, List.exists_mem_cons_iff, List.not_mem_nil, false_and, exists_false, or_false, Rect.mem_set_unit,
    Fin.forall_fin_succ, Fin.forall_fin_zero]
  simp
  omega

/-- Everywhere from row 6 on. -/
theorem read3 (i : S1x2072x512.Idx) (h6 : 6 ≤ (i 1).val) :
    View.canon (pieces3 x W s) i = band x W s i := by
  refine View.canon_apply_of_pieces (band x W s) (pieces3 x W s) (agree3 x W s) i ?_
  have h0 : (i 0).val < 1 := (i 0).isLt
  have h1 : (i 1).val < 2072 := (i 1).isLt
  have h2 : (i 2).val < 512 := (i 2).isLt
  simp only [pieces3, pieces2, pieces1, List.exists_mem_cons_iff, List.not_mem_nil, false_and, exists_false, or_false, Rect.mem_set_unit,
    Fin.forall_fin_succ, Fin.forall_fin_zero]
  simp
  omega

/-- A point of the padded scratch is given by its row and lane. -/
theorem point_eq (q p : S1x2072x512.Idx) (h1 : (q 1).val = (p 1).val) (h2 : (q 2).val = (p 2).val) : q = p := by
  have hq : (q 0).val < 1 := (q 0).isLt
  have hp : (p 0).val < 1 := (p 0).isLt
  funext a
  fin_cases a
  · exact Fin.ext (by show (q 0).val = (p 0).val; omega)
  · exact Fin.ext h1
  · exact Fin.ext h2

/-- What a load of a chunk's rows, `o` rows on in the padded scratch, must find. -/
def Finds (o : Nat) (f : Vec Ideal S1x688x512 .f32) : Prop :=
  ∀ i : S1x688x512.Idx, ∀ p : S1x2072x512.Idx, (p 1).val = o + (i 1).val → p 2 = i 2 → f i = band x W s p

/-- A chunk's rows, `o` rows on in the padded scratch. -/
abbrev rows (o : Nat) (inb : ∀ a, ![0, o, 0] a + ![1, 688, 512] a ≤ S1x2072x512.size a) : Rect S1x2072x512 :=
  Rect.unit ![0, o, 0] ![1, 688, 512] inb

/-- The loads of the first chunk find it, … -/
theorem finds1 {κ : Kind} {sp : Space} (v : View sig κ sp S1x2072x512 .f32) (o : Nat)
    (inb : ∀ a, ![0, o, 0] a + ![1, 688, 512] a ≤ S1x2072x512.size a) (h6 : 6 ≤ o) (h : o + 688 ≤ 696) :
    Finds x W s o (v.readCov (Val := Elt Ideal) (pieces1 x W s) (rows o inb).toLoadRect) := by
  intro i p hp hp2
  have hi : (i 1).val < 688 := (i 1).isLt
  rw [View.readCov_eq_canon']
  refine (congrArg _ (point_eq _ p ?_ ?_)).trans (read1 _ _ _ p (by omega) (by omega))
  · show o + 1 * (i 1).val = _
    omega
  · show 0 + 1 * (i 2).val = _
    rw [hp2]
    omega

/-- … those of the second, … -/
theorem finds2 {κ : Kind} {sp : Space} (v : View sig κ sp S1x2072x512 .f32) (o : Nat)
    (inb : ∀ a, ![0, o, 0] a + ![1, 688, 512] a ≤ S1x2072x512.size a) (h6 : 6 ≤ o) (h : o + 688 ≤ 1384) :
    Finds x W s o (v.readCov (Val := Elt Ideal) (pieces2 x W s) (rows o inb).toLoadRect) := by
  intro i p hp hp2
  have hi : (i 1).val < 688 := (i 1).isLt
  rw [View.readCov_eq_canon']
  refine (congrArg _ (point_eq _ p ?_ ?_)).trans (read2 _ _ _ p (by omega) (by omega))
  · show o + 1 * (i 1).val = _
    omega
  · show 0 + 1 * (i 2).val = _
    rw [hp2]
    omega

/-- … and those of the third. -/
theorem finds3 {κ : Kind} {sp : Space} (v : View sig κ sp S1x2072x512 .f32) (o : Nat)
    (inb : ∀ a, ![0, o, 0] a + ![1, 688, 512] a ≤ S1x2072x512.size a) (h6 : 6 ≤ o) :
    Finds x W s o (v.readCov (Val := Elt Ideal) (pieces3 x W s) (rows o inb).toLoadRect) := by
  intro i p hp hp2
  have hi : (i 1).val < 688 := (i 1).isLt
  rw [View.readCov_eq_canon']
  refine (congrArg _ (point_eq _ p ?_ ?_)).trans (read3 _ _ _ p (by omega))
  · show o + 1 * (i 1).val = _
    omega
  · show 0 + 1 * (i 2).val = _
    rw [hp2]
    omega

/-- The three stores of the gated tile, whose loads of the padded scratch found the band, write the tile. -/
theorem gated_tile (f1 g1 f2 g2 f3 g3 : Vec Ideal S1x688x512 .f32)
    (hf1 : Finds x W s 6 f1) (hg1 : Finds x W s 7 g1) (hf2 : Finds x W s 694 f2) (hg2 : Finds x W s 695 g2)
    (hf3 : Finds x W s 1382 f3) (hg3 : Finds x W s 1383 g3) (y : S2064x512.Idx) :
    View.canon (Val := Elt Ideal) (s := S2064x512) (e := .bf16)
      [⟨Rect.unit ![1376, 0] ![688, 512] inb_S2064x512_S688x512_1376_0,
        k0_pay18 w (k0_pay3 b)
          (View.ld x (Rect.unit ![1376, 0] ![688, 2048] inb_S2064x2048_S688x2048_1376_0))
          (k0_pay16 (View.ld x (Rect.unit ![1376, 0] ![688, 2048] inb_S2064x2048_S688x2048_1376_0)) W)
          V (constant S688x512 FTy.f32 0#32) f3 g3⟩,
      ⟨Rect.unit ![688, 0] ![688, 512] inb_S2064x512_S688x512_688_0,
        k0_pay15 w (k0_pay3 b)
          (k0_pay11 (View.ld x (Rect.unit ![688, 0] ![688, 2048] inb_S2064x2048_S688x2048_688_0)) W)
          (k0_pay12 (View.ld x (Rect.unit ![688, 0] ![688, 2048] inb_S2064x2048_S688x2048_688_0)) V)
          (k0_pay14 w) f2 g2⟩,
      ⟨Rect.unit ![0, 0] ![688, 512] inb_S2064x512_S688x512_0_0,
        k0_pay10 w
          (k0_pay6 (View.ld x (Rect.unit ![0, 0] ![688, 2048] inb_S2064x2048_S688x2048_0_0)) V)
          (k0_pay8 w b (View.ld x (Rect.unit ![0, 0] ![688, 2048] inb_S2064x2048_S688x2048_0_0)) W)
          (k0_pay9 w) f1 g1⟩] y = tile x W V s w b y := by
  canon_tiles z h
  · have e0 : y 0 = ⟨1376 + (z 0).val, by omega⟩ := Fin.ext h0
    have e1 : y 1 = z 1 := Fin.ext h1
    have ef := hf3 (ix3 0 (z 0) (z 1)) (ix3 0 ⟨(y 0).val + 6, by omega⟩ (y 1)) (by show (y 0).val + 6 = _ + (z 0).val; omega) e1
    have eg := hg3 (ix3 0 (z 0) (z 1)) (ix3 0 ⟨(y 0).val + 7, by omega⟩ (y 1)) (by show (y 0).val + 7 = _ + (z 0).val; omega) e1
    pointwise [k0_pay18, k0_pay3, k0_pay16, tile, glu, taps, prod]
    rw [ef, eg]
    simp only [e0, e1]
    try pointwise [k0_pay3, k0_pay5, k0_pay14]
  · have e0 : y 0 = ⟨688 + (z 0).val, by omega⟩ := Fin.ext h0
    have e1 : y 1 = z 1 := Fin.ext h1
    have ef := hf2 (ix3 0 (z 0) (z 1)) (ix3 0 ⟨(y 0).val + 6, by omega⟩ (y 1)) (by show (y 0).val + 6 = _ + (z 0).val; omega) e1
    have eg := hg2 (ix3 0 (z 0) (z 1)) (ix3 0 ⟨(y 0).val + 7, by omega⟩ (y 1)) (by show (y 0).val + 7 = _ + (z 0).val; omega) e1
    pointwise [k0_pay15, k0_pay3, k0_pay11, k0_pay12, k0_pay14, tile, glu, taps, prod]
    rw [ef, eg]
    simp only [e0, e1]
    try pointwise [k0_pay3, k0_pay5, k0_pay14]
  · have e0 : y 0 = ⟨(z 0).val, by omega⟩ := Fin.ext h0
    have e1 : y 1 = z 1 := Fin.ext h1
    have ef := hf1 (ix3 0 (z 0) (z 1)) (ix3 0 ⟨(y 0).val + 6, by omega⟩ (y 1)) (by show (y 0).val + 6 = _ + (z 0).val; omega) e1
    have eg := hg1 (ix3 0 (z 0) (z 1)) (ix3 0 ⟨(y 0).val + 7, by omega⟩ (y 1)) (by show (y 0).val + 7 = _ + (z 0).val; omega) e1
    pointwise [k0_pay10, k0_pay6, k0_pay8, k0_pay3, k0_pay5, k0_pay9, tile, glu, taps, prod]
    rw [ef, eg]
    simp only [e0, e1]
    try pointwise [k0_pay3, k0_pay5, k0_pay14]

end Band

variable (m : (ℓ : Loc nD τ sig) → Buf (Elt Ideal) ℓ)

/-- Which blocks a point reads and writes: the batch is the fast coordinate, the column the slow one. -/
theorem index0 : ∀ t : Fin cfg0.N, win0_0.index t = ![t.val % 4, 0] :=
  (by decide +kernel : ∀ t : Fin grid0.N, win0_0.index t = ![t.val % 4, 0])

theorem index1 : ∀ t : Fin cfg0.N, win0_1.index t = ![0, 0, t.val / 4] :=
  (by decide +kernel : ∀ t : Fin grid0.N, win0_1.index t = ![0, 0, t.val / 4])

theorem index2 : ∀ t : Fin cfg0.N, win0_2.index t = ![0, 0, t.val / 4 + 11] :=
  (by decide +kernel : ∀ t : Fin grid0.N, win0_2.index t = ![0, 0, t.val / 4 + 11])

theorem index3 : ∀ t : Fin cfg0.N, win0_3.index t = ![t.val % 4, 0, t.val / 4] :=
  (by decide +kernel : ∀ t : Fin grid0.N, win0_3.index t = ![t.val % 4, 0, t.val / 4])

theorem index4 : ∀ t : Fin cfg0.N, win0_4.index t = ![0, t.val / 4] :=
  (by decide +kernel : ∀ t : Fin grid0.N, win0_4.index t = ![0, t.val / 4])

theorem index5 : ∀ t : Fin cfg0.N, win0_5.index t = ![0, t.val / 4] :=
  (by decide +kernel : ∀ t : Fin grid0.N, win0_5.index t = ![0, t.val / 4])

theorem index6 : ∀ t : Fin cfg0.N, win0_6.index t = ![t.val % 4, t.val / 4] :=
  (by decide +kernel : ∀ t : Fin grid0.N, win0_6.index t = ![t.val % 4, t.val / 4])

theorem index7 : ∀ t : Fin cfg0.N, win0_7.index t = ![t.val % 4, 0, t.val / 4] :=
  (by decide +kernel : ∀ t : Fin grid0.N, win0_7.index t = ![t.val % 4, 0, t.val / 4])

/-- The first weight block as the scratch keeps it. -/
theorem cast1 (w : Vec Ideal S1x2048x512 .f32) (j : S2048x512.Idx) : k0_pay1 w j = w (ix3 0 (j 0) (j 1)) := by
  pointwise [k0_pay1]

/-- The second one. -/
theorem cast2 (w : Vec Ideal S1x2048x512 .f32) (j : S2048x512.Idx) : k0_pay2 w j = w (ix3 0 (j 0) (j 1)) := by
  pointwise [k0_pay2]

/-- After every point the first kept weight block is the one of the point's column. -/
theorem kept1 (c : Dev nD) : ∀ (n : Nat) (hn : n < cfg0.N),
    (outsAt0 m c n hn).2.2.1 = k0_pay1 (iblk m c 1 ⟨n, hn⟩) := by
  intro n
  induction n with
  | zero =>
    intro hn
    rw [outsAt0_A m c ⟨0, hn⟩ (by rfl)]
    frame_out
  | succ n ih =>
    intro hn
    by_cases h : (n + 1) % 4 = 0
    · rw [outsAt0_A m c ⟨n + 1, hn⟩ h]
      frame_out
    · have e := outsAt0_B m c ⟨n + 1, hn⟩ h
      rw [e]
      unfold sout0_B_1
      simp only [Nat.add_sub_cancel]
      rw [ih (by omega)]
      funext j
      rw [cast1, cast1]
      have e1 := index1 ⟨n, by omega⟩
      have e1' := index1 ⟨n + 1, hn⟩
      blk_point [iblk, V, e1, e1']

/-- Likewise the second. -/
theorem kept2 (c : Dev nD) : ∀ (n : Nat) (hn : n < cfg0.N),
    (outsAt0 m c n hn).2.2.2 = k0_pay2 (iblk m c 2 ⟨n, hn⟩) := by
  intro n
  induction n with
  | zero =>
    intro hn
    rw [outsAt0_A m c ⟨0, hn⟩ (by rfl)]
    frame_out
  | succ n ih =>
    intro hn
    by_cases h : (n + 1) % 4 = 0
    · rw [outsAt0_A m c ⟨n + 1, hn⟩ h]
      frame_out
    · have e := outsAt0_B m c ⟨n + 1, hn⟩ h
      rw [e]
      unfold sout0_B_2
      simp only [Nat.add_sub_cancel]
      rw [ih (by omega)]
      funext j
      rw [cast2, cast2]
      have e1 := index2 ⟨n, by omega⟩
      have e1' := index2 ⟨n + 1, hn⟩
      blk_point [iblk, V, e1, e1']

/-! ## The two results as functions of the whole arrays -/

section Spec

variable (x : Vec Ideal S8256x2048 .bf16) (s : Vec Ideal S4x2x5632 .f32) (w : Vec Ideal S2x2048x11264 .f32)
variable (cw : Vec Ideal S3x5632 .f32) (cb : Vec Ideal S5632 .f32)

/-- The product of the activations with the first weight matrix of the stack. -/
def hiddenAt (r : Fin 8256) (l : Fin 11264) : EReal := ∑ k : Fin 2048, x (ix2 r k) * w (ix3 0 k l)

/-- The value the convolution sees `d` rows before row `t` of batch `b`: a row of the product, or before the first row
    a carried row. -/
def past (b : Fin 4) (t : Fin 2064) (d : Fin 3) (l : Fin 5632) : EReal :=
  if h : d.val ≤ t.val then hiddenAt x w ⟨2064 * b.val + (t.val - d.val), by omega⟩ ⟨l.val, by omega⟩
  else s (ix3 b ⟨t.val + 2 - d.val, by omega⟩ l)

/-- The gated activations, row `t` of batch `b` in row `2064 b + t`. -/
def gatedAt (b : Fin 4) (t : Fin 2064) (l : Fin 5632) : EReal :=
  glu (taps (cb (ix1 l)) (cw (ix2 0 l)) (cw (ix2 1 l)) (cw (ix2 2 l)) (past x s w b t 2 l) (past x s w b t 1 l)
    (past x s w b t 0 l)) (hiddenAt x w ⟨2064 * b.val + t.val, by omega⟩ ⟨l.val + 5632, by omega⟩)

/-- The gated activations as an array. -/
def gatedSpec : Vec Ideal S8256x5632 .bf16 := fun i =>
  gatedAt x s w cw cb ⟨(i 0).val / 2064, by have : (i 0).val < 8256 := (i 0).isLt; omega⟩
    ⟨(i 0).val % 2064, Nat.mod_lt _ (by decide)⟩ (i 1)

/-- The carried state: the last two rows of every batch. -/
def stateSpec : Vec Ideal S4x2x5632 .f32 := fun i =>
  past x s w (i 0) ⟨2062 + (i 1).val, by have : (i 1).val < 2 := (i 1).isLt; omega⟩ 0 (i 2)

end Spec

section Blocks

variable (c : Dev nD) (t : Fin cfg0.N)

/-- A row of a point's product is a row of the whole product. -/
theorem prod_block (r : Fin 2064) (l : Fin 512) (R : Fin 8256) (L : Fin 11264) (hR : R.val = 2064 * (t.val % 4) + r.val)
    (hL : L.val = 512 * (t.val / 4) + l.val) :
    prod (iblk m c 0 t) (k0_pay1 (iblk m c 1 t)) r l =
      hiddenAt (m ((c : Thread nD τ).loc main_arg0)) (m ((c : Thread nD τ).loc main_arg2)) R L := by
  have e0 := index0 t
  have e1 := index1 t
  unfold prod hiddenAt
  refine Finset.sum_congr rfl fun k _ => ?_
  rw [cast1]
  refine congrArg₂ (· * ·) ?_ ?_
  · blk_point [iblk, V, e0]
  · blk_point [iblk, V, e1]

/-- Likewise the gate's product. -/
theorem gate_block (r : Fin 2064) (l : Fin 512) (R : Fin 8256) (L : Fin 11264) (hR : R.val = 2064 * (t.val % 4) + r.val)
    (hL : L.val = 512 * (t.val / 4) + l.val + 5632) :
    prod (iblk m c 0 t) (k0_pay2 (iblk m c 2 t)) r l =
      hiddenAt (m ((c : Thread nD τ).loc main_arg0)) (m ((c : Thread nD τ).loc main_arg2)) R L := by
  have e0 := index0 t
  have e1 := index2 t
  unfold prod hiddenAt
  refine Finset.sum_congr rfl fun k _ => ?_
  rw [cast2]
  refine congrArg₂ (· * ·) ?_ ?_
  · blk_point [iblk, V, e0]
  · blk_point [iblk, V, e1]

/-- A row of a point's band is what the convolution sees. -/
theorem band_block (i : S1x2072x512.Idx) (B : Fin 4) (T : Fin 2064) (d : Fin 3) (L : Fin 5632)
    (hB : B.val = t.val % 4) (hT : (i 1).val + d.val = 8 + T.val) (hL : L.val = 512 * (t.val / 4) + (i 2).val) :
    band (iblk m c 0 t) (k0_pay1 (iblk m c 1 t)) (iblk m c 3 t) i =
      past (m ((c : Thread nD τ).loc main_arg0)) (m ((c : Thread nD τ).loc main_arg1))
        (m ((c : Thread nD τ).loc main_arg2)) B T d L := by
  unfold past
  have hd : d.val < 3 := d.isLt
  split
  · rename_i h
    rw [band_prod _ _ _ i ⟨T.val - d.val, by omega⟩ (i 2) (by show (i 1).val = 8 + (T.val - d.val); omega) rfl]
    exact prod_block m c t _ _ _ _ (by show 2064 * B.val + (T.val - d.val) = 2064 * (t.val % 4) + (T.val - d.val); rw [hB])
      hL
  · rename_i h
    rw [band_old _ _ _ i (ix3 0 ⟨T.val + 2 - d.val, by omega⟩ (i 2)) (by show (i 1).val = 6 + (T.val + 2 - d.val); omega) rfl]
    have e3 := index3 t
    blk_point [iblk, V, e3]

/-- The tile a point writes, in the whole arrays. -/
theorem tile_block (y : S2064x512.Idx) (B : Fin 4) (L : Fin 5632)
    (hB : B.val = t.val % 4) (hL : L.val = 512 * (t.val / 4) + (y 1).val) :
    tile (iblk m c 0 t) (k0_pay1 (iblk m c 1 t)) (k0_pay2 (iblk m c 2 t)) (iblk m c 3 t) (iblk m c 4 t) (iblk m c 5 t) y =
      gatedAt (m ((c : Thread nD τ).loc main_arg0)) (m ((c : Thread nD τ).loc main_arg1))
        (m ((c : Thread nD τ).loc main_arg2)) (m ((c : Thread nD τ).loc main_arg3))
        (m ((c : Thread nD τ).loc main_arg4)) B (y 0) L := by
  have hy : (y 0).val < 2064 := (y 0).isLt
  unfold tile gatedAt
  rw [band_block m c t _ B (y 0) 2 L hB (by show (y 0).val + 6 + 2 = 8 + (y 0).val; omega) hL,
    band_block m c t _ B (y 0) 1 L hB (by show (y 0).val + 7 + 1 = 8 + (y 0).val; omega) hL,
    gate_block m c t (y 0) (y 1) ⟨2064 * B.val + (y 0).val, by omega⟩ ⟨L.val + 5632, by omega⟩
      (by show 2064 * B.val + (y 0).val = _; rw [hB]) (by show L.val + 5632 = _; rw [hL]),
    ← band_prod _ _ (iblk m c 3 t) (ix3 0 ⟨8 + (y 0).val, by omega⟩ (y 1)) (y 0) (y 1) rfl rfl,
    band_block m c t _ B (y 0) 0 L hB (by show 8 + (y 0).val + 0 = 8 + (y 0).val; omega) hL]
  have e4 := index4 t
  have e5 := index5 t
  have a0 : iblk m c 4 t (ix2 0 (y 1)) = m ((c : Thread nD τ).loc main_arg3) (ix2 0 L) := by
    blk_point [iblk, V, e4]
  have a1 : iblk m c 4 t (ix2 1 (y 1)) = m ((c : Thread nD τ).loc main_arg3) (ix2 1 L) := by
    blk_point [iblk, V, e4]
  have a2 : iblk m c 4 t (ix2 2 (y 1)) = m ((c : Thread nD τ).loc main_arg3) (ix2 2 L) := by
    blk_point [iblk, V, e4]
  have a3 : iblk m c 5 t (ix2 0 (y 1)) = m ((c : Thread nD τ).loc main_arg4) (ix1 L) := by
    blk_simp [iblk, V, e5]
    entry_read
    pointwise
    refine congrArg (fun l : Fin 5632 => m (c.tc.loc main_arg4) (ix1 l)) (Fin.ext ?_)
    show win0_5.index t 1 * 512 + 1 * (y 1).val = L.val
    rw [e5, hL]
    show t.val / 4 * 512 + 1 * (y 1).val = _
    omega
  rw [a0, a1, a2, a3]

end Blocks

/-- What the scratch keeps from the point before, where the column does not change: the point's own first weights. -/
theorem before1 (c : Dev nD) (t : Fin cfg0.N) (h : ¬ t.val % 4 = 0) :
    (outsAt0 m c (t.val - 1) (Nat.lt_of_le_of_lt (Nat.sub_le _ _) t.isLt)).2.2.1 = k0_pay1 (iblk m c 1 t) := by
  have e := kept1 m c t.val t.isLt
  rw [outsAt0_B m c t h] at e
  exact e

/-- And its own second weights. -/
theorem before2 (c : Dev nD) (t : Fin cfg0.N) (h : ¬ t.val % 4 = 0) :
    (outsAt0 m c (t.val - 1) (Nat.lt_of_le_of_lt (Nat.sub_le _ _) t.isLt)).2.2.2 = k0_pay2 (iblk m c 2 t) := by
  have e := kept2 m c t.val t.isLt
  rw [outsAt0_B m c t h] at e
  exact e

/-- A kept weight scratch reads back what it was given. -/
theorem scratch1_read (h : scM0_1.IsWhole) (X : Vec Ideal S2048x512 .bf16) :
    View.read (Elt Ideal) (View.whole cc0_scratch1) (h.unread X) = X := h.read_unread X

theorem scratch2_read (h : scM0_2.IsWhole) (X : Vec Ideal S2048x512 .bf16) :
    View.read (Elt Ideal) (View.whole cc0_scratch2) (h.unread X) = X := h.read_unread X

/-- The gated tile after a point. -/
theorem gated_after (c : Dev nD) (t : Fin cfg0.N) (y : S2064x512.Idx) :
    (outsAt0 m c t.val t.isLt).1 y = tile (iblk m c 0 t) (k0_pay1 (iblk m c 1 t)) (k0_pay2 (iblk m c 2 t))
      (iblk m c 3 t) (iblk m c 4 t) (iblk m c 5 t) y := by
  by_cases h : t.val % 4 = 0
  · rw [outsAt0_A m c t h]
    frame_out
    exact gated_tile _ _ _ _ _ _ _ _ _ _ _ _ (finds1 _ _ _ _ 6 _ (by decide) (by decide))
      (finds1 _ _ _ _ 7 _ (by decide) (by decide)) (finds2 _ _ _ _ 694 _ (by decide) (by decide))
      (finds2 _ _ _ _ 695 _ (by decide) (by decide)) (finds3 _ _ _ _ 1382 _ (by decide))
      (finds3 _ _ _ _ 1383 _ (by decide)) y
  · rw [outsAt0_B m c t h]
    frame_out
    simp only [scratch1_read, scratch2_read, before1 m c t h, before2 m c t h]
    exact gated_tile _ _ _ _ _ _ _ _ _ _ _ _ (finds1 _ _ _ _ 6 _ (by decide) (by decide))
      (finds1 _ _ _ _ 7 _ (by decide) (by decide)) (finds2 _ _ _ _ 694 _ (by decide) (by decide))
      (finds2 _ _ _ _ 695 _ (by decide) (by decide)) (finds3 _ _ _ _ 1382 _ (by decide))
      (finds3 _ _ _ _ 1383 _ (by decide)) y

/-- The first result array. -/
theorem array6 (c : Dev nD) : (dats m 0 c).arrAt 6 cfg0.N =
    gatedSpec (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t hf y => ?_
  have y0 : (y 0).val < 2064 := (y 0).isLt
  have ht : t.val % 4 < 4 := Nat.mod_lt _ (by decide)
  blk_simp
  rw [after0_6, gated_after]
  have h0 : ((win0_6.blk t).view.emb y 0).val = 2064 * (t.val % 4) + (y 0).val := by
    show win0_6.index t 0 * 2064 + 1 * (y 0).val = _
    rw [index6]
    show t.val % 4 * 2064 + 1 * (y 0).val = _
    omega
  have h1 : ((win0_6.blk t).view.emb y 1).val = 512 * (t.val / 4) + (y 1).val := by
    show win0_6.index t 1 * 512 + 1 * (y 1).val = _
    rw [index6]
    show t.val / 4 * 512 + 1 * (y 1).val = _
    omega
  unfold gatedSpec
  rw [tile_block m c t y ⟨t.val % 4, ht⟩ ((win0_6.blk t).view.emb y 1) rfl h1]
  refine congrArg₂ (fun b r => gatedAt _ _ _ _ _ b r _) (Fin.ext ?_) (Fin.ext ?_)
  · show t.val % 4 = ((win0_6.blk t).view.emb y 0).val / 2064
    omega
  · show (y 0).val = ((win0_6.blk t).view.emb y 0).val % 2064
    omega

/-- The state tile after a point. -/
theorem state_after (c : Dev nD) (t : Fin cfg0.N) (y : S1x2x512.Idx) :
    (outsAt0 m c t.val t.isLt).2.1 y = band (iblk m c 0 t) (k0_pay1 (iblk m c 1 t))
      (iblk m c 3 t) (ix3 0 ⟨2070 + (y 1).val, by have : (y 1).val < 2 := (y 1).isLt; omega⟩ (y 2)) := by
  by_cases h : t.val % 4 = 0
  · rw [outsAt0_A m c t h]
    frame_out
    rw [View.readCov_eq_canon']
    exact (congrArg _ (point_eq _ (ix3 0 ⟨2070 + (y 1).val, by have : (y 1).val < 2 := (y 1).isLt; omega⟩ (y 2))
      (by show 2070 + 1 * (y 1).val = 2070 + (y 1).val; omega) (by show 0 + 1 * (y 2).val = (y 2).val; omega))).trans
      (read3 _ _ _ _ (by show 6 ≤ 2070 + (y 1).val; omega))
  · rw [outsAt0_B m c t h]
    frame_out
    simp only [scratch1_read, scratch2_read, before1 m c t h, before2 m c t h]
    rw [View.readCov_eq_canon']
    exact (congrArg _ (point_eq _ (ix3 0 ⟨2070 + (y 1).val, by have : (y 1).val < 2 := (y 1).isLt; omega⟩ (y 2))
      (by show 2070 + 1 * (y 1).val = 2070 + (y 1).val; omega) (by show 0 + 1 * (y 2).val = (y 2).val; omega))).trans
      (read3 _ _ _ _ (by show 6 ≤ 2070 + (y 1).val; omega))

/-- The second result array. -/
theorem array7 (c : Dev nD) : (dats m 0 c).arrAt 7 cfg0.N =
    stateSpec (m ((c : Thread nD τ).loc main_arg0)) (m ((c : Thread nD τ).loc main_arg1))
        (m ((c : Thread nD τ).loc main_arg2)) := by
  refine (dats m 0 c).arrAt_eq_of_covers 7 _ (by decide +kernel) fun t hf y => ?_
  have y1 : (y 1).val < 2 := (y 1).isLt
  have y0 : (y 0).val < 1 := (y 0).isLt
  blk_simp
  rw [after0_7, state_after]
  have h0 : ((win0_7.blk t).view.emb y 0).val = t.val % 4 := by
    show win0_7.index t 0 * 1 + 1 * (y 0).val = _
    rw [index7]
    show t.val % 4 * 1 + 1 * (y 0).val = _
    omega
  have h1 : ((win0_7.blk t).view.emb y 1).val = (y 1).val := by
    show win0_7.index t 1 * 2 + 1 * (y 1).val = _
    rw [index7]
    show 0 * 2 + 1 * (y 1).val = _
    omega
  have h2 : ((win0_7.blk t).view.emb y 2).val = 512 * (t.val / 4) + (y 2).val := by
    show win0_7.index t 2 * 512 + 1 * (y 2).val = _
    rw [index7]
    show t.val / 4 * 512 + 1 * (y 2).val = _
    omega
  unfold stateSpec
  exact band_block m c t _ _ _ 0 _ h0 (by
    show 2070 + (y 1).val + 0 = 8 + (2062 + ((win0_7.blk t).view.emb y 1).val)
    omega) h2

end Cert.FfnIdeal.Tiles

end
-- ==== Proof.FfnClaim.lean ====
/- The gated feed-forward input stage: the reference's two results, and the claim that the tiled kernel ends with them. -/
module

public import proofs.«01_k».proof.Defs
public import proofs.«01_k».proof.Proof.FfnValue
public import proofs.«01_k».proof.Proof.Gen.FfnRefIdeal.Run
public import proofs.«01_k».proof.Proof.Gen.FfnRefIdeal.Read

@[expose] public section

set_option maxRecDepth 16384

noncomputable section

namespace Cert.FfnClaim

open Cert.FfnRefIdeal Cert.FfnRefIdeal.Read Idealize.ShloMosaic Idealize.ShloMosaic.TcCoe Idealize.SL.Sem
open Cert.FfnIdeal.Tiles (glu taps hiddenAt past gatedAt gatedSpec stateSpec)

section Reference

variable (x : Vec Ideal S8256x2048 .bf16) (s : Vec Ideal S4x2x5632 .f32) (w : Vec Ideal S2x2048x11264 .f32)
variable (cw : Vec Ideal S3x5632 .f32) (cb : Vec Ideal S5632 .f32)

/-- The reference's product, at an index. -/
theorem product_apply (i : S4x2064x11264.Idx) :
    val_main_v4 (F := Ideal) x w i = hiddenAt x w ⟨2064 * (i 0).val + (i 1).val, by
      have : (i 0).val < 4 := (i 0).isLt
      have : (i 1).val < 2064 := (i 1).isLt
      omega⟩ (i 2) := by
  pointwise [val_main_v4, val_main_v3, val_main_v2, val_main_v1, val_main_v0, hiddenAt]
  refine Finset.sum_congr rfl fun k _ => congrArg₂ (· * ·) (congrArg (fun r => x (ix2 r k)) (Fin.ext ?_)) rfl
  show (i 0).val * 2064 + (i 1).val = 2064 * (i 0).val + (i 1).val
  omega

/-- The reference's padded array holds what the convolution sees: row `p` is `d` rows before row `t`, `p + d = t + 2`. -/
theorem padded_apply (i : S4x2066x5632.Idx) (t : Fin 2064) (d : Fin 3) (h : (i 1).val + d.val = t.val + 2) :
    val_main_v7 (F := Ideal) x s w i = past x s w (i 0) t d (i 2) := by
  pointwise [val_main_v7, val_main_v5]
  have h1 : (i 1).val < 2066 := (i 1).isLt
  have h0 : (i 0).val < 4 := (i 0).isLt
  have hd : d.val < 3 := d.isLt
  unfold past
  by_cases hp : (i 1).val < 2
  · rw [dif_pos hp, dif_neg (by omega : ¬ d.val ≤ t.val)]
    refine congrArg (fun r : Fin 2 => s (ix3 (i 0) r (i 2))) (Fin.ext ?_)
    show (i 1).val = t.val + 2 - d.val
    omega
  · rw [dif_neg hp, dif_pos (by omega : d.val ≤ t.val), product_apply]
    refine congrArg (fun r : Fin 8256 => hiddenAt x w r _) (Fin.ext ?_)
    show 2064 * (i 0).val + ((i 1).val - 2) = 2064 * (i 0).val + (t.val - d.val)
    omega

/-- The newest tap may be added first. -/
theorem regroup (b p q r : EReal) : b + p + q + r = b + r + p + q := by
  rw [add_right_comm (b + p), add_right_comm b]

/-- The reference's convolution. -/
theorem conv_apply (i : S4x2064x5632.Idx) :
    val_main_v30 (F := Ideal) x s w cw cb i =
      taps (cb (ix1 (i 2))) (cw (ix2 0 (i 2))) (cw (ix2 1 (i 2))) (cw (ix2 2 (i 2))) (past x s w (i 0) (i 1) 2 (i 2))
        (past x s w (i 0) (i 1) 1 (i 2)) (past x s w (i 0) (i 1) 0 (i 2)) := by
  pointwise [val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8]
  rw [padded_apply x s w _ (i 1) 2 (by show (i 1).val + 2 = (i 1).val + 2; rfl),
    padded_apply x s w _ (i 1) 1 (by show 1 + (i 1).val + 1 = (i 1).val + 2; omega),
    padded_apply x s w _ (i 1) 0 (by show 2 + (i 1).val + 0 = (i 1).val + 2; omega)]
  exact regroup _ _ _ _

/-- The reference's gated activation. -/
theorem gated_apply (i : S4x2064x5632.Idx) :
    val_main_v44 (F := Ideal) x s w cw cb i =
      glu (val_main_v30 (F := Ideal) x s w cw cb i) (val_main_v6 (F := Ideal) x w i) := by
  pointwise [val_main_v44, val_main_v43, val_main_v42, val_main_v41, val_main_v40, val_main_v39, val_main_v38,
    val_main_v37, val_main_v36, val_main_v35, val_main_v34, val_main_v33, val_main_v32, val_main_v31, val_main_cst,
    val_main_cst_0, val_main_cst_1, val_main_cst_2]
  unfold glu
  rw [mul_assoc (val_main_v30 (F := Ideal) x s w cw cb i) (val_main_v30 (F := Ideal) x s w cw cb i)]

/-- The first result of the reference. -/
theorem reference_gated : val_main_v46 (F := Ideal) x s w cw cb = gatedSpec x s w cw cb := by
  funext i
  pointwise [val_main_v46, val_main_v45]
  have h0 : (i 0).val < 8256 := (i 0).isLt
  rw [gated_apply, conv_apply]
  have hv : val_main_v6 (F := Ideal) x w (ix3 ⟨(i 0).val / 2064, by omega⟩ ⟨(i 0).val % 2064, Nat.mod_lt _ (by decide)⟩ (i 1)) =
      hiddenAt x w ⟨2064 * ((i 0).val / 2064) + (i 0).val % 2064, by omega⟩
        ⟨(i 1).val + 5632, by have : (i 1).val < 5632 := (i 1).isLt; omega⟩ := by
    pointwise [val_main_v6]
    rw [product_apply]
    refine congrArg (fun l : Fin 11264 => hiddenAt x w _ l) (Fin.ext ?_)
    show 5632 + (i 1).val = (i 1).val + 5632
    omega
  rw [hv]
  rfl

/-- The second result of the reference. -/
theorem reference_state : val_main_v47 (F := Ideal) x s w = stateSpec x s w := by
  funext i
  have h1 : (i 1).val < 2 := (i 1).isLt
  pointwise [val_main_v47]
  exact padded_apply x s w _ ⟨2062 + (i 1).val, by omega⟩ 0 (by show 2064 + (i 1).val + 0 = 2062 + (i 1).val + 2; omega)

end Reference

/-- The tiled kernel and the reference end with equal results whenever they start from equal arguments. -/
theorem algebraic : Cert.algebraic_FfnIdeal_FfnRefIdeal := by
  intro m ρ m' ρ' _ hag
  refine ⟨fun c => gatedSpec (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4)),
    fun c => stateSpec (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2)), ?_, ?_⟩
  · exact (θ_run Cert.FfnIdeal.defs _ _).mono
      (fun _ h c => ⟨(h c).1.trans (Cert.FfnIdeal.Tiles.array6 m c), (h c).2.1.trans (Cert.FfnIdeal.Tiles.array7 m c),
        (h c).2.2⟩)
      (Cert.FfnIdeal.Value.run_blocks m ρ)
  · refine (θ_run Cert.FfnRefIdeal.defs _ _).mono (fun _ h c => ⟨(h c).1.trans ?_, (h c).2.1.trans ?_, (h c).2.2⟩)
      (Cert.FfnRefIdeal.Value.run (F := Ideal) m' ρ')
    · rw [val_main_v46_eq, reference_gated, (hag c).1, (hag c).2.1, (hag c).2.2.1, (hag c).2.2.2.1, (hag c).2.2.2.2]
    · rw [val_main_v47_eq, reference_state, (hag c).1, (hag c).2.1, (hag c).2.2.1]

end Cert.FfnClaim

end
-- ==== Proof.DownValue.lean ====
/- The down projection with its residual: what the tiled kernel leaves in its result array, at every index.
   Each output tile is written in two passes over the hidden axis; the first adds its half product to the residual
   tile, the second adds its half product to what the first left. -/
module

public import proofs.«01_k».proof.Proof.Gen.DownIdeal.Value
public import Idealize.ShloMosaic.Lib.Pipeline.ValueKit
public import Idealize.ShloMosaic.Lib.Pointwise

@[expose] public section

set_option maxRecDepth 16384

noncomputable section

namespace Cert.DownIdeal.Tiles

open Cert.DownIdeal Cert.DownIdeal.Gen Idealize.ShloMosaic Idealize.ShloMosaic.TcCoe Idealize.SL.Sem
open Idealize.ShloMosaic.Pipeline (Dat)

/-- The residual plus the row-by-column product of the activations with the first weight matrix of the stack. -/
def downSpec (x : Vec Ideal S8256x5632 .bf16) (w : Vec Ideal S2x5632x2048 .bf16) (h : Vec Ideal S8256x2048 .f32) :
    Vec Ideal S8256x2048 .f32 :=
  fun i => h i + ∑ k : Fin 5632, x (ix2 (i 0) k) * w (ix3 0 k (i 1))

/-- One half product, at an index of the tile. -/
theorem half_apply (x : Vec Ideal S688x2816 .bf16) (w : Vec Ideal S1x2816x1024 .bf16) (j : S688x1024.Idx) :
    k0_pay1 x w j = ∑ k : Fin 2816, x (ix2 (j 0) k) * w (ix3 0 k (j 1)) := by
  pointwise [k0_pay1]

/-- The first pass over a tile: the residual plus the half product. -/
theorem first_apply (x : Vec Ideal S688x2816 .bf16) (w : Vec Ideal S1x2816x1024 .bf16) (r : Vec Ideal S688x1024 .f32)
    (j : S688x1024.Idx) : k0_pay2 x w r j = r j + k0_pay1 x w j := by
  pointwise [k0_pay2]

/-- The second pass: what the first left plus the half product. -/
theorem second_apply (x : Vec Ideal S688x2816 .bf16) (w : Vec Ideal S1x2816x1024 .bf16) (r : Vec Ideal S688x1024 .f32)
    (j : S688x1024.Idx) : k0_pay3 x w r j = r j + k0_pay1 x w j := by
  pointwise [k0_pay3]

variable (m : (ℓ : Loc nD τ sig) → Buf (Elt Ideal) ℓ)

/-- Which block of the activations a point reads. -/
theorem index0 : ∀ t : Fin cfg0.N, win0_0.index t = ![t.val / 4, t.val % 2] :=
  (by decide +kernel : ∀ t : Fin grid0.N, win0_0.index t = ![t.val / 4, t.val % 2])

/-- Which block of the weights a point reads. -/
theorem index1 : ∀ t : Fin cfg0.N, win0_1.index t = ![0, t.val % 2, t.val / 2 % 2] :=
  (by decide +kernel : ∀ t : Fin grid0.N, win0_1.index t = ![0, t.val % 2, t.val / 2 % 2])

/-- Which block of the residual a point reads. -/
theorem index2 : ∀ t : Fin cfg0.N, win0_2.index t = ![t.val / 4, t.val / 2 % 2] :=
  (by decide +kernel : ∀ t : Fin grid0.N, win0_2.index t = ![t.val / 4, t.val / 2 % 2])

/-- Which tile of the result a point writes. -/
theorem index3 : ∀ t : Fin cfg0.N, win0_3.index t = ![t.val / 4, t.val / 2 % 2] :=
  (by decide +kernel : ∀ t : Fin grid0.N, win0_3.index t = ![t.val / 4, t.val / 2 % 2])

/-- A sum over the hidden axis is the sum over its two halves. -/
theorem sum_halves {M : Type*} [AddCommMonoid M] (f : Fin 5632 → M) :
    ∑ k : Fin 5632, f k = (∑ k : Fin 2816, f ⟨k.val, by omega⟩) + ∑ k : Fin 2816, f ⟨2816 + k.val, by omega⟩ :=
  Fin.sum_univ_add (a := 2816) (b := 2816) f

/-- The result array of the kernel. -/
theorem array_eq (c : Dev nD) : (dats m 0 c).arrAt 3 cfg0.N
    = downSpec (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  have hp : (⟨t.val - 1, Nat.lt_of_le_of_lt (Nat.sub_le _ _) t.isLt⟩ : Fin cfg0.N).val % 2 = 0 := by dsimp only; omega
  blk_simp
  rw [after0_3, outsAt0_B m c t (by omega) h1]
  frame_out
  rw [second_apply]
  rw [outsAt0_A m c ⟨t.val - 1, Nat.lt_of_le_of_lt (Nat.sub_le _ _) t.isLt⟩ hp (by omega)]
  frame_out
  rw [first_apply, half_apply, half_apply]
  unfold downSpec
  rw [sum_halves, ← add_assoc]
  have e0 := index0 t
  have e1 := index1 t
  have e2 := index2 ⟨t.val - 1, Nat.lt_of_le_of_lt (Nat.sub_le _ _) t.isLt⟩
  have e3 := index3 t
  have e0' := index0 ⟨t.val - 1, Nat.lt_of_le_of_lt (Nat.sub_le _ _) t.isLt⟩
  have e1' := index1 ⟨t.val - 1, Nat.lt_of_le_of_lt (Nat.sub_le _ _) t.isLt⟩
  dsimp only at e2 e0' e1'
  refine congrArg₂ (· + ·) (congrArg₂ (· + ·) ?_ (Finset.sum_congr rfl fun k _ => congrArg₂ (· * ·) ?_ ?_))
    (Finset.sum_congr rfl fun k _ => congrArg₂ (· * ·) ?_ ?_)
  all_goals blk_point [iblk, V, e0, e1, e2, e3, e0', e1']

end Cert.DownIdeal.Tiles

end
-- ==== Proof.DownClaim.lean ====
/- The down projection: the reference's result, and the claim that the tiled kernel ends with it. -/
module

public import proofs.«01_k».proof.Defs
public import proofs.«01_k».proof.Proof.DownValue
public import proofs.«01_k».proof.Proof.Gen.DownRefIdeal.Run
public import proofs.«01_k».proof.Proof.Gen.DownRefIdeal.Read

@[expose] public section

set_option maxRecDepth 16384

noncomputable section

namespace Cert.DownClaim

open Idealize.ShloMosaic Idealize.ShloMosaic.TcCoe Idealize.SL.Sem

/-- The reference computes the same function of the three arrays. -/
theorem reference_eq (x : Vec Ideal Cert.DownRefIdeal.S8256x5632 .bf16) (w : Vec Ideal Cert.DownRefIdeal.S2x5632x2048 .bf16)
    (h : Vec Ideal Cert.DownRefIdeal.S8256x2048 .f32) :
    Cert.DownRefIdeal.Read.val_main_v5 (F := Ideal) x w h = Cert.DownIdeal.Tiles.downSpec x w h := by
  funext i
  pointwise [Cert.DownRefIdeal.Read.val_main_v5, Cert.DownRefIdeal.Read.val_main_v4, Cert.DownRefIdeal.Read.val_main_v3,
    Cert.DownRefIdeal.Read.val_main_v2, Cert.DownRefIdeal.Read.val_main_v1, Cert.DownRefIdeal.Read.val_main_v0,
    Cert.DownIdeal.Tiles.downSpec]

/-- The tiled kernel and the reference end with equal results whenever they start from equal arguments. -/
theorem algebraic : Cert.algebraic_DownIdeal_DownRefIdeal := by
  intro m ρ m' ρ' _ hag
  refine ⟨fun c => Cert.DownIdeal.Tiles.downSpec (m ((c.tc : Thread Cert.DownIdeal.nD Cert.DownIdeal.τ).loc Cert.DownIdeal.main_arg0))
    (m ((c.tc : Thread Cert.DownIdeal.nD Cert.DownIdeal.τ).loc Cert.DownIdeal.main_arg1))
    (m ((c.tc : Thread Cert.DownIdeal.nD Cert.DownIdeal.τ).loc Cert.DownIdeal.main_arg2)), ?_, ?_⟩
  · exact (θ_run Cert.DownIdeal.defs _ _).mono
      (fun _ h c => ⟨(h c).1.trans (Cert.DownIdeal.Tiles.array_eq m c), (h c).2⟩)
      (Cert.DownIdeal.Value.run_blocks m ρ)
  · refine (θ_run Cert.DownRefIdeal.defs _ _).mono (fun _ h c => ⟨(h c).1.trans ?_, (h c).2⟩)
      (Cert.DownRefIdeal.Value.run (F := Ideal) m' ρ')
    rw [Cert.DownRefIdeal.Read.val_main_v5_eq, reference_eq, (hag c).1, (hag c).2.1, (hag c).2.2]

end Cert.DownClaim

end
-- ==== Proof.Products.lean ====
/- The row-by-column product which the projections compute tile by tile. -/
module

public import Idealize.ShloMosaic.Lib.Pipeline.ValueKit
public import Idealize.ShloMosaic.Lib.Pointwise

@[expose] public section

set_option maxRecDepth 16384

noncomputable section

namespace Cert.Products

open Idealize.ShloMosaic

variable {R K N : Nat}

/-- The row-by-column product of the activations with the one weight matrix of a stack. -/
def product (x : (⟨2, ![R, K]⟩ : Shape).Idx → EReal) (w : (⟨3, ![1, K, N]⟩ : Shape).Idx → EReal) :
    (⟨2, ![R, N]⟩ : Shape).Idx → EReal :=
  fun i => ∑ k : Fin K, x (ix2 (i 0) k) * w (ix3 0 k (i 1))

/-- A sum of products is the product's entry where both factors are the entry's row and column. -/
theorem product_eq (x : (⟨2, ![R, K]⟩ : Shape).Idx → EReal) (w : (⟨3, ![1, K, N]⟩ : Shape).Idx → EReal)
    (i : (⟨2, ![R, N]⟩ : Shape).Idx) (f g : Fin K → EReal) (hf : ∀ k, f k = x (ix2 (i 0) k))
    (hg : ∀ k, g k = w (ix3 0 k (i 1))) : ∑ k : Fin K, f k * g k = product x w i :=
  Finset.sum_congr rfl fun k _ => congrArg₂ (· * ·) (hf k) (hg k)

end Cert.Products

end
-- ==== Proof.EvInValue.lean ====
/- The even layer's input projection: what the tiled kernel leaves in its result array, at every index. -/
module

public import proofs.«01_k».proof.Proof.Gen.EvInIdeal.Value
public import proofs.«01_k».proof.Proof.Products
public import Idealize.ShloMosaic.Lib.Pipeline.ValueKit
public import Idealize.ShloMosaic.Lib.Pointwise

@[expose] public section

set_option maxRecDepth 16384

noncomputable section

namespace Cert.EvInIdeal.Tiles

open Cert.EvInIdeal Cert.EvInIdeal.Gen Idealize.ShloMosaic Idealize.ShloMosaic.TcCoe Idealize.SL.Sem
open Idealize.ShloMosaic.Pipeline (Dat)

/-- The weight block as the scratch keeps it. -/
theorem cast_apply (w : Vec Ideal S2048x1024 .f32) (j : S2048x1024.Idx) : k0_pay1 w j = w j := by
  pointwise [k0_pay1]

/-- A tile of the product, at an index. -/
theorem tile_apply (x : Vec Ideal S1376x2048 .bf16) (w : Vec Ideal S2048x1024 .bf16) (j : S1376x1024.Idx) :
    k0_pay2 x w j = ∑ k : Fin 2048, x (ix2 (j 0) k) * w (ix2 k (j 1)) := by
  pointwise [k0_pay2]

variable (m : (ℓ : Loc nD τ sig) → Buf (Elt Ideal) ℓ)

/-- Which block of the activations a point reads. -/
theorem index0 : ∀ t : Fin cfg0.N, win0_0.index t = ![t.val % 6, 0] :=
  (by decide +kernel : ∀ t : Fin grid0.N, win0_0.index t = ![t.val % 6, 0])

/-- Which block of the weights a point reads. -/
theorem index1 : ∀ t : Fin cfg0.N, win0_1.index t = ![0, t.val / 6] :=
  (by decide +kernel : ∀ t : Fin grid0.N, win0_1.index t = ![0, t.val / 6])

/-- Which tile of the result a point writes. -/
theorem index2 : ∀ t : Fin cfg0.N, win0_2.index t = ![t.val % 6, t.val / 6] :=
  (by decide +kernel : ∀ t : Fin grid0.N, win0_2.index t = ![t.val % 6, t.val / 6])

/-- A point's weight block, in the stacked weights. -/
theorem weight_block (c : Dev nD) (t : Fin cfg0.N) (j : S2048x1024.Idx) (l : Fin 5120)
    (hl : l.val = 1024 * (t.val / 6) + (j 1).val) :
    iblk m c 1 t j = m ((c : Thread nD τ).loc main_arg1) (ix3 0 (j 0) l) := by
  have e1 := index1 t
  blk_simp [iblk, V, e1]
  entry_read
  pointwise
  refine congrArg₂ (fun (k : Fin 2048) (l : Fin 5120) => m (c.tc.loc main_arg1) (ix3 0 k l)) (Fin.ext ?_) (Fin.ext ?_)
  · show win0_1.index t 0 * 2048 + 1 * (j 0).val = (j 0).val
    rw [e1]
    show 0 * 2048 + 1 * (j 0).val = _
    omega
  · show win0_1.index t 1 * 1024 + 1 * (j 1).val = l.val
    rw [e1, hl]
    show t.val / 6 * 1024 + 1 * (j 1).val = _
    omega

/-- After every point the kept weights are the point's own weight block: it changes only where the scratch is refilled. -/
theorem kept (c : Dev nD) : ∀ (n : Nat) (hn : n < cfg0.N),
    (outsAt0 m c n hn).2 = k0_pay1 (iblk m c 1 ⟨n, hn⟩) := by
  intro n
  induction n with
  | zero =>
    intro hn
    rw [outsAt0_A m c ⟨0, hn⟩ (by rfl)]
    frame_out
  | succ n ih =>
    intro hn
    by_cases h : (n + 1) % 6 = 0
    · rw [outsAt0_A m c ⟨n + 1, hn⟩ h]
      frame_out
    · rw [outsAt0_B m c ⟨n + 1, hn⟩ h]
      unfold sout0_B_0
      simp only [Nat.add_sub_cancel]
      rw [ih (by omega)]
      funext j
      have hN : n + 1 < 30 := hn
      have hj : (j 1).val < 1024 := (j 1).isLt
      rw [cast_apply, cast_apply, weight_block m c ⟨n, by omega⟩ j ⟨1024 * (n / 6) + (j 1).val, by omega⟩ rfl,
        weight_block m c ⟨n + 1, hn⟩ j ⟨1024 * (n / 6) + (j 1).val, by omega⟩
          (by show 1024 * (n / 6) + _ = 1024 * ((n + 1) / 6) + _; omega)]

/-- What the scratch keeps from the point before, where it is not refilled. -/
theorem before (c : Dev nD) (t : Fin cfg0.N) (h : ¬ t.val % 6 = 0) :
    (outsAt0 m c (t.val - 1) (Nat.lt_of_le_of_lt (Nat.sub_le _ _) t.isLt)).2 = k0_pay1 (iblk m c 1 t) := by
  have e := kept m c t.val t.isLt
  rw [outsAt0_B m c t h] at e
  exact e

/-- The scratch reads back what it was given. -/
theorem scratch_read (h : scM0_0.IsWhole) (X : Vec Ideal S2048x1024 .bf16) :
    View.read (Elt Ideal) (View.whole cc0_scratch0) (h.unread X) = X := h.read_unread X

/-- The tile a point writes. -/
theorem after (c : Dev nD) (t : Fin cfg0.N) (y : S1376x1024.Idx) :
    (outsAt0 m c t.val t.isLt).1 y = k0_pay2 (iblk m c 0 t) (k0_pay1 (iblk m c 1 t)) y := by
  by_cases h : t.val % 6 = 0
  · rw [outsAt0_A m c t h]
    frame_out
  · rw [outsAt0_B m c t h]
    frame_out
    simp only [scratch_read, before m c t h]

/-- The result array of the kernel. -/
theorem array_eq (c : Dev nD) : (dats m 0 c).arrAt 2 cfg0.N
    = Cert.Products.product (m ((c : Thread nD τ).loc main_arg0)) (m ((c : Thread nD τ).loc main_arg1)) := by
  refine (dats m 0 c).arrAt_eq_of_covers 2 _ (by decide +kernel) fun t hf y => ?_
  blk_simp
  rw [after0_2, after, tile_apply]
  have e0 := index0 t
  have e2 := index2 t
  refine Cert.Products.product_eq _ _ _ _ _ (fun k => ?_) (fun k => ?_)
  · blk_point [iblk, V, e0, e2]
  · rw [cast_apply]
    refine weight_block m c t (ix2 k (y 1)) _ ?_
    show win0_2.index t 1 * 1024 + 1 * (y 1).val = _
    rw [e2]
    show t.val / 6 * 1024 + 1 * (y 1).val = 1024 * (t.val / 6) + (y 1).val
    omega

end Cert.EvInIdeal.Tiles

end
-- ==== Proof.EvInClaim.lean ====
/- The even layer's input projection: the reference's result, and the claim that the tiled kernel ends with it. -/
module

public import proofs.«01_k».proof.Defs
public import proofs.«01_k».proof.Proof.EvInValue
public import proofs.«01_k».proof.Proof.Gen.EvInRefIdeal.Run
public import proofs.«01_k».proof.Proof.Gen.EvInRefIdeal.Read

@[expose] public section

set_option maxRecDepth 16384

noncomputable section

namespace Cert.EvInClaim

open Idealize.ShloMosaic Idealize.ShloMosaic.TcCoe Idealize.SL.Sem

/-- The reference computes the same function of the two arrays. -/
theorem reference_eq (x : Vec Ideal Cert.EvInRefIdeal.S8256x2048 .bf16) (w : Vec Ideal Cert.EvInRefIdeal.S1x2048x5120 .f32) :
    Cert.EvInRefIdeal.Read.val_main_v2 (F := Ideal) x w = Cert.Products.product x w := by
  funext i
  pointwise [Cert.EvInRefIdeal.Read.val_main_v2, Cert.EvInRefIdeal.Read.val_main_v1, Cert.EvInRefIdeal.Read.val_main_v0,
    Cert.Products.product]

/-- The tiled kernel and the reference end with equal results whenever they start from equal arguments. -/
theorem algebraic : Cert.algebraic_EvInIdeal_EvInRefIdeal := by
  intro m ρ m' ρ' _ hag
  refine ⟨fun c => Cert.Products.product (m ((c.tc : Thread Cert.EvInIdeal.nD Cert.EvInIdeal.τ).loc Cert.EvInIdeal.main_arg0))
    (m ((c.tc : Thread Cert.EvInIdeal.nD Cert.EvInIdeal.τ).loc Cert.EvInIdeal.main_arg1)), ?_, ?_⟩
  · exact (θ_run Cert.EvInIdeal.defs _ _).mono
      (fun _ h c => ⟨(h c).1.trans (Cert.EvInIdeal.Tiles.array_eq m c), (h c).2⟩)
      (Cert.EvInIdeal.Value.run_blocks m ρ)
  · refine (θ_run Cert.EvInRefIdeal.defs _ _).mono (fun _ h c => ⟨(h c).1.trans ?_, (h c).2⟩)
      (Cert.EvInRefIdeal.Value.run (F := Ideal) m' ρ')
    rw [Cert.EvInRefIdeal.Read.val_main_v2_eq, reference_eq, (hag c).1, (hag c).2]

end Cert.EvInClaim

end
-- ==== Proof.EvOutValue.lean ====
/- The even layer's output projection with its residual: what the tiled kernel leaves in its result array, at every index. -/
module

public import proofs.«01_k».proof.Proof.Gen.EvOutIdeal.Value
public import proofs.«01_k».proof.Proof.Products
public import Idealize.ShloMosaic.Lib.Pipeline.ValueKit
public import Idealize.ShloMosaic.Lib.Pointwise

@[expose] public section

set_option maxRecDepth 16384

noncomputable section

namespace Cert.EvOutIdeal.Tiles

open Cert.EvOutIdeal Cert.EvOutIdeal.Gen Idealize.ShloMosaic Idealize.ShloMosaic.TcCoe Idealize.SL.Sem
open Idealize.ShloMosaic.Pipeline (Dat)

/-- The residual plus the two mixers' products, the first with the upper half of the weight matrix, the second with the lower. -/
def spec (a b : Vec Ideal S8256x1024 .bf16) (w : Vec Ideal S1x2048x2048 .f32) (h : Vec Ideal S8256x2048 .f32) :
    Vec Ideal S8256x2048 .f32 :=
  fun i => h i + ((∑ k : Fin 1024, a (ix2 (i 0) k) * w (ix3 0 ⟨k.val, by omega⟩ (i 1))) +
    ∑ k : Fin 1024, b (ix2 (i 0) k) * w (ix3 0 ⟨1024 + k.val, by omega⟩ (i 1)))

/-- The first weight block as the scratch keeps it. -/
theorem cast1 (w : Vec Ideal S1x1024x1024 .f32) (j : S1024x1024.Idx) : k0_pay1 w j = w (ix3 0 (j 0) (j 1)) := by
  pointwise [k0_pay1]

/-- The second one. -/
theorem cast2 (w : Vec Ideal S1x1024x1024 .f32) (j : S1024x1024.Idx) : k0_pay2 w j = w (ix3 0 (j 0) (j 1)) := by
  pointwise [k0_pay2]

/-- A tile of the residual plus the two products, at an index. -/
theorem tile_apply (a : Vec Ideal S688x1024 .bf16) (v : Vec Ideal S1024x1024 .bf16) (b : Vec Ideal S688x1024 .bf16)
    (w : Vec Ideal S1024x1024 .bf16) (r : Vec Ideal S688x1024 .f32) (j : S688x1024.Idx) :
    k0_pay3 a v b w r j = r j + ((∑ k : Fin 1024, a (ix2 (j 0) k) * v (ix2 k (j 1))) +
      ∑ k : Fin 1024, b (ix2 (j 0) k) * w (ix2 k (j 1))) := by
  pointwise [k0_pay3]

variable (m : (ℓ : Loc nD τ sig) → Buf (Elt Ideal) ℓ)

/-- Which blocks a point reads and writes: the row block is the fast coordinate, the column the slow one. -/
theorem index0 : ∀ t : Fin cfg0.N, win0_0.index t = ![t.val % 12, 0] :=
  (by decide +kernel : ∀ t : Fin grid0.N, win0_0.index t = ![t.val % 12, 0])

theorem index1 : ∀ t : Fin cfg0.N, win0_1.index t = ![t.val % 12, 0] :=
  (by decide +kernel : ∀ t : Fin grid0.N, win0_1.index t = ![t.val % 12, 0])

theorem index2 : ∀ t : Fin cfg0.N, win0_2.index t = ![0, 0, t.val / 12] :=
  (by decide +kernel : ∀ t : Fin grid0.N, win0_2.index t = ![0, 0, t.val / 12])

theorem index3 : ∀ t : Fin cfg0.N, win0_3.index t = ![0, 1, t.val / 12] :=
  (by decide +kernel : ∀ t : Fin grid0.N, win0_3.index t = ![0, 1, t.val / 12])

theorem index4 : ∀ t : Fin cfg0.N, win0_4.index t = ![t.val % 12, t.val / 12] :=
  (by decide +kernel : ∀ t : Fin grid0.N, win0_4.index t = ![t.val % 12, t.val / 12])

theorem index5 : ∀ t : Fin cfg0.N, win0_5.index t = ![t.val % 12, t.val / 12] :=
  (by decide +kernel : ∀ t : Fin grid0.N, win0_5.index t = ![t.val % 12, t.val / 12])

/-- After every point the two kept weight blocks are the point's own: they change only where the scratch is refilled. -/
theorem kept (c : Dev nD) : ∀ (n : Nat) (hn : n < cfg0.N),
    (outsAt0 m c n hn).2 = (k0_pay1 (iblk m c 2 ⟨n, hn⟩), k0_pay2 (iblk m c 3 ⟨n, hn⟩)) := by
  intro n
  induction n with
  | zero =>
    intro hn
    rw [outsAt0_A m c ⟨0, hn⟩ (by rfl)]
    refine Prod.ext ?_ ?_
    · frame_out
    · frame_out
  | succ n ih =>
    intro hn
    by_cases h : (n + 1) % 12 = 0
    · rw [outsAt0_A m c ⟨n + 1, hn⟩ h]
      refine Prod.ext ?_ ?_
      · frame_out
      · frame_out
    · rw [outsAt0_B m c ⟨n + 1, hn⟩ h]
      unfold sout0_B_0 sout0_B_1
      simp only [Nat.add_sub_cancel]
      rw [ih (by omega)]
      have hq : (n + 1) / 12 = n / 12 := by omega
      refine Prod.ext (funext fun j => ?_) (funext fun j => ?_)
      · dsimp only
        rw [cast1, cast1]
        have e := index2 ⟨n, by omega⟩
        have e' := index2 ⟨n + 1, hn⟩
        blk_point [iblk, V, e, e']
      · dsimp only
        rw [cast2, cast2]
        have e := index3 ⟨n, by omega⟩
        have e' := index3 ⟨n + 1, hn⟩
        blk_point [iblk, V, e, e']

/-- What the scratches keep from the point before, where they are not refilled. -/
theorem before (c : Dev nD) (t : Fin cfg0.N) (h : ¬ t.val % 12 = 0) :
    (outsAt0 m c (t.val - 1) (Nat.lt_of_le_of_lt (Nat.sub_le _ _) t.isLt)).2 =
      (k0_pay1 (iblk m c 2 t), k0_pay2 (iblk m c 3 t)) := by
  have e := kept m c t.val t.isLt
  rw [outsAt0_B m c t h] at e
  exact e

/-- A scratch reads back what it was given. -/
theorem scratch1_read (h : scM0_0.IsWhole) (X : Vec Ideal S1024x1024 .bf16) :
    View.read (Elt Ideal) (View.whole cc0_scratch0) (h.unread X) = X := h.read_unread X

theorem scratch2_read (h : scM0_1.IsWhole) (X : Vec Ideal S1024x1024 .bf16) :
    View.read (Elt Ideal) (View.whole cc0_scratch1) (h.unread X) = X := h.read_unread X

/-- The tile a point writes. -/
theorem after (c : Dev nD) (t : Fin cfg0.N) (y : S688x1024.Idx) : (outsAt0 m c t.val t.isLt).1 y =
    k0_pay3 (iblk m c 0 t) (k0_pay1 (iblk m c 2 t)) (iblk m c 1 t) (k0_pay2 (iblk m c 3 t)) (iblk m c 4 t) y := by
  by_cases h : t.val % 12 = 0
  · rw [outsAt0_A m c t h]
    frame_out
  · rw [outsAt0_B m c t h]
    frame_out
    simp only [scratch1_read, scratch2_read, before m c t h]

/-- The result array of the kernel. -/
theorem array_eq (c : Dev nD) : (dats m 0 c).arrAt 5 cfg0.N
    = spec (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, after, tile_apply]
  unfold spec
  have e0 := index0 t
  have e1 := index1 t
  have e2 := index2 t
  have e3 := index3 t
  have e4 := index4 t
  have e5 := index5 t
  refine congrArg₂ (fun a b : EReal => a + b) ?_ (congrArg₂ (fun a b : EReal => a + b)
    (Finset.sum_congr rfl fun k _ => congrArg₂ (· * ·) ?_ ?_) (Finset.sum_congr rfl fun k _ => congrArg₂ (· * ·) ?_ ?_))
  · blk_point [iblk, V, e4, e5]
  · blk_point [iblk, V, e0, e5]
  · rw [cast1]
    blk_point [iblk, V, e2, e5]
  · blk_point [iblk, V, e1, e5]
  · rw [cast2]
    blk_point [iblk, V, e3, e5]

end Cert.EvOutIdeal.Tiles

end
-- ==== Proof.EvOutClaim.lean ====
/- The even layer's output projection: the reference's result, and the claim that the tiled kernel ends with it. -/
module

public import proofs.«01_k».proof.Defs
public import proofs.«01_k».proof.Proof.EvOutValue
public import proofs.«01_k».proof.Proof.Gen.EvOutRefIdeal.Run
public import proofs.«01_k».proof.Proof.Gen.EvOutRefIdeal.Read

@[expose] public section

set_option maxRecDepth 16384

noncomputable section

namespace Cert.EvOutClaim

open Idealize.ShloMosaic Idealize.ShloMosaic.TcCoe Idealize.SL.Sem

/-- A sum over the joined rows is the sum over the first mixer's part and the second's. -/
theorem sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

/-- The reference's joined rows, in the first mixer's part. -/
theorem joined_left (a b : Vec Ideal Cert.EvOutRefIdeal.S8256x1024 .bf16) (r : Fin 8256) (k : Fin 1024) :
    Cert.EvOutRefIdeal.Read.val_main_v2 (F := Ideal) a b (ix2 r ⟨k.val, by omega⟩) = a (ix2 r k) := by
  pointwise [Cert.EvOutRefIdeal.Read.val_main_v2, Cert.EvOutRefIdeal.Read.val_main_v1, Cert.EvOutRefIdeal.Read.val_main_v0]

/-- And in the second's. -/
theorem joined_right (a b : Vec Ideal Cert.EvOutRefIdeal.S8256x1024 .bf16) (r : Fin 8256) (k : Fin 1024) :
    Cert.EvOutRefIdeal.Read.val_main_v2 (F := Ideal) a b (ix2 r ⟨1024 + k.val, by omega⟩) = b (ix2 r k) := by
  pointwise [Cert.EvOutRefIdeal.Read.val_main_v2, Cert.EvOutRefIdeal.Read.val_main_v1, Cert.EvOutRefIdeal.Read.val_main_v0]

/-- The reference's result in terms of its joined rows. -/
theorem joined_eq (a b : Vec Ideal Cert.EvOutRefIdeal.S8256x1024 .bf16) (w : Vec Ideal Cert.EvOutRefIdeal.S1x2048x2048 .f32)
    (h : Vec Ideal Cert.EvOutRefIdeal.S8256x2048 .f32) (i : Cert.EvOutRefIdeal.S8256x2048.Idx) :
    Cert.EvOutRefIdeal.Read.val_main_v5 (F := Ideal) a b w h i =
      h i + ∑ k : Fin 2048, Cert.EvOutRefIdeal.Read.val_main_v2 (F := Ideal) a b (ix2 (i 0) k) * w (ix3 0 k (i 1)) := by
  pointwise [Cert.EvOutRefIdeal.Read.val_main_v5, Cert.EvOutRefIdeal.Read.val_main_v4, Cert.EvOutRefIdeal.Read.val_main_v3]

/-- The reference computes the same function of the four arrays. -/
theorem reference_eq (a b : Vec Ideal Cert.EvOutRefIdeal.S8256x1024 .bf16) (w : Vec Ideal Cert.EvOutRefIdeal.S1x2048x2048 .f32)
    (h : Vec Ideal Cert.EvOutRefIdeal.S8256x2048 .f32) :
    Cert.EvOutRefIdeal.Read.val_main_v5 (F := Ideal) a b w h = Cert.EvOutIdeal.Tiles.spec a b w h := by
  funext i
  rw [joined_eq, sum_halves]
  exact congrArg₂ (fun p q : EReal => h i + (p + q))
    (Finset.sum_congr rfl fun k _ => congrArg (fun e : EReal => e * w (ix3 0 ⟨k.val, by omega⟩ (i 1))) (joined_left a b (i 0) k))
    (Finset.sum_congr rfl fun k _ =>
      congrArg (fun e : EReal => e * w (ix3 0 ⟨1024 + k.val, by omega⟩ (i 1))) (joined_right a b (i 0) k))

/-- The tiled kernel and the reference end with equal results whenever they start from equal arguments. -/
theorem algebraic : Cert.algebraic_EvOutIdeal_EvOutRefIdeal := by
  intro m ρ m' ρ' _ hag
  refine ⟨fun c => Cert.EvOutIdeal.Tiles.spec (m ((c.tc : Thread Cert.EvOutIdeal.nD Cert.EvOutIdeal.τ).loc Cert.EvOutIdeal.main_arg0))
    (m ((c.tc : Thread Cert.EvOutIdeal.nD Cert.EvOutIdeal.τ).loc Cert.EvOutIdeal.main_arg1))
    (m ((c.tc : Thread Cert.EvOutIdeal.nD Cert.EvOutIdeal.τ).loc Cert.EvOutIdeal.main_arg2))
    (m ((c.tc : Thread Cert.EvOutIdeal.nD Cert.EvOutIdeal.τ).loc Cert.EvOutIdeal.main_arg3)), ?_, ?_⟩
  · exact (θ_run Cert.EvOutIdeal.defs _ _).mono
      (fun _ h c => ⟨(h c).1.trans (Cert.EvOutIdeal.Tiles.array_eq m c), (h c).2⟩)
      (Cert.EvOutIdeal.Value.run_blocks m ρ)
  · refine (θ_run Cert.EvOutRefIdeal.defs _ _).mono (fun _ h c => ⟨(h c).1.trans ?_, (h c).2⟩)
      (Cert.EvOutRefIdeal.Value.run (F := Ideal) m' ρ')
    rw [Cert.EvOutRefIdeal.Read.val_main_v5_eq, reference_eq, (hag c).1, (hag c).2.1, (hag c).2.2.1, (hag c).2.2.2]

end Cert.EvOutClaim

end
-- ==== Proof.RkvValue.lean ====
/- The projection to r, k or v: what the tiled kernel leaves in its result array, at every index. -/
module

public import proofs.«01_k».proof.Proof.Gen.RkvIdeal.Value
public import proofs.«01_k».proof.Proof.Products
public import Idealize.ShloMosaic.Lib.Pipeline.ValueKit
public import Idealize.ShloMosaic.Lib.Pointwise

@[expose] public section

set_option maxRecDepth 16384

noncomputable section

namespace Cert.RkvIdeal.Tiles

open Cert.RkvIdeal Cert.RkvIdeal.Gen Idealize.ShloMosaic Idealize.ShloMosaic.TcCoe Idealize.SL.Sem
open Idealize.ShloMosaic.Pipeline (Dat)

/-- The weight block as the scratch keeps it. -/
theorem cast_apply (w : Vec Ideal S2048x1024 .f32) (j : S2048x1024.Idx) : k0_pay1 w j = w j := by
  pointwise [k0_pay1]

/-- A tile of the product, at an index. -/
theorem tile_apply (x : Vec Ideal S1376x2048 .bf16) (w : Vec Ideal S2048x1024 .bf16) (j : S1376x1024.Idx) :
    k0_pay2 x w j = ∑ k : Fin 2048, x (ix2 (j 0) k) * w (ix2 k (j 1)) := by
  pointwise [k0_pay2]

variable (m : (ℓ : Loc nD τ sig) → Buf (Elt Ideal) ℓ)

/-- Which block of the activations a point reads. -/
theorem index0 : ∀ t : Fin cfg0.N, win0_0.index t = ![t.val % 6, 0] :=
  (by decide +kernel : ∀ t : Fin grid0.N, win0_0.index t = ![t.val % 6, 0])

/-- Which block of the weights a point reads. -/
theorem index1 : ∀ t : Fin cfg0.N, win0_1.index t = ![0, t.val / 6] :=
  (by decide +kernel : ∀ t : Fin grid0.N, win0_1.index t = ![0, t.val / 6])

/-- Which tile of the result a point writes. -/
theorem index2 : ∀ t : Fin cfg0.N, win0_2.index t = ![t.val % 6, t.val / 6] :=
  (by decide +kernel : ∀ t : Fin grid0.N, win0_2.index t = ![t.val % 6, t.val / 6])

/-- A point's weight block, in the stacked weights. -/
theorem weight_block (c : Dev nD) (t : Fin cfg0.N) (j : S2048x1024.Idx) (l : Fin 2048)
    (hl : l.val = 1024 * (t.val / 6) + (j 1).val) :
    iblk m c 1 t j = m ((c : Thread nD τ).loc main_arg1) (ix3 0 (j 0) l) := by
  have e1 := index1 t
  blk_simp [iblk, V, e1]
  entry_read
  pointwise
  refine congrArg₂ (fun (k : Fin 2048) (l : Fin 2048) => m (c.tc.loc main_arg1) (ix3 0 k l)) (Fin.ext ?_) (Fin.ext ?_)
  · show win0_1.index t 0 * 2048 + 1 * (j 0).val = (j 0).val
    rw [e1]
    show 0 * 2048 + 1 * (j 0).val = _
    omega
  · show win0_1.index t 1 * 1024 + 1 * (j 1).val = l.val
    rw [e1, hl]
    show t.val / 6 * 1024 + 1 * (j 1).val = _
    omega

/-- After every point the kept weights are the point's own weight block: it changes only where the scratch is refilled. -/
theorem kept (c : Dev nD) : ∀ (n : Nat) (hn : n < cfg0.N),
    (outsAt0 m c n hn).2 = k0_pay1 (iblk m c 1 ⟨n, hn⟩) := by
  intro n
  induction n with
  | zero =>
    intro hn
    rw [outsAt0_A m c ⟨0, hn⟩ (by rfl)]
    frame_out
  | succ n ih =>
    intro hn
    by_cases h : (n + 1) % 6 = 0
    · rw [outsAt0_A m c ⟨n + 1, hn⟩ h]
      frame_out
    · rw [outsAt0_B m c ⟨n + 1, hn⟩ h]
      unfold sout0_B_0
      simp only [Nat.add_sub_cancel]
      rw [ih (by omega)]
      funext j
      have hN : n + 1 < 12 := hn
      have hj : (j 1).val < 1024 := (j 1).isLt
      rw [cast_apply, cast_apply, weight_block m c ⟨n, by omega⟩ j ⟨1024 * (n / 6) + (j 1).val, by omega⟩ rfl,
        weight_block m c ⟨n + 1, hn⟩ j ⟨1024 * (n / 6) + (j 1).val, by omega⟩
          (by show 1024 * (n / 6) + _ = 1024 * ((n + 1) / 6) + _; omega)]

/-- What the scratch keeps from the point before, where it is not refilled. -/
theorem before (c : Dev nD) (t : Fin cfg0.N) (h : ¬ t.val % 6 = 0) :
    (outsAt0 m c (t.val - 1) (Nat.lt_of_le_of_lt (Nat.sub_le _ _) t.isLt)).2 = k0_pay1 (iblk m c 1 t) := by
  have e := kept m c t.val t.isLt
  rw [outsAt0_B m c t h] at e
  exact e

/-- The scratch reads back what it was given. -/
theorem scratch_read (h : scM0_0.IsWhole) (X : Vec Ideal S2048x1024 .bf16) :
    View.read (Elt Ideal) (View.whole cc0_scratch0) (h.unread X) = X := h.read_unread X

/-- The tile a point writes. -/
theorem after (c : Dev nD) (t : Fin cfg0.N) (y : S1376x1024.Idx) :
    (outsAt0 m c t.val t.isLt).1 y = k0_pay2 (iblk m c 0 t) (k0_pay1 (iblk m c 1 t)) y := by
  by_cases h : t.val % 6 = 0
  · rw [outsAt0_A m c t h]
    frame_out
  · rw [outsAt0_B m c t h]
    frame_out
    simp only [scratch_read, before m c t h]

/-- The result array of the kernel. -/
theorem array_eq (c : Dev nD) : (dats m 0 c).arrAt 2 cfg0.N
    = Cert.Products.product (m ((c : Thread nD τ).loc main_arg0)) (m ((c : Thread nD τ).loc main_arg1)) := by
  refine (dats m 0 c).arrAt_eq_of_covers 2 _ (by decide +kernel) fun t hf y => ?_
  blk_simp
  rw [after0_2, after, tile_apply]
  have e0 := index0 t
  have e2 := index2 t
  refine Cert.Products.product_eq _ _ _ _ _ (fun k => ?_) (fun k => ?_)
  · blk_point [iblk, V, e0, e2]
  · rw [cast_apply]
    refine weight_block m c t (ix2 k (y 1)) _ ?_
    show win0_2.index t 1 * 1024 + 1 * (y 1).val = _
    rw [e2]
    show t.val / 6 * 1024 + 1 * (y 1).val = 1024 * (t.val / 6) + (y 1).val
    omega

end Cert.RkvIdeal.Tiles

end
-- ==== Proof.RkvClaim.lean ====
/- The projection to r, k or v: the reference's result, and the claim that the tiled kernel ends with it. -/
module

public import proofs.«01_k».proof.Defs
public import proofs.«01_k».proof.Proof.RkvValue
public import proofs.«01_k».proof.Proof.Gen.RkvRefIdeal.Run
public import proofs.«01_k».proof.Proof.Gen.RkvRefIdeal.Read

@[expose] public section

set_option maxRecDepth 16384

noncomputable section

namespace Cert.RkvClaim

open Idealize.ShloMosaic Idealize.ShloMosaic.TcCoe Idealize.SL.Sem

/-- The reference computes the same function of the two arrays. -/
theorem reference_eq (x : Vec Ideal Cert.RkvRefIdeal.S8256x2048 .bf16) (w : Vec Ideal Cert.RkvRefIdeal.S1x2048x2048 .f32) :
    Cert.RkvRefIdeal.Read.val_main_v2 (F := Ideal) x w = Cert.Products.product x w := by
  funext i
  pointwise [Cert.RkvRefIdeal.Read.val_main_v2, Cert.RkvRefIdeal.Read.val_main_v1, Cert.RkvRefIdeal.Read.val_main_v0,
    Cert.Products.product]

/-- The tiled kernel and the reference end with equal results whenever they start from equal arguments. -/
theorem algebraic : Cert.algebraic_RkvIdeal_RkvRefIdeal := by
  intro m ρ m' ρ' _ hag
  refine ⟨fun c => Cert.Products.product (m ((c.tc : Thread Cert.RkvIdeal.nD Cert.RkvIdeal.τ).loc Cert.RkvIdeal.main_arg0))
    (m ((c.tc : Thread Cert.RkvIdeal.nD Cert.RkvIdeal.τ).loc Cert.RkvIdeal.main_arg1)), ?_, ?_⟩
  · exact (θ_run Cert.RkvIdeal.defs _ _).mono
      (fun _ h c => ⟨(h c).1.trans (Cert.RkvIdeal.Tiles.array_eq m c), (h c).2⟩)
      (Cert.RkvIdeal.Value.run_blocks m ρ)
  · refine (θ_run Cert.RkvRefIdeal.defs _ _).mono (fun _ h c => ⟨(h c).1.trans ?_, (h c).2⟩)
      (Cert.RkvRefIdeal.Value.run (F := Ideal) m' ρ')
    rw [Cert.RkvRefIdeal.Read.val_main_v2_eq, reference_eq, (hag c).1, (hag c).2]

end Cert.RkvClaim

end
-- ==== Proof.OddOutValue.lean ====
/- The odd layer's output projection with its residual: what the tiled kernel leaves in its result array, at every index. -/
module

public import proofs.«01_k».proof.Proof.Gen.OddOutIdeal.Value
public import proofs.«01_k».proof.Proof.Products
public import Idealize.ShloMosaic.Lib.Pipeline.ValueKit
public import Idealize.ShloMosaic.Lib.Pointwise

@[expose] public section

set_option maxRecDepth 16384

noncomputable section

namespace Cert.OddOutIdeal.Tiles

open Cert.OddOutIdeal Cert.OddOutIdeal.Gen Idealize.ShloMosaic Idealize.ShloMosaic.TcCoe Idealize.SL.Sem
open Idealize.ShloMosaic.Pipeline (Dat)

/-- The weight block as the scratch keeps it. -/
theorem cast_apply (w : Vec Ideal S2048x1024 .f32) (j : S2048x1024.Idx) : k0_pay1 w j = w j := by
  pointwise [k0_pay1]

/-- A tile of the residual plus the product, at an index. -/
theorem tile_apply (x : Vec Ideal S688x2048 .bf16) (w : Vec Ideal S2048x1024 .bf16) (r : Vec Ideal S688x1024 .f32)
    (j : S688x1024.Idx) : k0_pay2 x w r j = r j + ∑ k : Fin 2048, x (ix2 (j 0) k) * w (ix2 k (j 1)) := by
  pointwise [k0_pay2]

variable (m : (ℓ : Loc nD τ sig) → Buf (Elt Ideal) ℓ)

/-- Which block of the activations a point reads. -/
theorem index0 : ∀ t : Fin cfg0.N, win0_0.index t = ![t.val % 12, 0] :=
  (by decide +kernel : ∀ t : Fin grid0.N, win0_0.index t = ![t.val % 12, 0])

/-- Which block of the weights a point reads. -/
theorem index1 : ∀ t : Fin cfg0.N, win0_1.index t = ![0, t.val / 12] :=
  (by decide +kernel : ∀ t : Fin grid0.N, win0_1.index t = ![0, t.val / 12])

/-- Which tile of the residual a point reads. -/
theorem index2 : ∀ t : Fin cfg0.N, win0_2.index t = ![t.val % 12, t.val / 12] :=
  (by decide +kernel : ∀ t : Fin grid0.N, win0_2.index t = ![t.val % 12, t.val / 12])

/-- Which tile of the result a point writes. -/
theorem index3 : ∀ t : Fin cfg0.N, win0_3.index t = ![t.val % 12, t.val / 12] :=
  (by decide +kernel : ∀ t : Fin grid0.N, win0_3.index t = ![t.val % 12, t.val / 12])

/-- A point's weight block, in the stacked weights. -/
theorem weight_block (c : Dev nD) (t : Fin cfg0.N) (j : S2048x1024.Idx) (l : Fin 2048)
    (hl : l.val = 1024 * (t.val / 12) + (j 1).val) :
    iblk m c 1 t j = m ((c : Thread nD τ).loc main_arg1) (ix3 0 (j 0) l) := by
  have e1 := index1 t
  blk_simp [iblk, V, e1]
  entry_read
  pointwise
  refine congrArg₂ (fun (k : Fin 2048) (l : Fin 2048) => m (c.tc.loc main_arg1) (ix3 0 k l)) (Fin.ext ?_) (Fin.ext ?_)
  · show win0_1.index t 0 * 2048 + 1 * (j 0).val = (j 0).val
    rw [e1]
    show 0 * 2048 + 1 * (j 0).val = _
    omega
  · show win0_1.index t 1 * 1024 + 1 * (j 1).val = l.val
    rw [e1, hl]
    show t.val / 12 * 1024 + 1 * (j 1).val = _
    omega

/-- After every point the kept weights are the point's own weight block: it changes only where the scratch is refilled. -/
theorem kept (c : Dev nD) : ∀ (n : Nat) (hn : n < cfg0.N),
    (outsAt0 m c n hn).2 = k0_pay1 (iblk m c 1 ⟨n, hn⟩) := by
  intro n
  induction n with
  | zero =>
    intro hn
    rw [outsAt0_A m c ⟨0, hn⟩ (by rfl)]
    frame_out
  | succ n ih =>
    intro hn
    by_cases h : (n + 1) % 12 = 0
    · rw [outsAt0_A m c ⟨n + 1, hn⟩ h]
      frame_out
    · rw [outsAt0_B m c ⟨n + 1, hn⟩ h]
      unfold sout0_B_0
      simp only [Nat.add_sub_cancel]
      rw [ih (by omega)]
      funext j
      have hN : n + 1 < 24 := hn
      have hj : (j 1).val < 1024 := (j 1).isLt
      rw [cast_apply, cast_apply, weight_block m c ⟨n, by omega⟩ j ⟨1024 * (n / 12) + (j 1).val, by omega⟩ rfl,
        weight_block m c ⟨n + 1, hn⟩ j ⟨1024 * (n / 12) + (j 1).val, by omega⟩
          (by show 1024 * (n / 12) + _ = 1024 * ((n + 1) / 12) + _; omega)]

/-- What the scratch keeps from the point before, where it is not refilled. -/
theorem before (c : Dev nD) (t : Fin cfg0.N) (h : ¬ t.val % 12 = 0) :
    (outsAt0 m c (t.val - 1) (Nat.lt_of_le_of_lt (Nat.sub_le _ _) t.isLt)).2 = k0_pay1 (iblk m c 1 t) := by
  have e := kept m c t.val t.isLt
  rw [outsAt0_B m c t h] at e
  exact e

/-- The scratch reads back what it was given. -/
theorem scratch_read (h : scM0_0.IsWhole) (X : Vec Ideal S2048x1024 .bf16) :
    View.read (Elt Ideal) (View.whole cc0_scratch0) (h.unread X) = X := h.read_unread X

/-- The tile a point writes. -/
theorem after (c : Dev nD) (t : Fin cfg0.N) (y : S688x1024.Idx) :
    (outsAt0 m c t.val t.isLt).1 y = k0_pay2 (iblk m c 0 t) (k0_pay1 (iblk m c 1 t)) (iblk m c 2 t) y := by
  by_cases h : t.val % 12 = 0
  · rw [outsAt0_A m c t h]
    frame_out
  · rw [outsAt0_B m c t h]
    frame_out
    simp only [scratch_read, before m c t h]

/-- The residual plus the product. -/
def spec (x : Vec Ideal S8256x2048 .bf16) (w : Vec Ideal S1x2048x2048 .f32) (h : Vec Ideal S8256x2048 .f32) :
    Vec Ideal S8256x2048 .f32 := fun i => h i + Cert.Products.product x w i

/-- The result array of the kernel. -/
theorem array_eq (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, after, tile_apply]
  have e0 := index0 t
  have e2 := index2 t
  have e3 := index3 t
  refine congrArg₂ (fun a b : EReal => a + b) ?_ (Cert.Products.product_eq _ _ _ _ _ (fun k => ?_) (fun k => ?_))
  · blk_point [iblk, V, e2, e3]
  · blk_point [iblk, V, e0, e3]
  · rw [cast_apply]
    refine weight_block m c t (ix2 k (y 1)) _ ?_
    show win0_3.index t 1 * 1024 + 1 * (y 1).val = _
    rw [e3]
    show t.val / 12 * 1024 + 1 * (y 1).val = 1024 * (t.val / 12) + (y 1).val
    omega

end Cert.OddOutIdeal.Tiles

end
-- ==== Proof.OddOutClaim.lean ====
/- The odd layer's output projection: the reference's result, and the claim that the tiled kernel ends with it. -/
module

public import proofs.«01_k».proof.Defs
public import proofs.«01_k».proof.Proof.OddOutValue
public import proofs.«01_k».proof.Proof.Gen.OddOutRefIdeal.Run
public import proofs.«01_k».proof.Proof.Gen.OddOutRefIdeal.Read

@[expose] public section

set_option maxRecDepth 16384

noncomputable section

namespace Cert.OddOutClaim

open Idealize.ShloMosaic Idealize.ShloMosaic.TcCoe Idealize.SL.Sem

/-- The reference computes the same function of the three arrays. -/
theorem reference_eq (x : Vec Ideal Cert.OddOutRefIdeal.S8256x2048 .bf16) (w : Vec Ideal Cert.OddOutRefIdeal.S1x2048x2048 .f32)
    (h : Vec Ideal Cert.OddOutRefIdeal.S8256x2048 .f32) :
    Cert.OddOutRefIdeal.Read.val_main_v3 (F := Ideal) x w h = Cert.OddOutIdeal.Tiles.spec x w h := by
  funext i
  pointwise [Cert.OddOutRefIdeal.Read.val_main_v3, Cert.OddOutRefIdeal.Read.val_main_v2, Cert.OddOutRefIdeal.Read.val_main_v1,
    Cert.OddOutRefIdeal.Read.val_main_v0, Cert.OddOutIdeal.Tiles.spec, Cert.Products.product]

/-- The tiled kernel and the reference end with equal results whenever they start from equal arguments. -/
theorem algebraic : Cert.algebraic_OddOutIdeal_OddOutRefIdeal := by
  intro m ρ m' ρ' _ hag
  refine ⟨fun c => Cert.OddOutIdeal.Tiles.spec (m ((c.tc : Thread Cert.OddOutIdeal.nD Cert.OddOutIdeal.τ).loc Cert.OddOutIdeal.main_arg0))
    (m ((c.tc : Thread Cert.OddOutIdeal.nD Cert.OddOutIdeal.τ).loc Cert.OddOutIdeal.main_arg1))
    (m ((c.tc : Thread Cert.OddOutIdeal.nD Cert.OddOutIdeal.τ).loc Cert.OddOutIdeal.main_arg2)), ?_, ?_⟩
  · exact (θ_run Cert.OddOutIdeal.defs _ _).mono
      (fun _ h c => ⟨(h c).1.trans (Cert.OddOutIdeal.Tiles.array_eq m c), (h c).2⟩)
      (Cert.OddOutIdeal.Value.run_blocks m ρ)
  · refine (θ_run Cert.OddOutRefIdeal.defs _ _).mono (fun _ h c => ⟨(h c).1.trans ?_, (h c).2⟩)
      (Cert.OddOutRefIdeal.Value.run (F := Ideal) m' ρ')
    rw [Cert.OddOutRefIdeal.Read.val_main_v3_eq, reference_eq, (hag c).1, (hag c).2.1, (hag c).2.2]

end Cert.OddOutClaim

end
-- ==== Proof.GluValue.lean ====
/- The gate behind the S5 scan: what the tiled kernel leaves in its result array, at every index. -/
module

public import proofs.«01_k».proof.Proof.Gen.GluIdeal.Value
public import proofs.«01_k».proof.Proof.Products
public import Idealize.ShloMosaic.Lib.Pipeline.ValueKit
public import Idealize.ShloMosaic.Lib.Pointwise

@[expose] public section

set_option maxRecDepth 16384

noncomputable section

namespace Cert.GluIdeal.Tiles

open Cert.GluIdeal Cert.GluIdeal.Gen Idealize.ShloMosaic Idealize.ShloMosaic.TcCoe Idealize.SL.Sem
open Idealize.ShloMosaic.Pipeline (Dat)

/-- The weight block as the scratch keeps it. -/
theorem cast_apply (w : Vec Ideal S1024x1024 .f32) (j : S1024x1024.Idx) : k0_pay1 w j = w j := by
  pointwise [k0_pay1]

/-- A tile of the gated rows, at an index. -/
theorem tile_apply (x : Vec Ideal S1376x1024 .f32) (w : Vec Ideal S1024x1024 .bf16) (r : Vec Ideal S1376x1024 .f32)
    (j : S1376x1024.Idx) : k0_pay2 x w r j = r j * Ideal.logistic (∑ k : Fin 1024, x (ix2 (j 0) k) * w (ix2 k (j 1))) := by
  pointwise [k0_pay2]

variable (m : (ℓ : Loc nD τ sig) → Buf (Elt Ideal) ℓ)

/-- Which block of the activations a point reads. -/
theorem index0 : ∀ t : Fin cfg0.N, win0_0.index t = ![t.val % 6, 0] :=
  (by decide +kernel : ∀ t : Fin grid0.N, win0_0.index t = ![t.val % 6, 0])

/-- Which block of the weights a point reads. -/
theorem index1 : ∀ t : Fin cfg0.N, win0_1.index t = ![0, t.val / 6] :=
  (by decide +kernel : ∀ t : Fin grid0.N, win0_1.index t = ![0, t.val / 6])

/-- Which tile of the rows to gate a point reads. -/
theorem index2 : ∀ t : Fin cfg0.N, win0_2.index t = ![t.val % 6, t.val / 6] :=
  (by decide +kernel : ∀ t : Fin grid0.N, win0_2.index t = ![t.val % 6, t.val / 6])

/-- Which tile of the result a point writes. -/
theorem index3 : ∀ t : Fin cfg0.N, win0_3.index t = ![t.val % 6, t.val / 6] :=
  (by decide +kernel : ∀ t : Fin grid0.N, win0_3.index t = ![t.val % 6, t.val / 6])

/-- A point's weight block, in the stacked weights. -/
theorem weight_block (c : Dev nD) (t : Fin cfg0.N) (j : S1024x1024.Idx) (l : Fin 1024)
    (hl : l.val = 1024 * (t.val / 6) + (j 1).val) :
    iblk m c 1 t j = m ((c : Thread nD τ).loc main_arg1) (ix3 0 (j 0) l) := by
  have e1 := index1 t
  blk_simp [iblk, V, e1]
  entry_read
  pointwise
  refine congrArg₂ (fun (k : Fin 1024) (l : Fin 1024) => m (c.tc.loc main_arg1) (ix3 0 k l)) (Fin.ext ?_) (Fin.ext ?_)
  · show win0_1.index t 0 * 1024 + 1 * (j 0).val = (j 0).val
    rw [e1]
    show 0 * 1024 + 1 * (j 0).val = _
    omega
  · show win0_1.index t 1 * 1024 + 1 * (j 1).val = l.val
    rw [e1, hl]
    show t.val / 6 * 1024 + 1 * (j 1).val = _
    omega

/-- After every point the kept weights are the point's own weight block: it changes only where the scratch is refilled. -/
theorem kept (c : Dev nD) : ∀ (n : Nat) (hn : n < cfg0.N),
    (outsAt0 m c n hn).2 = k0_pay1 (iblk m c 1 ⟨n, hn⟩) := by
  intro n
  induction n with
  | zero =>
    intro hn
    rw [outsAt0_A m c ⟨0, hn⟩ (by rfl)]
    frame_out
  | succ n ih =>
    intro hn
    by_cases h : (n + 1) % 6 = 0
    · rw [outsAt0_A m c ⟨n + 1, hn⟩ h]
      frame_out
    · rw [outsAt0_B m c ⟨n + 1, hn⟩ h]
      unfold sout0_B_0
      simp only [Nat.add_sub_cancel]
      rw [ih (by omega)]
      funext j
      have hN : n + 1 < 6 := hn
      have hj : (j 1).val < 1024 := (j 1).isLt
      rw [cast_apply, cast_apply, weight_block m c ⟨n, by omega⟩ j ⟨1024 * (n / 6) + (j 1).val, by omega⟩ rfl,
        weight_block m c ⟨n + 1, hn⟩ j ⟨1024 * (n / 6) + (j 1).val, by omega⟩
          (by show 1024 * (n / 6) + _ = 1024 * ((n + 1) / 6) + _; omega)]

/-- What the scratch keeps from the point before, where it is not refilled. -/
theorem before (c : Dev nD) (t : Fin cfg0.N) (h : ¬ t.val % 6 = 0) :
    (outsAt0 m c (t.val - 1) (Nat.lt_of_le_of_lt (Nat.sub_le _ _) t.isLt)).2 = k0_pay1 (iblk m c 1 t) := by
  have e := kept m c t.val t.isLt
  rw [outsAt0_B m c t h] at e
  exact e

/-- The scratch reads back what it was given. -/
theorem scratch_read (h : scM0_0.IsWhole) (X : Vec Ideal S1024x1024 .bf16) :
    View.read (Elt Ideal) (View.whole cc0_scratch0) (h.unread X) = X := h.read_unread X

/-- The tile a point writes. -/
theorem after (c : Dev nD) (t : Fin cfg0.N) (y : S1376x1024.Idx) :
    (outsAt0 m c t.val t.isLt).1 y = k0_pay2 (iblk m c 0 t) (k0_pay1 (iblk m c 1 t)) (iblk m c 2 t) y := by
  by_cases h : t.val % 6 = 0
  · rw [outsAt0_A m c t h]
    frame_out
  · rw [outsAt0_B m c t h]
    frame_out
    simp only [scratch_read, before m c t h]

/-- Every entry times the logistic function of the product. -/
def spec (x : Vec Ideal S8256x1024 .f32) (w : Vec Ideal S1x1024x1024 .f32) : Vec Ideal S8256x1024 .bf16 :=
  fun i => x i * Ideal.logistic (Cert.Products.product x w i)

/-- The result array of the kernel. -/
theorem array_eq (c : Dev nD) : (dats m 0 c).arrAt 3 cfg0.N
    = spec (m ((c : Thread nD τ).loc main_arg0)) (m ((c : Thread nD τ).loc main_arg1)) := by
  refine (dats m 0 c).arrAt_eq_of_covers 3 _ (by decide +kernel) fun t hf y => ?_
  blk_simp
  rw [after0_3, after, tile_apply]
  have e0 := index0 t
  have e2 := index2 t
  have e3 := index3 t
  refine congrArg₂ (fun a b : EReal => a * Ideal.logistic b) ?_ (Cert.Products.product_eq _ _ _ _ _ (fun k => ?_) (fun k => ?_))
  · blk_point [iblk, V, e2, e3]
  · blk_point [iblk, V, e0, e3]
  · rw [cast_apply]
    refine weight_block m c t (ix2 k (y 1)) _ ?_
    show win0_3.index t 1 * 1024 + 1 * (y 1).val = _
    rw [e3]
    show t.val / 6 * 1024 + 1 * (y 1).val = 1024 * (t.val / 6) + (y 1).val
    omega

end Cert.GluIdeal.Tiles

end
-- ==== Proof.GluClaim.lean ====
/- The gate behind the S5 scan: the reference's result, and the claim that the tiled kernel ends with it. -/
module

public import proofs.«01_k».proof.Defs
public import proofs.«01_k».proof.Proof.GluValue
public import proofs.«01_k».proof.Proof.Gen.GluRefIdeal.Run
public import proofs.«01_k».proof.Proof.Gen.GluRefIdeal.Read

@[expose] public section

set_option maxRecDepth 16384

noncomputable section

namespace Cert.GluClaim

open Idealize.ShloMosaic Idealize.ShloMosaic.TcCoe Idealize.SL.Sem

/-- The reference computes the same function of the two arrays. -/
theorem reference_eq (x : Vec Ideal Cert.GluRefIdeal.S8256x1024 .f32) (w : Vec Ideal Cert.GluRefIdeal.S1x1024x1024 .f32) :
    Cert.GluRefIdeal.Read.val_main_v9 (F := Ideal) x w = Cert.GluIdeal.Tiles.spec x w := by
  funext i
  pointwise [Cert.GluRefIdeal.Read.val_main_v9, Cert.GluRefIdeal.Read.val_main_v8, Cert.GluRefIdeal.Read.val_main_v7,
    Cert.GluRefIdeal.Read.val_main_v6, Cert.GluRefIdeal.Read.val_main_v5, Cert.GluRefIdeal.Read.val_main_v4,
    Cert.GluRefIdeal.Read.val_main_v3, Cert.GluRefIdeal.Read.val_main_v2, Cert.GluRefIdeal.Read.val_main_v1,
    Cert.GluRefIdeal.Read.val_main_v0, Cert.GluRefIdeal.Read.val_main_cst, Cert.GluRefIdeal.Read.val_main_cst_0,
    Cert.GluIdeal.Tiles.spec, Cert.Products.product, Ideal.logistic]

/-- The tiled kernel and the reference end with equal results whenever they start from equal arguments. -/
theorem algebraic : Cert.algebraic_GluIdeal_GluRefIdeal := by
  intro m ρ m' ρ' _ hag
  refine ⟨fun c => Cert.GluIdeal.Tiles.spec (m ((c.tc : Thread Cert.GluIdeal.nD Cert.GluIdeal.τ).loc Cert.GluIdeal.main_arg0))
    (m ((c.tc : Thread Cert.GluIdeal.nD Cert.GluIdeal.τ).loc Cert.GluIdeal.main_arg1)), ?_, ?_⟩
  · exact (θ_run Cert.GluIdeal.defs _ _).mono
      (fun _ h c => ⟨(h c).1.trans (Cert.GluIdeal.Tiles.array_eq m c), (h c).2⟩)
      (Cert.GluIdeal.Value.run_blocks m ρ)
  · refine (θ_run Cert.GluRefIdeal.defs _ _).mono (fun _ h c => ⟨(h c).1.trans ?_, (h c).2⟩)
      (Cert.GluRefIdeal.Value.run (F := Ideal) m' ρ')
    rw [Cert.GluRefIdeal.Read.val_main_v9_eq, reference_eq, (hag c).1, (hag c).2]

end Cert.GluClaim

end
-- ==== Proof.Norm.lean ====
/- The normalisation of one row. -/
module

public import Idealize.ShloMosaic.Lib.Pipeline.ValueKit
public import Idealize.ShloMosaic.Lib.Pointwise

@[expose] public section

set_option maxRecDepth 16384

noncomputable section

namespace Cert.Norm

open Idealize.ShloMosaic

/-- One entry of a normalised row: the entry over the root of the row's mean square, times the weight. -/
def normed {K : Nat} (x w : Fin K → EReal) (l : Fin K) : EReal :=
  x l * Ideal.rsqrt (Ideal.div (∑ k : Fin K, x k * x k) (Ideal.ofBits .f32 0x45000000#32)
    + Ideal.ofBits .f32 0x358637BD#32) * w l

/-- Entries agree where the rows and the weights do. -/
theorem normed_congr {K : Nat} {x x' w w' : Fin K → EReal} (hx : ∀ k, x k = x' k) (hw : ∀ k, w k = w' k) (l : Fin K) :
    normed x w l = normed x' w' l := by
  obtain rfl : x = x' := funext hx
  obtain rfl : w = w' := funext hw
  rfl

end Cert.Norm

end
-- ==== Proof.FinalValue.lean ====
/- The last normalisation: what the tiled kernel leaves in its result array, at every index. -/
module

public import proofs.«01_k».proof.Proof.Gen.FinalIdeal.Value
public import proofs.«01_k».proof.Proof.Norm
public import Idealize.ShloMosaic.Lib.Pipeline.ValueKit
public import Idealize.ShloMosaic.Lib.Pointwise

@[expose] public section

set_option maxRecDepth 16384

noncomputable section

namespace Cert.FinalIdeal.Tiles

open Cert.FinalIdeal Cert.FinalIdeal.Gen Idealize.ShloMosaic Idealize.ShloMosaic.TcCoe Idealize.SL.Sem
open Idealize.ShloMosaic.Pipeline (Dat)

/-- The normalised rows behind the 16 leading rows of every sequence: row `r` of sequence `b` is row `2064 b + 16 + r`. -/
def spec (x : Vec Ideal S8256x2048 .f32) (w : Vec Ideal S2048 .f32) : Vec Ideal S8192x2048 .f32 := fun i =>
  Cert.Norm.normed (fun k : Fin 2048 => x (ix2 ⟨(i 0).val / 2048 * 2064 + (16 + (i 0).val % 2048), by
    have : (i 0).val < 8192 := (i 0).isLt
    omega⟩ k)) (fun k => w (ix1 k)) (i 1)

/-- A tile of normalised rows, at an index. -/
theorem tile_apply (x : Vec Ideal S1024x2048 .f32) (w : Vec Ideal S1x2048 .f32) (j : S1024x2048.Idx) :
    k0_pay1 x w j = Cert.Norm.normed (fun k : Fin 2048 => x (ix2 (j 0) k)) (fun k => w (ix2 0 k)) (j 1) := by
  pointwise [k0_pay1, Cert.Norm.normed]

variable (m : (ℓ : Loc nD τ sig) → Buf (Elt Ideal) ℓ)

/-- At which row a point's block of the operand begins. -/
theorem index0 : ∀ t : Fin cfg0.N, win0_0.index t = ![2064 * (t.val / 2) + 16 + 1024 * (t.val % 2), 0] :=
  (by decide +kernel : ∀ t : Fin grid0.N, win0_0.index t = ![2064 * (t.val / 2) + 16 + 1024 * (t.val % 2), 0])

/-- Every point reads the whole weight row. -/
theorem index1 : ∀ t : Fin cfg0.N, win0_1.index t = ![0, 0] :=
  (by decide +kernel : ∀ t : Fin grid0.N, win0_1.index t = ![0, 0])

/-- Which tile of the result a point writes. -/
theorem index2 : ∀ t : Fin cfg0.N, win0_2.index t = ![t.val, 0] :=
  (by decide +kernel : ∀ t : Fin grid0.N, win0_2.index t = ![t.val, 0])

/-- A point's weight row is the weights. -/
theorem weight_row (c : Dev nD) (t : Fin cfg0.N) (k : Fin 2048) :
    iblk m c 1 t (ix2 0 k) = m ((c : Thread nD τ).loc main_arg1) (ix1 k) := by
  have e1 := index1 t
  blk_simp [iblk, V, e1]
  entry_read
  pointwise
  refine congrArg (fun l : Fin 2048 => m (c.tc.loc main_arg1) (ix1 l)) (Fin.ext ?_)
  show win0_1.index t 1 * 2048 + 1 * k.val = k.val
  rw [e1]
  show 0 * 2048 + 1 * k.val = k.val
  omega

/-- The result array of the kernel. -/
theorem array_eq (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [tile_apply]
  have e0 := index0 t
  have e2 := index2 t
  refine (Cert.Norm.normed_congr (fun k => ?_) (fun k => weight_row m c t k) _).trans
    (congrArg (Cert.Norm.normed _ _) (Fin.ext ?_))
  · blk_point [iblk, V, e0, e2]
    · show win0_0.index t 0 + 1 * (y 0).val = _
      rw [e0]
      show 2064 * (t.val / 2) + 16 + 1024 * (t.val % 2) + 1 * (y 0).val = _
      have hy : (y 0).val < 1024 := (y 0).isLt
      omega
    · show win0_0.index t 1 + 1 * k.val = _
      rw [e0]
      show 0 + 1 * k.val = _
      omega
  · show (y 1).val = win0_2.index t 1 * 2048 + 1 * (y 1).val
    rw [e2]
    show (y 1).val = 0 * 2048 + 1 * (y 1).val
    omega

end Cert.FinalIdeal.Tiles

end
-- ==== Proof.FinalClaim.lean ====
/- The last normalisation: the reference's result, and the claim that the tiled kernel ends with it. -/
module

public import proofs.«01_k».proof.Defs
public import proofs.«01_k».proof.Proof.FinalValue
public import proofs.«01_k».proof.Proof.Gen.FinalRefIdeal.Run
public import proofs.«01_k».proof.Proof.Gen.FinalRefIdeal.Read

@[expose] public section

set_option maxRecDepth 16384

noncomputable section

namespace Cert.FinalClaim

open Idealize.ShloMosaic Idealize.ShloMosaic.TcCoe Idealize.SL.Sem

/-- The reference computes the same function of the two arrays. -/
theorem reference_eq (x : Vec Ideal Cert.FinalRefIdeal.S8256x2048 .f32) (w : Vec Ideal Cert.FinalRefIdeal.S2048 .f32) :
    Cert.FinalRefIdeal.Read.val_main_v15 (F := Ideal) x w = Cert.FinalIdeal.Tiles.spec x w := by
  funext i
  pointwise [Cert.FinalRefIdeal.Read.val_main_v15, Cert.FinalRefIdeal.Read.val_main_v14, Cert.FinalRefIdeal.Read.val_main_v13,
    Cert.FinalRefIdeal.Read.val_main_v12, Cert.FinalRefIdeal.Read.val_main_v11,
    Cert.FinalRefIdeal.Read.val_main_v10, Cert.FinalRefIdeal.Read.val_main_v9, Cert.FinalRefIdeal.Read.val_main_v8,
    Cert.FinalRefIdeal.Read.val_main_v7, Cert.FinalRefIdeal.Read.val_main_v6, Cert.FinalRefIdeal.Read.val_main_v5,
    Cert.FinalRefIdeal.Read.val_main_v4, Cert.FinalRefIdeal.Read.val_main_v3, Cert.FinalRefIdeal.Read.val_main_v2,
    Cert.FinalRefIdeal.Read.val_main_v1, Cert.FinalRefIdeal.Read.val_main_v0, Cert.FinalRefIdeal.Read.val_main_cst,
    Cert.FinalRefIdeal.Read.val_main_cst_0, Cert.FinalRefIdeal.Read.val_main_cst_1, Cert.FinalIdeal.Tiles.spec,
    Cert.Norm.normed]

/-- The tiled kernel and the reference end with equal results whenever they start from equal arguments. -/
theorem algebraic : Cert.algebraic_FinalIdeal_FinalRefIdeal := by
  intro m ρ m' ρ' _ hag
  refine ⟨fun c => Cert.FinalIdeal.Tiles.spec (m ((c.tc : Thread Cert.FinalIdeal.nD Cert.FinalIdeal.τ).loc Cert.FinalIdeal.main_arg0))
    (m ((c.tc : Thread Cert.FinalIdeal.nD Cert.FinalIdeal.τ).loc Cert.FinalIdeal.main_arg1)), ?_, ?_⟩
  · exact (θ_run Cert.FinalIdeal.defs _ _).mono
      (fun _ h c => ⟨(h c).1.trans (Cert.FinalIdeal.Tiles.array_eq m c), (h c).2⟩)
      (Cert.FinalIdeal.Value.run_blocks m ρ)
  · refine (θ_run Cert.FinalRefIdeal.defs _ _).mono (fun _ h c => ⟨(h c).1.trans ?_, (h c).2⟩)
      (Cert.FinalRefIdeal.Value.run (F := Ideal) m' ρ')
    rw [Cert.FinalRefIdeal.Read.val_main_v15_eq, reference_eq, (hag c).1, (hag c).2]

end Cert.FinalClaim

end
-- ==== Proof.MixValue.lean ====
/- The normalisation with the six token mixes: what the tiled kernel leaves in its seven result arrays, at every index. -/
module

public import proofs.«01_k».proof.Proof.Gen.MixIdeal.Value
public import proofs.«01_k».proof.Proof.Norm
public import Idealize.ShloMosaic.Lib.Pipeline.ValueKit
public import Idealize.ShloMosaic.Lib.Pointwise

@[expose] public section

set_option maxRecDepth 16384

noncomputable section

namespace Cert.MixIdeal.Tiles

open Cert.MixIdeal Cert.MixIdeal.Gen Idealize.ShloMosaic Idealize.ShloMosaic.TcCoe Idealize.SL.Sem
open Idealize.ShloMosaic.Pipeline (Dat)

/-- A token mix: from the entry `a` towards the one before it, `p`, by the weight `u`. -/
def mixed (a p u : EReal) : EReal := a + (p - a) * u

/-- Mixes agree where their three entries do. -/
theorem mixed_congr {a a' p p' u u' : EReal} (ha : a = a') (hp : p = p') (hu : u = u') : mixed a p u = mixed a' p' u' := by
  rw [ha, hp, hu]

section Tile

variable (x : Vec Ideal S32x8x2048 .f32) (w : Vec Ideal S1x2048 .f32) (s : Vec Ideal S32x1x2048 .f32)

/-- A normalised row of a tile. -/
def row (b : Fin 32) (r : Fin 8) (l : Fin 2048) : EReal :=
  Cert.Norm.normed (fun k : Fin 2048 => x (ix3 b r k)) (fun k => w (ix2 0 k)) l

/-- The tile's normalised rows, at an index. -/
theorem row_apply (y : S32x8x2048.Idx) : k0_pay4 x w y = row x w (y 0) (y 1) (y 2) := by
  pointwise [k0_pay4, row, Cert.Norm.normed]

/-- What the scratch holds from row 7 on: the carried row, then the normalised rows. -/
def band : S32x16x2048.Idx → EReal := fun i =>
  if h : 8 ≤ (i 1).val then row x w (i 0) ⟨(i 1).val - 8, by have : (i 1).val < 16 := (i 1).isLt; omega⟩ (i 2)
  else s (ix3 (i 0) 0 (i 2))

/-- The two stores into the scratch. -/
abbrev pieces : List (View.Piece (Elt Ideal) S32x16x2048 .f32) :=
  [⟨Rect.unit ![0, 8, 0] ![32, 8, 2048] inb_S32x16x2048_S32x8x2048_0_8_0, k0_pay6 x w⟩,
    ⟨Rect.unit ![0, 7, 0] ![32, 1, 2048] inb_S32x16x2048_S32x1x2048_0_7_0, k0_pay5 s⟩]

/-- Row `8 + r` of the scratch is normalised row `r`. -/
theorem band_row (i : S32x16x2048.Idx) (y : S32x8x2048.Idx) (h0 : (i 0).val = (y 0).val)
    (h1 : (i 1).val = 8 + (y 1).val) (h2 : (i 2).val = (y 2).val) :
    band x w s i = row x w (y 0) (y 1) (y 2) := by
  unfold band
  rw [dif_pos (by omega : 8 ≤ (i 1).val)]
  have e0 : (i 0 : Fin 32) = y 0 := Fin.ext h0
  have e2 : (i 2 : Fin 2048) = y 2 := Fin.ext h2
  rw [e0, e2]
  exact congrArg (fun r => row x w (y 0) r (y 2)) (Fin.ext (by simp only [h1]; omega))

/-- Row 7 of the scratch is the carried row. -/
theorem band_old (i : S32x16x2048.Idx) (y : S32x1x2048.Idx) (h0 : (i 0).val = (y 0).val)
    (h1 : (i 1).val = 7 + (y 1).val) (h2 : (i 2).val = (y 2).val) : band x w s i = s y := by
  have hy : (y 1).val < 1 := (y 1).isLt
  unfold band
  rw [dif_neg (by omega : ¬ 8 ≤ (i 1).val)]
  refine congrArg s (funext fun a => ?_)
  fin_cases a
  · exact Fin.ext h0
  · exact Fin.ext (by show 0 = (y 1).val; omega)
  · exact Fin.ext h2

/-- Both stores write what `band` says. -/
theorem agree : ∀ p ∈ pieces x w s, ∀ y : p.1.shape.Idx, p.2 y = band x w s (p.1.emb y) := by
  simp only [pieces, List.forall_mem_cons, List.not_mem_nil, false_imp_iff, implies_true, and_true]
  refine ⟨?_, ?_⟩ <;> intro y
  · rw [band_row x w s _ y (by show 0 + 1 * (y 0).val = (y 0).val; omega)
      (by show 8 + 1 * (y 1).val = 8 + (y 1).val; omega) (by show 0 + 1 * (y 2).val = (y 2).val; omega)]
    refine Eq.trans ?_ (row_apply x w y)
    pointwise [k0_pay6]
  · rw [band_old x w s _ y (by show 0 + 1 * (y 0).val = (y 0).val; omega)
      (by show 7 + 1 * (y 1).val = 7 + (y 1).val; omega) (by show 0 + 1 * (y 2).val = (y 2).val; omega)]
    pointwise [k0_pay5]

/-- The scratch, read from row 7 on, holds the band. -/
theorem read (i : S32x16x2048.Idx) (h7 : 7 ≤ (i 1).val) : View.canon (pieces x w s) i = band x w s i := by
  refine View.canon_apply_of_pieces (band x w s) (pieces x w s) (agree x w s) i ?_
  have h0 : (i 0).val < 32 := (i 0).isLt
  have h1 : (i 1).val < 16 := (i 1).isLt
  have h2 : (i 2).val < 2048 := (i 2).isLt
  simp only [pieces, List.exists_mem_cons_iff, List.not_mem_nil, false_and, exists_false, or_false, Rect.mem_set_unit,
    Fin.forall_fin_succ, Fin.forall_fin_zero]
  simp
  omega

/-- The row before row `r` of a tile: the carried row before the first one. -/
def before (b : Fin 32) (r : Fin 8) (l : Fin 2048) : EReal :=
  if h : 1 ≤ r.val then row x w b ⟨r.val - 1, by omega⟩ l else s (ix3 b 0 l)

/-- The eight rows from row 7 on. -/
abbrev eight : Rect S32x16x2048 := Rect.unit ![0, 7, 0] ![32, 8, 2048] inb_S32x16x2048_S32x8x2048_0_7_0

/-- The load of the eight rows from row 7 on finds the rows before. -/
theorem load_apply {κ : Kind} {sp : Space} (v : View sig κ sp S32x16x2048 .f32) (y : S32x8x2048.Idx) :
    (v.readCov (Val := Elt Ideal) (pieces x w s) eight.toLoadRect : Vec Ideal S32x8x2048 .f32) y
      = before x w s (y 0) (y 1) (y 2) := by
  have h0 : (y 0).val < 32 := (y 0).isLt
  have h1 : (y 1).val < 8 := (y 1).isLt
  have h2 : (y 2).val < 2048 := (y 2).isLt
  rw [View.readCov_eq_canon']
  refine (read x w s _ (by show 7 ≤ 7 + 1 * (y 1).val; omega)).trans ?_
  unfold before
  split
  · rename_i h
    exact band_row x w s _ (ix3 (y 0) ⟨(y 1).val - 1, by omega⟩ (y 2)) (by show 0 + 1 * (y 0).val = (y 0).val; omega)
      (by show 7 + 1 * (y 1).val = 8 + ((y 1).val - 1); omega) (by show 0 + 1 * (y 2).val = (y 2).val; omega)
  · rename_i h
    exact band_old x w s _ (ix3 (y 0) 0 (y 2)) (by show 0 + 1 * (y 0).val = (y 0).val; omega)
      (by show 7 + 1 * (y 1).val = 7 + 0; omega) (by show 0 + 1 * (y 2).val = (y 2).val; omega)

variable (R : Vec Ideal S32x8x2048 .f32) (u : Vec Ideal S1x2048 .f32) (y : S32x8x2048.Idx)

/-- The difference to the row before, at an index. -/
theorem diff_apply : k0_pay7 x w R y = R y - row x w (y 0) (y 1) (y 2) := by
  rw [← row_apply]
  pointwise [k0_pay7]

/-- The first stored mix, at an index. -/
theorem mix0 : k0_pay8 x w R u y = mixed (row x w (y 0) (y 1) (y 2)) (R y) (u (ix2 0 (y 2))) := by
  unfold mixed
  rw [← diff_apply, ← row_apply]
  pointwise [k0_pay8]

/-- The second one. -/
theorem mix1 : k0_pay9 (k0_pay4 x w) (k0_pay7 x w R) u y
    = mixed (row x w (y 0) (y 1) (y 2)) (R y) (u (ix2 0 (y 2))) := by
  unfold mixed
  rw [← diff_apply, ← row_apply]
  pointwise [k0_pay9]

/-- The third one. -/
theorem mix2 : k0_pay10 (k0_pay4 x w) (k0_pay7 x w R) u y
    = mixed (row x w (y 0) (y 1) (y 2)) (R y) (u (ix2 0 (y 2))) := by
  unfold mixed
  rw [← diff_apply, ← row_apply]
  pointwise [k0_pay10]

/-- The fourth one. -/
theorem mix3 : k0_pay11 (k0_pay4 x w) (k0_pay7 x w R) u y
    = mixed (row x w (y 0) (y 1) (y 2)) (R y) (u (ix2 0 (y 2))) := by
  unfold mixed
  rw [← diff_apply, ← row_apply]
  pointwise [k0_pay11]

/-- The fifth one. -/
theorem mix4 : k0_pay12 (k0_pay4 x w) (k0_pay7 x w R) u y
    = mixed (row x w (y 0) (y 1) (y 2)) (R y) (u (ix2 0 (y 2))) := by
  unfold mixed
  rw [← diff_apply, ← row_apply]
  pointwise [k0_pay12]

/-- The sixth one. -/
theorem mix5 : k0_pay1 (k0_pay4 x w) (k0_pay7 x w R) (k0_pay13 u) y
    = mixed (row x w (y 0) (y 1) (y 2)) (R y) (u (ix2 0 (y 2))) := by
  unfold mixed
  rw [← diff_apply, ← row_apply]
  pointwise [k0_pay1, k0_pay13]

/-- The row kept for the next call is the last one. -/
theorem kept (z : S32x1x2048.Idx) : k0_pay2 (k0_pay4 x w) z = row x w (z 0) 7 (z 2) := by
  rw [show row x w (z 0) 7 (z 2) = k0_pay4 x w (ix3 (z 0) 7 (z 2)) from (row_apply x w (ix3 (z 0) 7 (z 2))).symm]
  pointwise [k0_pay2]

end Tile

/-! ## The results as functions of the whole arrays -/

section Spec

variable (h : Vec Ideal S1024x2048 .f32) (sh : Vec Ideal S1x128x2048 .f32) (ln : Vec Ideal S2x2048 .f32)
variable (mu : Vec Ideal S1x6x2048 .f32)

/-- Normalised row `r` of sequence `b`: row `8 b + r` of the activations, with the second of the two weight rows. -/
def xnAt (b : Fin 128) (r : Fin 8) (l : Fin 2048) : EReal :=
  Cert.Norm.normed (fun k : Fin 2048 => h (ix2 ⟨b.val * 8 + r.val, by omega⟩ k)) (fun k => ln (ix2 1 k)) l

/-- The row before it: before the first row the carried one. -/
def prevAt (b : Fin 128) (r : Fin 8) (l : Fin 2048) : EReal :=
  if q : 1 ≤ r.val then xnAt h ln b ⟨r.val - 1, by omega⟩ l else sh (ix3 0 b l)

/-- Mix `j`. -/
def mixSpec (j : Fin 6) : Vec Ideal S128x8x2048 .bf16 := fun i =>
  mixed (xnAt h ln (i 0) (i 1) (i 2)) (prevAt h sh ln (i 0) (i 1) (i 2)) (mu (ix3 0 j (i 2)))

/-- The last normalised row of every sequence. -/
def lastSpec : Vec Ideal S128x1x2048 .f32 := fun i => xnAt h ln (i 0) 7 (i 2)

end Spec

variable (m : (ℓ : Loc nD τ sig) → Buf (Elt Ideal) ℓ)

/-- A point reads the rows of 32 sequences, … -/
theorem index0 : ∀ t : Fin cfg0.N, win0_0.index t = ![t.val, 0, 0] :=
  (by decide +kernel : ∀ t : Fin grid0.N, win0_0.index t = ![t.val, 0, 0])

/-- … their carried rows, … -/
theorem index1 : ∀ t : Fin cfg0.N, win0_1.index t = ![t.val, 0, 0] :=
  (by decide +kernel : ∀ t : Fin grid0.N, win0_1.index t = ![t.val, 0, 0])

/-- … the weight row … -/
theorem index2 : ∀ t : Fin cfg0.N, win0_2.index t = ![0, 0] :=
  (by decide +kernel : ∀ t : Fin grid0.N, win0_2.index t = ![0, 0])

/-- … and all weights of the mixes. -/
theorem index3 : ∀ t : Fin cfg0.N, win0_3.index t = ![0, 0] :=
  (by decide +kernel : ∀ t : Fin grid0.N, win0_3.index t = ![0, 0])

/-- It writes the mixes and the kept rows of the same sequences. -/
theorem index_out : ∀ t : Fin cfg0.N, win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0]
    ∧ win0_10.index t = ![t.val, 0, 0] :=
  (by decide +kernel : ∀ t : Fin grid0.N, win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0]
    ∧ win0_10.index t = ![t.val, 0, 0])

section Blocks

variable (c : Dev nD) (t : Fin cfg0.N)

/-- A point's activations. -/
theorem block0 (b : Fin 32) (r : Fin 8) (l : Fin 2048) (B : Fin 128) (hB : B.val = t.val * 32 + b.val) :
    iblk m c 0 t (ix3 b r l)
      = m ((c : Thread nD τ).loc main_arg0) (ix2 ⟨B.val * 8 + r.val, by omega⟩ l) := by
  have e := index0 t
  blk_simp [iblk, V, e]
  entry_read
  pointwise
  refine congrArg₂ (fun (p : Fin 1024) (q : Fin 2048) => m (c.tc.loc main_arg0) (ix2 p q)) (Fin.ext ?_) (Fin.ext ?_)
  · show (win0_0.index t 0 * 32 + 1 * b.val) * 8 + (win0_0.index t 1 * 8 + 1 * r.val) = B.val * 8 + r.val
    rw [e, hB]
    show (t.val * 32 + 1 * b.val) * 8 + (0 * 8 + 1 * r.val) = _
    omega
  · show win0_0.index t 2 * 2048 + 1 * l.val = l.val
    rw [e]
    show 0 * 2048 + 1 * l.val = _
    omega

/-- A point's carried rows. -/
theorem block1 (b : Fin 32) (l : Fin 2048) (B : Fin 128) (hB : B.val = t.val * 32 + b.val) :
    iblk m c 1 t (ix3 b 0 l) = m ((c : Thread nD τ).loc main_arg1) (ix3 0 B l) := by
  have e := index1 t
  blk_simp [iblk, V, e]
  entry_read
  pointwise
  refine congrArg₂ (fun (p : Fin 128) (q : Fin 2048) => m (c.tc.loc main_arg1) (ix3 0 p q)) (Fin.ext ?_) (Fin.ext ?_)
  · show win0_1.index t 0 * 32 + 1 * b.val = B.val
    rw [e, hB]
    show t.val * 32 + 1 * b.val = _
    omega
  · show win0_1.index t 2 * 2048 + 1 * l.val = l.val
    rw [e]
    show 0 * 2048 + 1 * l.val = _
    omega

/-- The weight row. -/
theorem block2 (k : Fin 2048) : iblk m c 2 t (ix2 0 k) = m ((c : Thread nD τ).loc main_arg2) (ix2 1 k) := by
  have e := index2 t
  blk_simp [iblk, V, e]
  entry_read
  pointwise
  refine congrArg (fun q : Fin 2048 => m (c.tc.loc main_arg2) (ix2 1 q)) (Fin.ext ?_)
  show win0_2.index t 1 * 2048 + 1 * k.val = k.val
  rw [e]
  show 0 * 2048 + 1 * k.val = _
  omega

/-- The weights of the mixes. -/
theorem block3 (j : Fin 6) (k : Fin 2048) :
    iblk m c 3 t (ix2 j k) = m ((c : Thread nD τ).loc main_arg3) (ix3 0 j k) := by
  have e := index3 t
  blk_simp [iblk, V, e]
  entry_read
  pointwise
  refine congrArg₂ (fun (p : Fin 6) (q : Fin 2048) => m (c.tc.loc main_arg3) (ix3 0 p q)) (Fin.ext ?_) (Fin.ext ?_)
  · show win0_3.index t 0 * 6 + 1 * j.val = j.val
    rw [e]
    show 0 * 6 + 1 * j.val = _
    omega
  · show win0_3.index t 1 * 2048 + 1 * k.val = k.val
    rw [e]
    show 0 * 2048 + 1 * k.val = _
    omega

/-- A normalised row of a point's tile is one of the whole arrays. -/
theorem row_block (b : Fin 32) (r : Fin 8) (l : Fin 2048) (B : Fin 128) (hB : B.val = t.val * 32 + b.val) :
    row (iblk m c 0 t) (iblk m c 2 t) b r l
      = xnAt (m ((c : Thread nD τ).loc main_arg0)) (m ((c : Thread nD τ).loc main_arg2)) B r l :=
  Cert.Norm.normed_congr (fun k => block0 m c t b r k B hB) (fun k => block2 m c t k) l

/-- Likewise the row before it. -/
theorem before_block (b : Fin 32) (r : Fin 8) (l : Fin 2048) (B : Fin 128) (hB : B.val = t.val * 32 + b.val) :
    before (iblk m c 0 t) (iblk m c 2 t) (iblk m c 1 t) b r l
      = prevAt (m ((c : Thread nD τ).loc main_arg0)) (m ((c : Thread nD τ).loc main_arg1))
          (m ((c : Thread nD τ).loc main_arg2)) B r l := by
  unfold before prevAt
  split
  · exact row_block m c t b _ l B hB
  · exact block1 m c t b l B hB

/-- The one-row load of the mixes' weights. -/
theorem weight_row (j : Fin 6) (inb : ∀ a, ![j.val, 0] a + ![1, 2048] a ≤ S6x2048.size a) (l : Fin 2048) :
    (View.ld (iblk m c 3 t) (Rect.unit ![j.val, 0] ![1, 2048] inb) : Vec Ideal S1x2048 .f32) (ix2 0 l)
      = m ((c : Thread nD τ).loc main_arg3) (ix3 0 j l) := by
  refine Eq.trans ?_ (block3 m c t j l)
  rw [View.ld_apply]
  refine congrArg (iblk m c 3 t) (funext fun a => ?_)
  fin_cases a
  · exact Fin.ext (by show j.val + 1 * 0 = j.val; omega)
  · exact Fin.ext (by show 0 + 1 * l.val = l.val; omega)

/-- One mix of a point's tile, in the whole arrays: what the six result windows have in common. -/
theorem mix_block (j : Fin 6) (inb : ∀ a, ![j.val, 0] a + ![1, 2048] a ≤ S6x2048.size a) {κ : Kind} {sp : Space}
    (v : View sig κ sp S32x16x2048 .f32) (y : S32x8x2048.Idx) (i : S128x8x2048.Idx)
    (ix : Fin 3 → Nat) (e : ix = ![t.val, 0, 0]) (h0 : (i 0).val = ix 0 * 32 + 1 * (y 0).val)
    (h1 : (i 1).val = ix 1 * 8 + 1 * (y 1).val) (h2 : (i 2).val = ix 2 * 2048 + 1 * (y 2).val) :
    mixed (row (iblk m c 0 t) (iblk m c 2 t) (y 0) (y 1) (y 2))
      ((v.readCov (Val := Elt Ideal) (pieces (iblk m c 0 t) (iblk m c 2 t) (iblk m c 1 t)) eight.toLoadRect :
        Vec Ideal S32x8x2048 .f32) y)
      ((View.ld (iblk m c 3 t) (Rect.unit ![j.val, 0] ![1, 2048] inb) : Vec Ideal S1x2048 .f32) (ix2 0 (y 2)))
    = mixSpec (m ((c : Thread nD τ).loc main_arg0)) (m ((c : Thread nD τ).loc main_arg1))
        (m ((c : Thread nD τ).loc main_arg2)) (m ((c : Thread nD τ).loc main_arg3)) j i := by
  subst e
  have h0' : (i 0).val = t.val * 32 + (y 0).val := h0.trans (by show t.val * 32 + 1 * (y 0).val = _; omega)
  have e1 : (i 1 : Fin 8) = y 1 := Fin.ext (h1.trans (by show 0 * 8 + 1 * (y 1).val = _; omega))
  have e2 : (i 2 : Fin 2048) = y 2 := Fin.ext (h2.trans (by show 0 * 2048 + 1 * (y 2).val = _; omega))
  unfold mixSpec
  rw [e1, e2]
  exact mixed_congr (row_block m c t (y 0) (y 1) (y 2) (i 0) h0')
    ((load_apply _ _ _ v y).trans (before_block m c t (y 0) (y 1) (y 2) (i 0) h0')) (weight_row m c t j inb (y 2))

/-- The kept row of a point's tile, in the whole arrays. -/
theorem last_block (z : S32x1x2048.Idx) (i : S128x1x2048.Idx) (ix : Fin 3 → Nat) (e : ix = ![t.val, 0, 0])
    (h0 : (i 0).val = ix 0 * 32 + 1 * (z 0).val) (h2 : (i 2).val = ix 2 * 2048 + 1 * (z 2).val) :
    row (iblk m c 0 t) (iblk m c 2 t) (z 0) 7 (z 2)
      = lastSpec (m ((c : Thread nD τ).loc main_arg0)) (m ((c : Thread nD τ).loc main_arg2)) i := by
  subst e
  have h0' : (i 0).val = t.val * 32 + (z 0).val := h0.trans (by show t.val * 32 + 1 * (z 0).val = _; omega)
  have e2 : (i 2 : Fin 2048) = z 2 := Fin.ext (h2.trans (by show 0 * 2048 + 1 * (z 2).val = _; omega))
  unfold lastSpec
  rw [e2]
  exact row_block m c t (z 0) 7 (z 2) (i 0) h0'

end Blocks

/-! ## The seven result arrays -/

section Arrays

variable (c : Dev nD)

/-- The first result array is the first mix. -/
theorem array0 : (dats m 0 c).arrAt 4 cfg0.N
    = mixSpec (m ((c : Thread nD τ).loc main_arg0)) (m ((c : Thread nD τ).loc main_arg1))
        (m ((c : Thread nD τ).loc main_arg2)) (m ((c : Thread nD τ).loc main_arg3)) 0 := by
  refine (dats m 0 c).arrAt_eq_of_covers 4 _ (by decide +kernel) fun t hf y => ?_
  blk_simp
  rw [after0_4]
  unfold outsAt0
  dsimp only
  frame_out
  rw [mix0]
  exact mix_block m c t 0 _ _ y _ (win0_4.index t) (index_out t).1 rfl rfl rfl

/-- The second result array is the second mix. -/
theorem array1 : (dats m 0 c).arrAt 5 cfg0.N
    = mixSpec (m ((c : Thread nD τ).loc main_arg0)) (m ((c : Thread nD τ).loc main_arg1))
        (m ((c : Thread nD τ).loc main_arg2)) (m ((c : Thread nD τ).loc main_arg3)) 1 := by
  refine (dats m 0 c).arrAt_eq_of_covers 5 _ (by decide +kernel) fun t hf y => ?_
  blk_simp
  rw [after0_5]
  unfold outsAt0
  dsimp only
  frame_out
  rw [mix1]
  exact mix_block m c t 1 _ _ y _ (win0_5.index t) (index_out t).2.1 rfl rfl rfl

/-- The third result array is the third mix. -/
theorem array2 : (dats m 0 c).arrAt 6 cfg0.N
    = mixSpec (m ((c : Thread nD τ).loc main_arg0)) (m ((c : Thread nD τ).loc main_arg1))
        (m ((c : Thread nD τ).loc main_arg2)) (m ((c : Thread nD τ).loc main_arg3)) 2 := by
  refine (dats m 0 c).arrAt_eq_of_covers 6 _ (by decide +kernel) fun t hf y => ?_
  blk_simp
  rw [after0_6]
  unfold outsAt0
  dsimp only
  frame_out
  rw [mix2]
  exact mix_block m c t 2 _ _ y _ (win0_6.index t) (index_out t).2.2.1 rfl rfl rfl

/-- The fourth result array is the fourth mix. -/
theorem array3 : (dats m 0 c).arrAt 7 cfg0.N
    = mixSpec (m ((c : Thread nD τ).loc main_arg0)) (m ((c : Thread nD τ).loc main_arg1))
        (m ((c : Thread nD τ).loc main_arg2)) (m ((c : Thread nD τ).loc main_arg3)) 3 := by
  refine (dats m 0 c).arrAt_eq_of_covers 7 _ (by decide +kernel) fun t hf y => ?_
  blk_simp
  rw [after0_7]
  unfold outsAt0
  dsimp only
  frame_out
  rw [mix3]
  exact mix_block m c t 3 _ _ y _ (win0_7.index t) (index_out t).2.2.2.1 rfl rfl rfl

/-- The fifth result array is the fifth mix. -/
theorem array4 : (dats m 0 c).arrAt 8 cfg0.N
    = mixSpec (m ((c : Thread nD τ).loc main_arg0)) (m ((c : Thread nD τ).loc main_arg1))
        (m ((c : Thread nD τ).loc main_arg2)) (m ((c : Thread nD τ).loc main_arg3)) 4 := by
  refine (dats m 0 c).arrAt_eq_of_covers 8 _ (by decide +kernel) fun t hf y => ?_
  blk_simp
  rw [after0_8]
  unfold outsAt0
  dsimp only
  frame_out
  rw [mix4]
  exact mix_block m c t 4 _ _ y _ (win0_8.index t) (index_out t).2.2.2.2.1 rfl rfl rfl

/-- The sixth result array is the sixth mix. -/
theorem array5 : (dats m 0 c).arrAt 9 cfg0.N
    = mixSpec (m ((c : Thread nD τ).loc main_arg0)) (m ((c : Thread nD τ).loc main_arg1))
        (m ((c : Thread nD τ).loc main_arg2)) (m ((c : Thread nD τ).loc main_arg3)) 5 := by
  refine (dats m 0 c).arrAt_eq_of_covers 9 _ (by decide +kernel) fun t hf y => ?_
  blk_simp
  rw [after0_9]
  unfold outsAt0
  dsimp only
  frame_out
  rw [mix5]
  exact mix_block m c t 5 _ _ y _ (win0_9.index t) (index_out t).2.2.2.2.2.1 rfl rfl rfl

/-- The seventh result array is the last normalised row of every sequence. -/
theorem array6 : (dats m 0 c).arrAt 10 cfg0.N
    = lastSpec (m ((c : Thread nD τ).loc main_arg0)) (m ((c : Thread nD τ).loc main_arg2)) := by
  refine (dats m 0 c).arrAt_eq_of_covers 10 _ (by decide +kernel) fun t hf y => ?_
  blk_simp
  rw [after0_10]
  unfold outsAt0
  dsimp only
  frame_out
  rw [kept]
  exact last_block m c t y _ (win0_10.index t) (index_out t).2.2.2.2.2.2 rfl rfl

end Arrays

end Cert.MixIdeal.Tiles

end
-- ==== Proof.MixClaim.lean ====
/- The normalisation with the six token mixes: the reference's results, and the claim that the tiled kernel ends with them. -/
module

public import proofs.«01_k».proof.Defs
public import proofs.«01_k».proof.Proof.MixValue
public import proofs.«01_k».proof.Proof.Gen.MixRefIdeal.Run
public import proofs.«01_k».proof.Proof.Gen.MixRefIdeal.Read

@[expose] public section

set_option maxRecDepth 16384

noncomputable section

namespace Cert.MixClaim

open Idealize.ShloMosaic Idealize.ShloMosaic.TcCoe Idealize.SL.Sem

section Reference

variable (h : Vec Ideal Cert.MixRefIdeal.S1024x2048 .f32) (sh : Vec Ideal Cert.MixRefIdeal.S1x128x2048 .f32)
variable (ln : Vec Ideal Cert.MixRefIdeal.S2x2048 .f32) (mu : Vec Ideal Cert.MixRefIdeal.S1x6x2048 .f32)

/-- The reference's normalised rows. -/
theorem rows_eq (i : Cert.MixRefIdeal.S128x8x2048.Idx) :
    Cert.MixRefIdeal.Read.val_main_v16 (F := Ideal) h ln i = Cert.MixIdeal.Tiles.xnAt h ln (i 0) (i 1) (i 2) := by
  pointwise [Cert.MixRefIdeal.Read.val_main_v16, Cert.MixRefIdeal.Read.val_main_v15, Cert.MixRefIdeal.Read.val_main_v14, Cert.MixRefIdeal.Read.val_main_v13, Cert.MixRefIdeal.Read.val_main_v12, Cert.MixRefIdeal.Read.val_main_v11, Cert.MixRefIdeal.Read.val_main_v10, Cert.MixRefIdeal.Read.val_main_v9, Cert.MixRefIdeal.Read.val_main_v8, Cert.MixRefIdeal.Read.val_main_v7, Cert.MixRefIdeal.Read.val_main_v6, Cert.MixRefIdeal.Read.val_main_v5, Cert.MixRefIdeal.Read.val_main_v4,
    Cert.MixRefIdeal.Read.val_main_v2, Cert.MixRefIdeal.Read.val_main_v1, Cert.MixRefIdeal.Read.val_main_v0, Cert.MixRefIdeal.Read.val_main_cst, Cert.MixRefIdeal.Read.val_main_cst_0, Cert.MixRefIdeal.Read.val_main_cst_1, Cert.MixIdeal.Tiles.xnAt, Cert.Norm.normed]

/-- Its rows before: the carried row, then all but the last. -/
theorem before_eq (i : Cert.MixRefIdeal.S128x8x2048.Idx) :
    Cert.MixRefIdeal.Read.val_main_v20 (F := Ideal) h sh ln i = Cert.MixIdeal.Tiles.prevAt h sh ln (i 0) (i 1) (i 2) := by
  unfold Cert.MixIdeal.Tiles.prevAt
  split
  · rename_i q
    pointwise [Cert.MixRefIdeal.Read.val_main_v20]
    have hi : (i 1).val < 8 := (i 1).isLt
    rw [dif_neg (by omega)]
    refine Eq.trans ?_ (rows_eq h ln (ix3 (i 0) ⟨(i 1).val - 1, by omega⟩ (i 2)))
    pointwise [Cert.MixRefIdeal.Read.val_main_v19]
  · rename_i q
    pointwise [Cert.MixRefIdeal.Read.val_main_v20]
    rw [dif_pos (by omega)]
    pointwise [Cert.MixRefIdeal.Read.val_main_v18, Cert.MixRefIdeal.Read.val_main_v17]

/-- Its first mix. -/
theorem mix0_eq : Cert.MixRefIdeal.Read.val_main_v28 (F := Ideal) h sh ln mu = Cert.MixIdeal.Tiles.mixSpec h sh ln mu 0 := by
  funext i
  unfold Cert.MixIdeal.Tiles.mixSpec Cert.MixIdeal.Tiles.mixed
  rw [← rows_eq, ← before_eq]
  pointwise [Cert.MixRefIdeal.Read.val_main_v28, Cert.MixRefIdeal.Read.val_main_v27, Cert.MixRefIdeal.Read.val_main_v26, Cert.MixRefIdeal.Read.val_main_v25, Cert.MixRefIdeal.Read.val_main_v24, Cert.MixRefIdeal.Read.val_main_v23, Cert.MixRefIdeal.Read.val_main_v22, Cert.MixRefIdeal.Read.val_main_v21,
    Cert.MixRefIdeal.Read.val_main_v3]

/-- Its second mix. -/
theorem mix1_eq : Cert.MixRefIdeal.Read.val_main_v35 (F := Ideal) h sh ln mu = Cert.MixIdeal.Tiles.mixSpec h sh ln mu 1 := by
  funext i
  unfold Cert.MixIdeal.Tiles.mixSpec Cert.MixIdeal.Tiles.mixed
  rw [← rows_eq, ← before_eq]
  pointwise [Cert.MixRefIdeal.Read.val_main_v35, Cert.MixRefIdeal.Read.val_main_v34, Cert.MixRefIdeal.Read.val_main_v33, Cert.MixRefIdeal.Read.val_main_v32, Cert.MixRefIdeal.Read.val_main_v31, Cert.MixRefIdeal.Read.val_main_v30, Cert.MixRefIdeal.Read.val_main_v29, Cert.MixRefIdeal.Read.val_main_v21,
    Cert.MixRefIdeal.Read.val_main_v3]

/-- Its third mix. -/
theorem mix2_eq : Cert.MixRefIdeal.Read.val_main_v42 (F := Ideal) h sh ln mu = Cert.MixIdeal.Tiles.mixSpec h sh ln mu 2 := by
  funext i
  unfold Cert.MixIdeal.Tiles.mixSpec Cert.MixIdeal.Tiles.mixed
  rw [← rows_eq, ← before_eq]
  pointwise [Cert.MixRefIdeal.Read.val_main_v42, Cert.MixRefIdeal.Read.val_main_v41, Cert.MixRefIdeal.Read.val_main_v40, Cert.MixRefIdeal.Read.val_main_v39, Cert.MixRefIdeal.Read.val_main_v38, Cert.MixRefIdeal.Read.val_main_v37, Cert.MixRefIdeal.Read.val_main_v36, Cert.MixRefIdeal.Read.val_main_v21,
    Cert.MixRefIdeal.Read.val_main_v3]

/-- Its fourth mix. -/
theorem mix3_eq : Cert.MixRefIdeal.Read.val_main_v49 (F := Ideal) h sh ln mu = Cert.MixIdeal.Tiles.mixSpec h sh ln mu 3 := by
  funext i
  unfold Cert.MixIdeal.Tiles.mixSpec Cert.MixIdeal.Tiles.mixed
  rw [← rows_eq, ← before_eq]
  pointwise [Cert.MixRefIdeal.Read.val_main_v49, Cert.MixRefIdeal.Read.val_main_v48, Cert.MixRefIdeal.Read.val_main_v47, Cert.MixRefIdeal.Read.val_main_v46, Cert.MixRefIdeal.Read.val_main_v45, Cert.MixRefIdeal.Read.val_main_v44, Cert.MixRefIdeal.Read.val_main_v43, Cert.MixRefIdeal.Read.val_main_v21,
    Cert.MixRefIdeal.Read.val_main_v3]

/-- Its fifth mix. -/
theorem mix4_eq : Cert.MixRefIdeal.Read.val_main_v56 (F := Ideal) h sh ln mu = Cert.MixIdeal.Tiles.mixSpec h sh ln mu 4 := by
  funext i
  unfold Cert.MixIdeal.Tiles.mixSpec Cert.MixIdeal.Tiles.mixed
  rw [← rows_eq, ← before_eq]
  pointwise [Cert.MixRefIdeal.Read.val_main_v56, Cert.MixRefIdeal.Read.val_main_v55, Cert.MixRefIdeal.Read.val_main_v54, Cert.MixRefIdeal.Read.val_main_v53, Cert.MixRefIdeal.Read.val_main_v52, Cert.MixRefIdeal.Read.val_main_v51, Cert.MixRefIdeal.Read.val_main_v50, Cert.MixRefIdeal.Read.val_main_v21,
    Cert.MixRefIdeal.Read.val_main_v3]

/-- Its sixth mix. -/
theorem mix5_eq : Cert.MixRefIdeal.Read.val_main_v63 (F := Ideal) h sh ln mu = Cert.MixIdeal.Tiles.mixSpec h sh ln mu 5 := by
  funext i
  unfold Cert.MixIdeal.Tiles.mixSpec Cert.MixIdeal.Tiles.mixed
  rw [← rows_eq, ← before_eq]
  pointwise [Cert.MixRefIdeal.Read.val_main_v63, Cert.MixRefIdeal.Read.val_main_v62, Cert.MixRefIdeal.Read.val_main_v61, Cert.MixRefIdeal.Read.val_main_v60, Cert.MixRefIdeal.Read.val_main_v59, Cert.MixRefIdeal.Read.val_main_v58, Cert.MixRefIdeal.Read.val_main_v57, Cert.MixRefIdeal.Read.val_main_v21,
    Cert.MixRefIdeal.Read.val_main_v3]

/-- Its kept rows. -/
theorem last_eq : Cert.MixRefIdeal.Read.val_main_v64 (F := Ideal) h ln = Cert.MixIdeal.Tiles.lastSpec h ln := by
  funext i
  refine Eq.trans ?_ (rows_eq h ln (ix3 (i 0) 7 (i 2)))
  pointwise [Cert.MixRefIdeal.Read.val_main_v64]

end Reference

/-- The tiled kernel and the reference end with equal results whenever they start from equal arguments. -/
theorem algebraic : Cert.algebraic_MixIdeal_MixRefIdeal := by
  intro m ρ m' ρ' _ hag
  let mix (j : Fin 6) (c : Dev Cert.MixIdeal.nD) := Cert.MixIdeal.Tiles.mixSpec
    (m ((c.tc : Thread Cert.MixIdeal.nD Cert.MixIdeal.τ).loc Cert.MixIdeal.main_arg0))
    (m ((c.tc : Thread Cert.MixIdeal.nD Cert.MixIdeal.τ).loc Cert.MixIdeal.main_arg1))
    (m ((c.tc : Thread Cert.MixIdeal.nD Cert.MixIdeal.τ).loc Cert.MixIdeal.main_arg2))
    (m ((c.tc : Thread Cert.MixIdeal.nD Cert.MixIdeal.τ).loc Cert.MixIdeal.main_arg3)) j
  let last (c : Dev Cert.MixIdeal.nD) := Cert.MixIdeal.Tiles.lastSpec
    (m ((c.tc : Thread Cert.MixIdeal.nD Cert.MixIdeal.τ).loc Cert.MixIdeal.main_arg0))
    (m ((c.tc : Thread Cert.MixIdeal.nD Cert.MixIdeal.τ).loc Cert.MixIdeal.main_arg2))
  refine ⟨mix 0, mix 1, mix 2, mix 3, mix 4, mix 5, last, ?_, ?_⟩
  · exact (θ_run Cert.MixIdeal.defs _ _).mono
      (fun _ h c => ⟨(h c).1.trans (Cert.MixIdeal.Tiles.array0 m c),
        (h c).2.1.trans (Cert.MixIdeal.Tiles.array1 m c),
        (h c).2.2.1.trans (Cert.MixIdeal.Tiles.array2 m c),
        (h c).2.2.2.1.trans (Cert.MixIdeal.Tiles.array3 m c),
        (h c).2.2.2.2.1.trans (Cert.MixIdeal.Tiles.array4 m c),
        (h c).2.2.2.2.2.1.trans (Cert.MixIdeal.Tiles.array5 m c),
        (h c).2.2.2.2.2.2.1.trans (Cert.MixIdeal.Tiles.array6 m c),
        (h c).2.2.2.2.2.2.2⟩)
      (Cert.MixIdeal.Value.run_blocks m ρ)
  · refine (θ_run Cert.MixRefIdeal.defs _ _).mono
      (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_,
        (h c).2.2.2.2.2.2.2⟩)
      (Cert.MixRefIdeal.Value.run (F := Ideal) m' ρ')
    · rw [Cert.MixRefIdeal.Read.val_main_v28_eq, mix0_eq, (hag c).1, (hag c).2.1, (hag c).2.2.1, (hag c).2.2.2]
    · rw [Cert.MixRefIdeal.Read.val_main_v35_eq, mix1_eq, (hag c).1, (hag c).2.1, (hag c).2.2.1, (hag c).2.2.2]
    · rw [Cert.MixRefIdeal.Read.val_main_v42_eq, mix2_eq, (hag c).1, (hag c).2.1, (hag c).2.2.1, (hag c).2.2.2]
    · rw [Cert.MixRefIdeal.Read.val_main_v49_eq, mix3_eq, (hag c).1, (hag c).2.1, (hag c).2.2.1, (hag c).2.2.2]
    · rw [Cert.MixRefIdeal.Read.val_main_v56_eq, mix4_eq, (hag c).1, (hag c).2.1, (hag c).2.2.1, (hag c).2.2.2]
    · rw [Cert.MixRefIdeal.Read.val_main_v63_eq, mix5_eq, (hag c).1, (hag c).2.1, (hag c).2.2.1, (hag c).2.2.2]
    · rw [Cert.MixRefIdeal.Read.val_main_v64_eq, last_eq, (hag c).1, (hag c).2.2.1]

end Cert.MixClaim

end
-- ==== Proof.LastValue.lean ====
/- The last normalisation of the sample: what the kernel leaves in its result array, at every index. -/
module

public import proofs.«01_k».proof.Proof.Gen.LastIdeal.Value
public import proofs.«01_k».proof.Proof.Norm
public import Idealize.ShloMosaic.Lib.Pipeline.ValueKit
public import Idealize.ShloMosaic.Lib.Pointwise

@[expose] public section

set_option maxRecDepth 16384

noncomputable section

namespace Cert.LastIdeal.Tiles

open Cert.LastIdeal Cert.LastIdeal.Gen Idealize.ShloMosaic Idealize.ShloMosaic.TcCoe Idealize.SL.Sem
open Idealize.ShloMosaic.Pipeline (Dat)

/-- The normalised rows. -/
def spec (x : Vec Ideal S1024x2048 .f32) (w : Vec Ideal S2048 .f32) : Vec Ideal S1024x2048 .f32 := fun i =>
  Cert.Norm.normed (fun k : Fin 2048 => x (ix2 (i 0) k)) (fun k => w (ix1 k)) (i 1)

/-- A tile of normalised rows, at an index. -/
theorem tile_apply (x : Vec Ideal S1024x2048 .f32) (w : Vec Ideal S1x2048 .f32) (j : S1024x2048.Idx) :
    k0_pay1 x w j = Cert.Norm.normed (fun k : Fin 2048 => x (ix2 (j 0) k)) (fun k => w (ix2 0 k)) (j 1) := by
  pointwise [k0_pay1, Cert.Norm.normed]

variable (m : (ℓ : Loc nD τ sig) → Buf (Elt Ideal) ℓ)

/-- Which rows of the operand a point reads. -/
theorem index0 : ∀ t : Fin cfg0.N, win0_0.index t = ![t.val, 0] :=
  (by decide +kernel : ∀ t : Fin grid0.N, win0_0.index t = ![t.val, 0])

/-- Every point reads the whole weight row. -/
theorem index1 : ∀ t : Fin cfg0.N, win0_1.index t = ![0, 0] :=
  (by decide +kernel : ∀ t : Fin grid0.N, win0_1.index t = ![0, 0])

/-- Which tile of the result a point writes. -/
theorem index2 : ∀ t : Fin cfg0.N, win0_2.index t = ![t.val, 0] :=
  (by decide +kernel : ∀ t : Fin grid0.N, win0_2.index t = ![t.val, 0])

/-- A point's weight row is the weights. -/
theorem weight_row (c : Dev nD) (t : Fin cfg0.N) (k : Fin 2048) :
    iblk m c 1 t (ix2 0 k) = m ((c : Thread nD τ).loc main_arg1) (ix1 k) := by
  have e1 := index1 t
  blk_simp [iblk, V, e1]
  entry_read
  pointwise
  refine congrArg (fun l : Fin 2048 => m (c.tc.loc main_arg1) (ix1 l)) (Fin.ext ?_)
  show win0_1.index t 1 * 2048 + 1 * k.val = k.val
  rw [e1]
  show 0 * 2048 + 1 * k.val = k.val
  omega

/-- The result array of the kernel. -/
theorem array_eq (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [tile_apply]
  have e0 := index0 t
  have e2 := index2 t
  refine (Cert.Norm.normed_congr (fun k => ?_) (fun k => weight_row m c t k) _).trans
    (congrArg (Cert.Norm.normed _ _) (Fin.ext ?_))
  · blk_point [iblk, V, e0, e2]
  · show (y 1).val = win0_2.index t 1 * 2048 + 1 * (y 1).val
    rw [e2]
    show (y 1).val = 0 * 2048 + 1 * (y 1).val
    omega

end Cert.LastIdeal.Tiles

end
-- ==== Proof.LastClaim.lean ====
/- The last normalisation of the sample: the reference's result, and the claim that the kernel ends with it. -/
module

public import proofs.«01_k».proof.Defs
public import proofs.«01_k».proof.Proof.LastValue
public import proofs.«01_k».proof.Proof.Gen.LastRefIdeal.Run
public import proofs.«01_k».proof.Proof.Gen.LastRefIdeal.Read

@[expose] public section

set_option maxRecDepth 16384

noncomputable section

namespace Cert.LastClaim

open Idealize.ShloMosaic Idealize.ShloMosaic.TcCoe Idealize.SL.Sem

/-- The reference computes the same function of the two arrays. -/
theorem reference_eq (x : Vec Ideal Cert.LastRefIdeal.S1024x2048 .f32) (w : Vec Ideal Cert.LastRefIdeal.S2048 .f32) :
    Cert.LastRefIdeal.Read.val_main_v12 (F := Ideal) x w = Cert.LastIdeal.Tiles.spec x w := by
  funext i
  pointwise [Cert.LastRefIdeal.Read.val_main_v12, Cert.LastRefIdeal.Read.val_main_v11, Cert.LastRefIdeal.Read.val_main_v10, Cert.LastRefIdeal.Read.val_main_v9, Cert.LastRefIdeal.Read.val_main_v8, Cert.LastRefIdeal.Read.val_main_v7, Cert.LastRefIdeal.Read.val_main_v6, Cert.LastRefIdeal.Read.val_main_v5, Cert.LastRefIdeal.Read.val_main_v4, Cert.LastRefIdeal.Read.val_main_v3, Cert.LastRefIdeal.Read.val_main_v2, Cert.LastRefIdeal.Read.val_main_v1, Cert.LastRefIdeal.Read.val_main_v0,
    Cert.LastRefIdeal.Read.val_main_cst, Cert.LastRefIdeal.Read.val_main_cst_0, Cert.LastRefIdeal.Read.val_main_cst_1, Cert.LastIdeal.Tiles.spec, Cert.Norm.normed]

/-- The tiled kernel and the reference end with equal results whenever they start from equal arguments. -/
theorem algebraic : Cert.algebraic_LastIdeal_LastRefIdeal := by
  intro m ρ m' ρ' _ hag
  refine ⟨fun c => Cert.LastIdeal.Tiles.spec (m ((c.tc : Thread Cert.LastIdeal.nD Cert.LastIdeal.τ).loc Cert.LastIdeal.main_arg0))
    (m ((c.tc : Thread Cert.LastIdeal.nD Cert.LastIdeal.τ).loc Cert.LastIdeal.main_arg1)), ?_, ?_⟩
  · exact (θ_run Cert.LastIdeal.defs _ _).mono
      (fun _ h c => ⟨(h c).1.trans (Cert.LastIdeal.Tiles.array_eq m c), (h c).2⟩)
      (Cert.LastIdeal.Value.run_blocks m ρ)
  · refine (θ_run Cert.LastRefIdeal.defs _ _).mono (fun _ h c => ⟨(h c).1.trans ?_, (h c).2⟩)
      (Cert.LastRefIdeal.Value.run (F := Ideal) m' ρ')
    rw [Cert.LastRefIdeal.Read.val_main_v12_eq, reference_eq, (hag c).1, (hag c).2]

end Cert.LastClaim

end
-- ==== Proof.FfnSValue.lean ====
/- The gated feed-forward input stage of the sample: what the tiled kernel leaves in its two result arrays, at every index. -/
module

public import proofs.«01_k».proof.Proof.Gen.FfnSIdeal.Value
public import proofs.«01_k».proof.Proof.FfnValue
public import Idealize.ShloMosaic.Lib.Pipeline.ValueKit
public import Idealize.ShloMosaic.Lib.Pointwise

@[expose] public section

set_option maxRecDepth 16384

noncomputable section

namespace Cert.FfnSIdeal.Tiles

open Cert.FfnSIdeal Cert.FfnSIdeal.Gen Idealize.ShloMosaic Idealize.ShloMosaic.TcCoe Idealize.SL.Sem
open Idealize.ShloMosaic.Pipeline (Dat)
open Cert.FfnIdeal.Tiles (glu taps)

/-- A row of the tile's product. -/
def prod (x : Vec Ideal S1024x2048 .bf16) (W : Vec Ideal S2048x512 .bf16) (r : Fin 1024) (l : Fin 512) : EReal :=
  ∑ k : Fin 2048, x (ix2 r k) * W (ix2 k l)

/-- What the padded scratch holds of every sequence from row 6 on: the two carried rows, then the rows of the product. -/
def band (x : Vec Ideal S1024x2048 .bf16) (W : Vec Ideal S2048x512 .bf16) (s : Vec Ideal S128x2x512 .f32) :
    S128x16x512.Idx → EReal := fun i =>
  if h : 8 ≤ (i 1).val then prod x W ⟨(i 0).val * 8 + ((i 1).val - 8), by
    have : (i 0).val < 128 := (i 0).isLt
    have : (i 1).val < 16 := (i 1).isLt
    omega⟩ (i 2)
  else s (ix3 (i 0) ⟨((i 1).val - 6) % 2, Nat.mod_lt _ (by decide)⟩ (i 2))

/-- One gated entry of a point: row `r` of sequence `b`. -/
def gated (x : Vec Ideal S1024x2048 .bf16) (W V : Vec Ideal S2048x512 .bf16) (s : Vec Ideal S128x2x512 .f32)
    (w : Vec Ideal S3x512 .f32) (b : Vec Ideal S1x512 .f32) (q : Fin 128) (r : Fin 8) (l : Fin 512) : EReal :=
  glu (taps (b (ix2 0 l)) (w (ix2 0 l)) (w (ix2 1 l)) (w (ix2 2 l)) (band x W s (ix3 q ⟨r.val + 6, by omega⟩ l))
    (band x W s (ix3 q ⟨r.val + 7, by omega⟩ l)) (prod x W ⟨q.val * 8 + r.val, by omega⟩ l))
    (prod x V ⟨q.val * 8 + r.val, by omega⟩ l)

/-- The gated tile a point writes: sequence `b`'s row `r` in row `8 b + r`. -/
def tile (x : Vec Ideal S1024x2048 .bf16) (W V : Vec Ideal S2048x512 .bf16) (s : Vec Ideal S128x2x512 .f32)
    (w : Vec Ideal S3x512 .f32) (b : Vec Ideal S1x512 .f32) : S1024x512.Idx → EReal := fun i =>
  gated x W V s w b ⟨(i 0).val / 8, by have : (i 0).val < 1024 := (i 0).isLt; omega⟩
    ⟨(i 0).val % 8, Nat.mod_lt _ (by decide)⟩ (i 1)

section Band

variable (x : Vec Ideal S1024x2048 .bf16) (W V : Vec Ideal S2048x512 .bf16) (s : Vec Ideal S128x2x512 .f32)
variable (w : Vec Ideal S3x512 .f32) (b : Vec Ideal S1x512 .f32)

/-- The stores into the padded scratch before the first load. -/
abbrev pieces1 : List (View.Piece (Elt Ideal) S128x16x512 .f32) :=
  ⟨Rect.unit ![0, 8, 0] ![32, 8, 512] inb_S128x16x512_S32x8x512_0_8_0,
    k0_pay8 (View.ld x (Rect.unit ![0, 0] ![256, 2048] inb_S1024x2048_S256x2048_0_0)) W⟩ ::
  [⟨Rect.unit ![0, 6, 0] ![128, 2, 512] inb_S128x16x512_S128x2x512_0_6_0, k0_pay5 s⟩]

/-- Those before the second group's load. -/
abbrev pieces2 : List (View.Piece (Elt Ideal) S128x16x512 .f32) :=
  ⟨Rect.unit ![32, 8, 0] ![32, 8, 512] inb_S128x16x512_S32x8x512_32_8_0,
    k0_pay14 (View.ld x (Rect.unit ![256, 0] ![256, 2048] inb_S1024x2048_S256x2048_256_0)) W⟩ ::
  pieces1 x W s

/-- Those before the third group's. -/
abbrev pieces3 : List (View.Piece (Elt Ideal) S128x16x512 .f32) :=
  ⟨Rect.unit ![64, 8, 0] ![32, 8, 512] inb_S128x16x512_S32x8x512_64_8_0,
    k0_pay18 (k0_pay17 (View.ld x (Rect.unit ![512, 0] ![256, 2048] inb_S1024x2048_S256x2048_512_0)) W)⟩ ::
  pieces2 x W s

/-- All of them. -/
abbrev pieces4 : List (View.Piece (Elt Ideal) S128x16x512 .f32) :=
  ⟨Rect.unit ![96, 8, 0] ![32, 8, 512] inb_S128x16x512_S32x8x512_96_8_0,
    k0_pay22 (View.ld x (Rect.unit ![768, 0] ![256, 2048] inb_S1024x2048_S256x2048_768_0)) W⟩ ::
  pieces3 x W s

/-- A row of the padded scratch from row 8 on is a row of the product. -/
theorem band_prod (i : S128x16x512.Idx) (r : Fin 1024) (l : Fin 512) (h8 : 8 ≤ (i 1).val)
    (hr : (i 0).val * 8 + ((i 1).val - 8) = r.val) (hl : (i 2).val = l.val) : band x W s i = prod x W r l := by
  unfold band
  rw [dif_pos h8]
  exact congrArg₂ (prod x W) (Fin.ext hr) (Fin.ext hl)

/-- Rows 6 and 7 of the padded scratch are the two carried rows. -/
theorem band_old (i : S128x16x512.Idx) (y : S128x2x512.Idx) (hb : (i 0).val = (y 0).val) (hr : (i 1).val = 6 + (y 1).val)
    (hl : (i 2).val = (y 2).val) : band x W s i = s y := by
  have h1 : (y 1).val < 2 := (y 1).isLt
  unfold band
  rw [dif_neg (by omega : ¬ 8 ≤ (i 1).val)]
  refine congrArg s (funext fun a => ?_)
  fin_cases a
  · exact Fin.ext hb
  · exact Fin.ext (by show ((i 1).val - 6) % 2 = (y 1).val; omega)
  · exact Fin.ext hl

/-- A group's stored rows, read at an index: rows of the product, `o` rows on. -/
theorem chunk_apply (o : Nat) (inb : ∀ a, ![o, 0] a + ![256, 2048] a ≤ S1024x2048.size a) (y : S32x8x512.Idx) (r : Fin 1024)
    (hr : r.val = o + ((y 0).val * 8 + (y 1).val)) :
    k0_pay6 (View.ld x (Rect.unit ![o, 0] ![256, 2048] inb)) W y = prod x W r (y 2) := by
  pointwise [k0_pay6, prod]
  exact Finset.sum_congr rfl fun k _ => congrArg (· * W (ix2 k (y 2))) (congrArg (fun j => x (ix2 j k)) (Fin.ext hr.symm))

/-- What a group's store writes is what `band` says there. -/
theorem stored (q : Nat) (inq : ∀ a, ![q, 8, 0] a + ![32, 8, 512] a ≤ S128x16x512.size a) (o : Nat)
    (ino : ∀ a, ![o, 0] a + ![256, 2048] a ≤ S1024x2048.size a) (ho : o = q * 8) (y : S32x8x512.Idx)
    (v : EReal) (hv : v = k0_pay6 (View.ld x (Rect.unit ![o, 0] ![256, 2048] ino)) W y) :
    v = band x W s ((Rect.unit (s := S128x16x512) ![q, 8, 0] ![32, 8, 512] inq).emb y) := by
  have hq : q + 32 ≤ 128 := inq 0
  have h0 : (y 0).val < 32 := (y 0).isLt
  have h1 : (y 1).val < 8 := (y 1).isLt
  rw [hv, chunk_apply x W o ino y ⟨o + ((y 0).val * 8 + (y 1).val), by omega⟩ rfl]
  refine (band_prod x W s _ _ _ (by show 8 ≤ 8 + 1 * (y 1).val; omega) ?_ (by show 0 + 1 * (y 2).val = (y 2).val; omega)).symm
  show (q + 1 * (y 0).val) * 8 + (8 + 1 * (y 1).val - 8) = o + ((y 0).val * 8 + (y 1).val)
  omega

/-- Every store writes what `band` says. -/
theorem agree : ∀ p ∈ pieces4 x W s, ∀ y : p.1.shape.Idx, p.2 y = band x W s (p.1.emb y) := by
  simp only [pieces4, pieces3, pieces2, pieces1, List.forall_mem_cons, List.not_mem_nil, false_imp_iff, implies_true,
    and_true]
  refine ⟨?_, ?_, ?_, ?_, ?_⟩ <;> intro y
  · exact stored x W s 96 _ 768 inb_S1024x2048_S256x2048_768_0 (by decide) y _ (by pointwise [k0_pay22, k0_pay20, k0_pay6])
  · exact stored x W s 64 _ 512 inb_S1024x2048_S256x2048_512_0 (by decide) y _ (by pointwise [k0_pay18, k0_pay17, k0_pay6])
  · exact stored x W s 32 _ 256 inb_S1024x2048_S256x2048_256_0 (by decide) y _ (by pointwise [k0_pay14, k0_pay12, k0_pay6])
  · exact stored x W s 0 _ 0 inb_S1024x2048_S256x2048_0_0 (by decide) y _ (by pointwise [k0_pay8, k0_pay6])
  · rw [band_old x W s _ y (by show 0 + 1 * (y 0).val = (y 0).val; omega)
      (by show 6 + 1 * (y 1).val = 6 + (y 1).val; omega) (by show 0 + 1 * (y 2).val = (y 2).val; omega)]
    pointwise [k0_pay5]

/-- A load reads the band where the stores before it reach: the first 32 sequences. -/
theorem read1 (i : S128x16x512.Idx) (h6 : 6 ≤ (i 1).val) (h : (i 0).val < 32) :
    View.canon (pieces1 x W s) i = band x W s i := by
  refine View.canon_apply_of_pieces (band x W s) _
    (fun p hp => agree x W s p (List.mem_cons_of_mem _ (List.mem_cons_of_mem _ (List.mem_cons_of_mem _ hp)))) i ?_
  have h1 : (i 1).val < 16 := (i 1).isLt
  have h2 : (i 2).val < 512 := (i 2).isLt
  simp only [pieces1, List.exists_mem_cons_iff, List.not_mem_nil, false_and, exists_false,
    or_false, Rect.mem_set_unit, Fin.forall_fin_succ, Fin.forall_fin_zero]
  simp
  omega

/-- The first 64. -/
theorem read2 (i : S128x16x512.Idx) (h6 : 6 ≤ (i 1).val) (h : (i 0).val < 64) :
    View.canon (pieces2 x W s) i = band x W s i := by
  refine View.canon_apply_of_pieces (band x W s) _
    (fun p hp => agree x W s p (List.mem_cons_of_mem _ (List.mem_cons_of_mem _ hp))) i ?_
  have h1 : (i 1).val < 16 := (i 1).isLt
  have h2 : (i 2).val < 512 := (i 2).isLt
  simp only [pieces2, pieces1, List.exists_mem_cons_iff, List.not_mem_nil, false_and, exists_false,
    or_false, Rect.mem_set_unit, Fin.forall_fin_succ, Fin.forall_fin_zero]
  simp
  omega

/-- The first 96. -/
theorem read3 (i : S128x16x512.Idx) (h6 : 6 ≤ (i 1).val) (h : (i 0).val < 96) :
    View.canon (pieces3 x W s) i = band x W s i := by
  refine View.canon_apply_of_pieces (band x W s) _
    (fun p hp => agree x W s p (List.mem_cons_of_mem _ hp)) i ?_
  have h1 : (i 1).val < 16 := (i 1).isLt
  have h2 : (i 2).val < 512 := (i 2).isLt
  simp only [pieces3, pieces2, pieces1, List.exists_mem_cons_iff, List.not_mem_nil, false_and, exists_false,
    or_false, Rect.mem_set_unit, Fin.forall_fin_succ, Fin.forall_fin_zero]
  simp
  omega

/-- All of them. -/
theorem read4 (i : S128x16x512.Idx) (h6 : 6 ≤ (i 1).val) (h : (i 0).val < 128) :
    View.canon (pieces4 x W s) i = band x W s i := by
  refine View.canon_apply_of_pieces (band x W s) _
    (fun p hp => agree x W s p hp) i ?_
  have h1 : (i 1).val < 16 := (i 1).isLt
  have h2 : (i 2).val < 512 := (i 2).isLt
  simp only [pieces4, pieces3, pieces2, pieces1, List.exists_mem_cons_iff, List.not_mem_nil, false_and, exists_false,
    or_false, Rect.mem_set_unit, Fin.forall_fin_succ, Fin.forall_fin_zero]
  simp
  omega

/-- What a load of a group's rows, from sequence `a` on and `o` rows on in the padded scratch, must find. -/
def Finds (a o : Nat) (f : Vec Ideal S32x8x512 .f32) : Prop :=
  ∀ i : S32x8x512.Idx, ∀ p : S128x16x512.Idx, (p 0).val = a + (i 0).val → (p 1).val = o + (i 1).val → p 2 = i 2 →
    f i = band x W s p

/-- A group's rows, `o` rows on in the padded scratch. -/
abbrev rows (a o : Nat) (inb : ∀ d, ![a, o, 0] d + ![32, 8, 512] d ≤ S128x16x512.size d) : Rect S128x16x512 :=
  Rect.unit ![a, o, 0] ![32, 8, 512] inb

/-- A point of the padded scratch is given by its sequence, row and lane. -/
theorem point_eq (q p : S128x16x512.Idx) (h0 : (q 0).val = (p 0).val) (h1 : (q 1).val = (p 1).val)
    (h2 : (q 2).val = (p 2).val) : q = p := by
  funext a
  fin_cases a
  · exact Fin.ext h0
  · exact Fin.ext h1
  · exact Fin.ext h2

/-- A group's loads find it, once the stores before them are known to hold the band that far. -/
theorem finds {κ : Kind} {sp : Space} (v : View sig κ sp S128x16x512 .f32) (L : List (View.Piece (Elt Ideal) S128x16x512 .f32))
    (a o : Nat) (inb : ∀ d, ![a, o, 0] d + ![32, 8, 512] d ≤ S128x16x512.size d) (h6 : 6 ≤ o)
    (h : ∀ i : S128x16x512.Idx, 6 ≤ (i 1).val → (i 0).val < a + 32 → View.canon L i = band x W s i) :
    Finds x W s a o (v.readCov (Val := Elt Ideal) L (rows a o inb).toLoadRect) := by
  intro i p hp0 hp1 hp2
  have hi : (i 0).val < 32 := (i 0).isLt
  rw [View.readCov_eq_canon']
  refine (congrArg _ (point_eq _ p ?_ ?_ ?_)).trans (h p (by omega) (by omega))
  · show a + 1 * (i 0).val = _
    omega
  · show o + 1 * (i 1).val = _
    omega
  · show 0 + 1 * (i 2).val = _
    rw [hp2]
    omega

/-- A gated entry, from the two loads a group made and its own rows of the two products. -/
theorem gated_of (a o : Nat) (ho : o = a * 8) (ino : ∀ d, ![o, 0] d + ![256, 2048] d ≤ S1024x2048.size d)
    (f g : Vec Ideal S32x8x512 .f32) (hf : Finds x W s a 6 f) (hg : Finds x W s a 7 g)
    (y : S1024x512.Idx) (z : S256x512.Idx) (i : S32x8x512.Idx) (h0 : (y 0).val = o + (z 0).val) (h1 : (y 1).val = (z 1).val)
    (i0 : (i 0).val = (z 0).val / 8) (i1 : (i 1).val = (z 0).val % 8) (i2 : i 2 = z 1) :
    glu (taps (b (ix2 0 (z 1))) (w (ix2 0 (z 1))) (w (ix2 1 (z 1))) (w (ix2 2 (z 1))) (f i) (g i)
      (k0_pay6 (View.ld x (Rect.unit ![o, 0] ![256, 2048] ino)) W i))
      (k0_pay6 (View.ld x (Rect.unit ![o, 0] ![256, 2048] ino)) V i) = tile x W V s w b y := by
  have hy : (y 0).val < 1024 := (y 0).isLt
  have hz : (z 0).val < 256 := (z 0).isLt
  have e1 : z 1 = y 1 := Fin.ext h1.symm
  rw [hf i (ix3 ⟨(y 0).val / 8, by omega⟩ ⟨(y 0).val % 8 + 6, by omega⟩ (y 1))
      (by show (y 0).val / 8 = _; omega) (by show (y 0).val % 8 + 6 = _; omega) (i2.trans e1).symm,
    hg i (ix3 ⟨(y 0).val / 8, by omega⟩ ⟨(y 0).val % 8 + 7, by omega⟩ (y 1))
      (by show (y 0).val / 8 = _; omega) (by show (y 0).val % 8 + 7 = _; omega) (i2.trans e1).symm,
    chunk_apply x W o ino i ⟨(y 0).val / 8 * 8 + (y 0).val % 8, by omega⟩
      (by show (y 0).val / 8 * 8 + (y 0).val % 8 = _; omega),
    chunk_apply x V o ino i ⟨(y 0).val / 8 * 8 + (y 0).val % 8, by omega⟩
      (by show (y 0).val / 8 * 8 + (y 0).val % 8 = _; omega), i2, e1]
  rfl

/-- The four stores of the gated tile, whose loads of the padded scratch found the band, write the tile. -/
theorem gated_tile (f1 g1 f2 g2 f3 g3 f4 g4 : Vec Ideal S32x8x512 .f32)
    (hf1 : Finds x W s 0 6 f1) (hg1 : Finds x W s 0 7 g1) (hf2 : Finds x W s 32 6 f2) (hg2 : Finds x W s 32 7 g2)
    (hf3 : Finds x W s 64 6 f3) (hg3 : Finds x W s 64 7 g3) (hf4 : Finds x W s 96 6 f4) (hg4 : Finds x W s 96 7 g4)
    (y : S1024x512.Idx) :
    View.canon (Val := Elt Ideal) (s := S1024x512) (e := .bf16)
      [⟨Rect.unit ![768, 0] ![256, 512] inb_S1024x512_S256x512_768_0,
        k0_pay1 (k0_pay21 (View.ld x (Rect.unit ![768, 0] ![256, 2048] inb_S1024x2048_S256x2048_768_0)) V)
          (k0_pay23 w (k0_pay4 b) (View.ld x (Rect.unit ![768, 0] ![256, 2048] inb_S1024x2048_S256x2048_768_0)) W f4 g4)⟩,
      ⟨Rect.unit ![512, 0] ![256, 512] inb_S1024x512_S256x512_512_0,
        k0_pay19 w (k0_pay4 b) (View.ld x (Rect.unit ![512, 0] ![256, 2048] inb_S1024x2048_S256x2048_512_0))
          (k0_pay17 (View.ld x (Rect.unit ![512, 0] ![256, 2048] inb_S1024x2048_S256x2048_512_0)) W)
          V (constant S256x512 FTy.f32 0#32) f3 g3⟩,
      ⟨Rect.unit ![256, 0] ![256, 512] inb_S1024x512_S256x512_256_0,
        k0_pay16 w (k0_pay4 b) (k0_pay12 (View.ld x (Rect.unit ![256, 0] ![256, 2048] inb_S1024x2048_S256x2048_256_0)) W)
          (k0_pay13 (View.ld x (Rect.unit ![256, 0] ![256, 2048] inb_S1024x2048_S256x2048_256_0)) V)
          (k0_pay15 w) f2 g2⟩,
      ⟨Rect.unit ![0, 0] ![256, 512] inb_S1024x512_S256x512_0_0,
        k0_pay11 w (k0_pay7 (View.ld x (Rect.unit ![0, 0] ![256, 2048] inb_S1024x2048_S256x2048_0_0)) V)
          (k0_pay9 w b (View.ld x (Rect.unit ![0, 0] ![256, 2048] inb_S1024x2048_S256x2048_0_0)) W)
          (k0_pay10 w) f1 g1⟩] y = tile x W V s w b y := by
  canon_tiles z h
  · refine Eq.trans ?_ (gated_of x W V s w b 96 768 (by decide) inb_S1024x2048_S256x2048_768_0 f4 g4 hf4 hg4 y z
      (ix3 ⟨(z 0).val / 8, by omega⟩ ⟨(z 0).val % 8, by omega⟩ (z 1)) h0 h1 rfl rfl rfl)
    pointwise [k0_pay1, k0_pay21, k0_pay23, k0_pay20, k0_pay4, k0_pay6, glu, taps]
  · refine Eq.trans ?_ (gated_of x W V s w b 64 512 (by decide) inb_S1024x2048_S256x2048_512_0 f3 g3 hf3 hg3 y z
      (ix3 ⟨(z 0).val / 8, by omega⟩ ⟨(z 0).val % 8, by omega⟩ (z 1)) h0 h1 rfl rfl rfl)
    pointwise [k0_pay19, k0_pay17, k0_pay4, k0_pay6, glu, taps]
  · refine Eq.trans ?_ (gated_of x W V s w b 32 256 (by decide) inb_S1024x2048_S256x2048_256_0 f2 g2 hf2 hg2 y z
      (ix3 ⟨(z 0).val / 8, by omega⟩ ⟨(z 0).val % 8, by omega⟩ (z 1)) h0 h1 rfl rfl rfl)
    pointwise [k0_pay16, k0_pay12, k0_pay13, k0_pay15, k0_pay4, k0_pay6, glu, taps]
  · refine Eq.trans ?_ (gated_of x W V s w b 0 0 (by decide) inb_S1024x2048_S256x2048_0_0 f1 g1 hf1 hg1 y z
      (ix3 ⟨(z 0).val / 8, by omega⟩ ⟨(z 0).val % 8, by omega⟩ (z 1)) (by omega) h1 rfl rfl rfl)
    pointwise [k0_pay11, k0_pay7, k0_pay9, k0_pay10, k0_pay4, k0_pay6, glu, taps]

end Band

variable (m : (ℓ : Loc nD τ sig) → Buf (Elt Ideal) ℓ)

/-- Which blocks a point reads and writes: the point is the column of 512 lanes. -/
theorem index0 : ∀ t : Fin cfg0.N, win0_0.index t = ![0, 0] :=
  (by decide +kernel : ∀ t : Fin grid0.N, win0_0.index t = ![0, 0])

theorem index1 : ∀ t : Fin cfg0.N, win0_1.index t = ![0, 0, t.val] :=
  (by decide +kernel : ∀ t : Fin grid0.N, win0_1.index t = ![0, 0, t.val])

theorem index2 : ∀ t : Fin cfg0.N, win0_2.index t = ![0, 0, t.val + 11] :=
  (by decide +kernel : ∀ t : Fin grid0.N, win0_2.index t = ![0, 0, t.val + 11])

theorem index3 : ∀ t : Fin cfg0.N, win0_3.index t = ![0, 0, t.val] :=
  (by decide +kernel : ∀ t : Fin grid0.N, win0_3.index t = ![0, 0, t.val])

theorem index4 : ∀ t : Fin cfg0.N, win0_4.index t = ![0, t.val] :=
  (by decide +kernel : ∀ t : Fin grid0.N, win0_4.index t = ![0, t.val])

theorem index5 : ∀ t : Fin cfg0.N, win0_5.index t = ![0, t.val] :=
  (by decide +kernel : ∀ t : Fin grid0.N, win0_5.index t = ![0, t.val])

theorem index6 : ∀ t : Fin cfg0.N, win0_6.index t = ![0, t.val] :=
  (by decide +kernel : ∀ t : Fin grid0.N, win0_6.index t = ![0, t.val])

theorem index7 : ∀ t : Fin cfg0.N, win0_7.index t = ![0, 0, t.val] :=
  (by decide +kernel : ∀ t : Fin grid0.N, win0_7.index t = ![0, 0, t.val])

/-- The first weight block as a point casts it. -/
theorem cast1 (w : Vec Ideal S1x2048x512 .f32) (j : S2048x512.Idx) : k0_pay2 w j = w (ix3 0 (j 0) (j 1)) := by
  pointwise [k0_pay2]

/-- The second one. -/
theorem cast2 (w : Vec Ideal S1x2048x512 .f32) (j : S2048x512.Idx) : k0_pay3 w j = w (ix3 0 (j 0) (j 1)) := by
  pointwise [k0_pay3]

/-! ## The two results as functions of the whole arrays -/

section Spec

variable (x : Vec Ideal S1024x2048 .bf16) (s : Vec Ideal S128x2x5632 .f32) (w : Vec Ideal S2x2048x11264 .f32)
variable (cw : Vec Ideal S3x5632 .f32) (cb : Vec Ideal S5632 .f32)

/-- The product of the activations with the first weight matrix of the stack. -/
def hiddenAt (r : Fin 1024) (l : Fin 11264) : EReal := ∑ k : Fin 2048, x (ix2 r k) * w (ix3 0 k l)

/-- The value the convolution sees `d` rows before row `t` of sequence `b`: a row of the product, or before the first
    row a carried row. -/
def past (b : Fin 128) (t : Fin 8) (d : Fin 3) (l : Fin 5632) : EReal :=
  if h : d.val ≤ t.val then hiddenAt x w ⟨8 * b.val + (t.val - d.val), by omega⟩ ⟨l.val, by omega⟩
  else s (ix3 b ⟨t.val + 2 - d.val, by omega⟩ l)

/-- The gated activations, row `t` of sequence `b` in row `8 b + t`. -/
def gatedAt (b : Fin 128) (t : Fin 8) (l : Fin 5632) : EReal :=
  glu (taps (cb (ix1 l)) (cw (ix2 0 l)) (cw (ix2 1 l)) (cw (ix2 2 l)) (past x s w b t 2 l) (past x s w b t 1 l)
    (past x s w b t 0 l)) (hiddenAt x w ⟨8 * b.val + t.val, by omega⟩ ⟨l.val + 5632, by omega⟩)

/-- The gated activations as an array. -/
def gatedSpec : Vec Ideal S1024x5632 .bf16 := fun i =>
  gatedAt x s w cw cb ⟨(i 0).val / 8, by have : (i 0).val < 1024 := (i 0).isLt; omega⟩
    ⟨(i 0).val % 8, Nat.mod_lt _ (by decide)⟩ (i 1)

/-- The carried state: the last two rows of every sequence. -/
def stateSpec : Vec Ideal S128x2x5632 .f32 := fun i =>
  past x s w (i 0) ⟨6 + (i 1).val, by have : (i 1).val < 2 := (i 1).isLt; omega⟩ 0 (i 2)

end Spec

section Blocks

variable (c : Dev nD) (t : Fin cfg0.N)

/-- A row of a point's product is a row of the whole product. -/
theorem prod_block (r : Fin 1024) (l : Fin 512) (R : Fin 1024) (L : Fin 11264) (hR : R.val = r.val)
    (hL : L.val = 512 * t.val + l.val) :
    prod (iblk m c 0 t) (k0_pay2 (iblk m c 1 t)) r l =
      hiddenAt (m ((c : Thread nD τ).loc main_arg0)) (m ((c : Thread nD τ).loc main_arg2)) R L := by
  have e0 := index0 t
  have e1 := index1 t
  unfold prod hiddenAt
  refine Finset.sum_congr rfl fun k _ => ?_
  rw [cast1]
  refine congrArg₂ (· * ·) ?_ ?_
  · blk_point [iblk, V, e0]
  · blk_point [iblk, V, e1]

/-- Likewise the gate's product. -/
theorem gate_block (r : Fin 1024) (l : Fin 512) (R : Fin 1024) (L : Fin 11264) (hR : R.val = r.val)
    (hL : L.val = 512 * t.val + l.val + 5632) :
    prod (iblk m c 0 t) (k0_pay3 (iblk m c 2 t)) r l =
      hiddenAt (m ((c : Thread nD τ).loc main_arg0)) (m ((c : Thread nD τ).loc main_arg2)) R L := by
  have e0 := index0 t
  have e1 := index2 t
  unfold prod hiddenAt
  refine Finset.sum_congr rfl fun k _ => ?_
  rw [cast2]
  refine congrArg₂ (· * ·) ?_ ?_
  · blk_point [iblk, V, e0]
  · blk_point [iblk, V, e1]

/-- A row of a point's band is what the convolution sees. -/
theorem band_block (i : S128x16x512.Idx) (B : Fin 128) (T : Fin 8) (d : Fin 3) (L : Fin 5632)
    (hB : (i 0).val = B.val) (hT : (i 1).val + d.val = 8 + T.val) (hL : L.val = 512 * t.val + (i 2).val) :
    band (iblk m c 0 t) (k0_pay2 (iblk m c 1 t)) (iblk m c 3 t) i =
      past (m ((c : Thread nD τ).loc main_arg0)) (m ((c : Thread nD τ).loc main_arg1))
        (m ((c : Thread nD τ).loc main_arg2)) B T d L := by
  unfold past
  have hd : d.val < 3 := d.isLt
  split
  · rename_i h
    rw [band_prod _ _ _ i ⟨8 * B.val + (T.val - d.val), by omega⟩ (i 2) (by omega)
      (by show (i 0).val * 8 + ((i 1).val - 8) = 8 * B.val + (T.val - d.val); omega) rfl]
    exact prod_block m c t _ _ _ _ rfl hL
  · rename_i h
    rw [band_old _ _ _ i (ix3 B ⟨T.val + 2 - d.val, by omega⟩ (i 2)) hB
      (by show (i 1).val = 6 + (T.val + 2 - d.val); omega) rfl]
    have e3 := index3 t
    blk_point [iblk, V, e3]

/-- A gated entry of a point, in the whole arrays. -/
theorem gated_block (q : Fin 128) (r : Fin 8) (l : Fin 512) (L : Fin 5632) (hL : L.val = 512 * t.val + l.val) :
    gated (iblk m c 0 t) (k0_pay2 (iblk m c 1 t)) (k0_pay3 (iblk m c 2 t)) (iblk m c 3 t) (iblk m c 4 t) (iblk m c 5 t)
      q r l =
      gatedAt (m ((c : Thread nD τ).loc main_arg0)) (m ((c : Thread nD τ).loc main_arg1))
        (m ((c : Thread nD τ).loc main_arg2)) (m ((c : Thread nD τ).loc main_arg3))
        (m ((c : Thread nD τ).loc main_arg4)) q r L := by
  unfold gated gatedAt
  rw [band_block m c t _ q r 2 L rfl (by show r.val + 6 + 2 = 8 + r.val; omega) hL,
    band_block m c t _ q r 1 L rfl (by show r.val + 7 + 1 = 8 + r.val; omega) hL,
    gate_block m c t _ l ⟨8 * q.val + r.val, by omega⟩ ⟨L.val + 5632, by omega⟩
      (by show 8 * q.val + r.val = q.val * 8 + r.val; omega) (by show L.val + 5632 = _; rw [hL]),
    ← band_prod _ _ (iblk m c 3 t) (ix3 q ⟨8 + r.val, by omega⟩ l) _ l (by show 8 ≤ 8 + r.val; omega)
      (by show q.val * 8 + (8 + r.val - 8) = q.val * 8 + r.val; omega) rfl,
    band_block m c t _ q r 0 L rfl (by show 8 + r.val + 0 = 8 + r.val; omega) hL]
  have e4 := index4 t
  have e5 := index5 t
  have a0 : iblk m c 4 t (ix2 0 l) = m ((c : Thread nD τ).loc main_arg3) (ix2 0 L) := by
    blk_point [iblk, V, e4]
  have a1 : iblk m c 4 t (ix2 1 l) = m ((c : Thread nD τ).loc main_arg3) (ix2 1 L) := by
    blk_point [iblk, V, e4]
  have a2 : iblk m c 4 t (ix2 2 l) = m ((c : Thread nD τ).loc main_arg3) (ix2 2 L) := by
    blk_point [iblk, V, e4]
  have a3 : iblk m c 5 t (ix2 0 l) = m ((c : Thread nD τ).loc main_arg4) (ix1 L) := by
    blk_simp [iblk, V, e5]
    entry_read
    pointwise
    refine congrArg (fun l : Fin 5632 => m (c.tc.loc main_arg4) (ix1 l)) (Fin.ext ?_)
    show win0_5.index t 1 * 512 + 1 * l.val = L.val
    rw [e5, hL]
    show t.val * 512 + 1 * l.val = _
    omega
  rw [a0, a1, a2, a3]

end Blocks

/-- The gated tile after a point. -/
theorem gated_after (c : Dev nD) (t : Fin cfg0.N) (y : S1024x512.Idx) :
    (outsAt0 m c t).1 y = tile (iblk m c 0 t) (k0_pay2 (iblk m c 1 t)) (k0_pay3 (iblk m c 2 t))
      (iblk m c 3 t) (iblk m c 4 t) (iblk m c 5 t) y := by
  unfold outsAt0
  dsimp only
  frame_out
  exact gated_tile _ _ _ _ _ _ _ _ _ _ _ _ _ _
    (finds _ _ _ _ _ 0 6 _ (by decide) (read1 _ _ _)) (finds _ _ _ _ _ 0 7 _ (by decide) (read1 _ _ _))
    (finds _ _ _ _ _ 32 6 _ (by decide) (read2 _ _ _)) (finds _ _ _ _ _ 32 7 _ (by decide) (read2 _ _ _))
    (finds _ _ _ _ _ 64 6 _ (by decide) (read3 _ _ _)) (finds _ _ _ _ _ 64 7 _ (by decide) (read3 _ _ _))
    (finds _ _ _ _ _ 96 6 _ (by decide) (read4 _ _ _)) (finds _ _ _ _ _ 96 7 _ (by decide) (read4 _ _ _)) y

/-- The first result array. -/
theorem array6 (c : Dev nD) : (dats m 0 c).arrAt 6 cfg0.N =
    gatedSpec (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t hf y => ?_
  have y0 : (y 0).val < 1024 := (y 0).isLt
  blk_simp
  rw [after0_6, gated_after]
  have h0 : ((win0_6.blk t).view.emb y 0).val = (y 0).val := by
    show win0_6.index t 0 * 1024 + 1 * (y 0).val = _
    rw [index6]
    show 0 * 1024 + 1 * (y 0).val = _
    omega
  have h1 : ((win0_6.blk t).view.emb y 1).val = 512 * t.val + (y 1).val := by
    show win0_6.index t 1 * 512 + 1 * (y 1).val = _
    rw [index6]
    show t.val * 512 + 1 * (y 1).val = _
    omega
  unfold gatedSpec tile
  rw [gated_block m c t _ _ _ ((win0_6.blk t).view.emb y 1) h1]
  refine congrArg₂ (fun b r => gatedAt _ _ _ _ _ b r _) (Fin.ext ?_) (Fin.ext ?_)
  · show (y 0).val / 8 = ((win0_6.blk t).view.emb y 0).val / 8
    rw [h0]
  · show (y 0).val % 8 = ((win0_6.blk t).view.emb y 0).val % 8
    rw [h0]

/-- The state tile after a point. -/
theorem state_after (c : Dev nD) (t : Fin cfg0.N) (y : S128x2x512.Idx) :
    (outsAt0 m c t).2 y = band (iblk m c 0 t) (k0_pay2 (iblk m c 1 t)) (iblk m c 3 t)
      (ix3 (y 0) ⟨14 + (y 1).val, by have : (y 1).val < 2 := (y 1).isLt; omega⟩ (y 2)) := by
  have y0 : (y 0).val < 128 := (y 0).isLt
  unfold outsAt0
  dsimp only
  frame_out
  rw [View.readCov_eq_canon']
  exact (congrArg _ (point_eq _ (ix3 (y 0) ⟨14 + (y 1).val, by have : (y 1).val < 2 := (y 1).isLt; omega⟩ (y 2))
    (by show 0 + 1 * (y 0).val = (y 0).val; omega) (by show 14 + 1 * (y 1).val = 14 + (y 1).val; omega)
    (by show 0 + 1 * (y 2).val = (y 2).val; omega))).trans
    (read4 _ _ _ _ (by show 6 ≤ 14 + (y 1).val; omega) y0)

/-- The second result array. -/
theorem array7 (c : Dev nD) : (dats m 0 c).arrAt 7 cfg0.N =
    stateSpec (m ((c : Thread nD τ).loc main_arg0)) (m ((c : Thread nD τ).loc main_arg1))
        (m ((c : Thread nD τ).loc main_arg2)) := by
  refine (dats m 0 c).arrAt_eq_of_covers 7 _ (by decide +kernel) fun t hf y => ?_
  have y1 : (y 1).val < 2 := (y 1).isLt
  have y0 : (y 0).val < 128 := (y 0).isLt
  blk_simp
  rw [after0_7, state_after]
  have h0 : ((win0_7.blk t).view.emb y 0).val = (y 0).val := by
    show win0_7.index t 0 * 128 + 1 * (y 0).val = _
    rw [index7]
    show 0 * 128 + 1 * (y 0).val = _
    omega
  have h1 : ((win0_7.blk t).view.emb y 1).val = (y 1).val := by
    show win0_7.index t 1 * 2 + 1 * (y 1).val = _
    rw [index7]
    show 0 * 2 + 1 * (y 1).val = _
    omega
  have h2 : ((win0_7.blk t).view.emb y 2).val = 512 * t.val + (y 2).val := by
    show win0_7.index t 2 * 512 + 1 * (y 2).val = _
    rw [index7]
    show t.val * 512 + 1 * (y 2).val = _
    omega
  unfold stateSpec
  exact band_block m c t _ _ _ 0 _ h0.symm (by
    show 14 + (y 1).val + 0 = 8 + (6 + ((win0_7.blk t).view.emb y 1).val)
    omega) h2

end Cert.FfnSIdeal.Tiles

end
-- ==== Proof.FfnSClaim.lean ====
/- The gated feed-forward input stage of the sample: the reference's two results, and the claim that the tiled kernel ends with them. -/
module

public import proofs.«01_k».proof.Defs
public import proofs.«01_k».proof.Proof.FfnSValue
public import proofs.«01_k».proof.Proof.Gen.FfnSRefIdeal.Run
public import proofs.«01_k».proof.Proof.Gen.FfnSRefIdeal.Read

@[expose] public section

set_option maxRecDepth 16384

noncomputable section

namespace Cert.FfnSClaim

open Cert.FfnSRefIdeal Cert.FfnSRefIdeal.Read Idealize.ShloMosaic Idealize.ShloMosaic.TcCoe Idealize.SL.Sem
open Cert.FfnIdeal.Tiles (glu taps)
open Cert.FfnSIdeal.Tiles (hiddenAt past gatedAt gatedSpec stateSpec)

section Reference

variable (x : Vec Ideal S1024x2048 .bf16) (s : Vec Ideal S128x2x5632 .f32) (w : Vec Ideal S2x2048x11264 .f32)
variable (cw : Vec Ideal S3x5632 .f32) (cb : Vec Ideal S5632 .f32)

/-- The reference's product, at an index. -/
theorem product_apply (i : S128x8x11264.Idx) :
    val_main_v4 (F := Ideal) x w i = hiddenAt x w ⟨8 * (i 0).val + (i 1).val, by
      have : (i 0).val < 128 := (i 0).isLt
      have : (i 1).val < 8 := (i 1).isLt
      omega⟩ (i 2) := by
  pointwise [val_main_v4, val_main_v3, val_main_v2, val_main_v1, val_main_v0, hiddenAt]
  refine Finset.sum_congr rfl fun k _ => congrArg₂ (· * ·) (congrArg (fun r => x (ix2 r k)) (Fin.ext ?_)) rfl
  show (i 0).val * 8 + (i 1).val = 8 * (i 0).val + (i 1).val
  omega

/-- The reference's padded array holds what the convolution sees: row `p` is `d` rows before row `t`, `p + d = t + 2`. -/
theorem padded_apply (i : S128x10x5632.Idx) (t : Fin 8) (d : Fin 3) (h : (i 1).val + d.val = t.val + 2) :
    val_main_v7 (F := Ideal) x s w i = past x s w (i 0) t d (i 2) := by
  pointwise [val_main_v7, val_main_v5]
  have h1 : (i 1).val < 10 := (i 1).isLt
  have h0 : (i 0).val < 128 := (i 0).isLt
  have hd : d.val < 3 := d.isLt
  unfold past
  by_cases hp : (i 1).val < 2
  · rw [dif_pos hp, dif_neg (by omega : ¬ d.val ≤ t.val)]
    refine congrArg (fun r : Fin 2 => s (ix3 (i 0) r (i 2))) (Fin.ext ?_)
    show (i 1).val = t.val + 2 - d.val
    omega
  · rw [dif_neg hp, dif_pos (by omega : d.val ≤ t.val), product_apply]
    refine congrArg (fun r : Fin 1024 => hiddenAt x w r _) (Fin.ext ?_)
    show 8 * (i 0).val + ((i 1).val - 2) = 8 * (i 0).val + (t.val - d.val)
    omega

/-- The newest tap may be added first. -/
theorem regroup (b p q r : EReal) : b + p + q + r = b + r + p + q := by
  rw [add_right_comm (b + p), add_right_comm b]

/-- The reference's convolution. -/
theorem conv_apply (i : S128x8x5632.Idx) :
    val_main_v30 (F := Ideal) x s w cw cb i =
      taps (cb (ix1 (i 2))) (cw (ix2 0 (i 2))) (cw (ix2 1 (i 2))) (cw (ix2 2 (i 2))) (past x s w (i 0) (i 1) 2 (i 2))
        (past x s w (i 0) (i 1) 1 (i 2)) (past x s w (i 0) (i 1) 0 (i 2)) := by
  pointwise [val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8]
  rw [padded_apply x s w _ (i 1) 2 (by show (i 1).val + 2 = (i 1).val + 2; rfl),
    padded_apply x s w _ (i 1) 1 (by show 1 + (i 1).val + 1 = (i 1).val + 2; omega),
    padded_apply x s w _ (i 1) 0 (by show 2 + (i 1).val + 0 = (i 1).val + 2; omega)]
  exact regroup _ _ _ _

/-- The reference's gated activation. -/
theorem gated_apply (i : S128x8x5632.Idx) :
    val_main_v44 (F := Ideal) x s w cw cb i =
      glu (val_main_v30 (F := Ideal) x s w cw cb i) (val_main_v6 (F := Ideal) x w i) := by
  pointwise [val_main_v44, val_main_v43, val_main_v42, val_main_v41, val_main_v40, val_main_v39, val_main_v38,
    val_main_v37, val_main_v36, val_main_v35, val_main_v34, val_main_v33, val_main_v32, val_main_v31, val_main_cst,
    val_main_cst_0, val_main_cst_1, val_main_cst_2]
  unfold glu
  rw [mul_assoc (val_main_v30 (F := Ideal) x s w cw cb i) (val_main_v30 (F := Ideal) x s w cw cb i)]

/-- The first result of the reference. -/
theorem reference_gated : val_main_v46 (F := Ideal) x s w cw cb = gatedSpec x s w cw cb := by
  funext i
  pointwise [val_main_v46, val_main_v45]
  have h0 : (i 0).val < 1024 := (i 0).isLt
  rw [gated_apply, conv_apply]
  have hv : val_main_v6 (F := Ideal) x w (ix3 ⟨(i 0).val / 8, by omega⟩ ⟨(i 0).val % 8, Nat.mod_lt _ (by decide)⟩ (i 1)) =
      hiddenAt x w ⟨8 * ((i 0).val / 8) + (i 0).val % 8, by omega⟩
        ⟨(i 1).val + 5632, by have : (i 1).val < 5632 := (i 1).isLt; omega⟩ := by
    pointwise [val_main_v6]
    rw [product_apply]
    refine congrArg (fun l : Fin 11264 => hiddenAt x w _ l) (Fin.ext ?_)
    show 5632 + (i 1).val = (i 1).val + 5632
    omega
  rw [hv]
  rfl

/-- The second result of the reference. -/
theorem reference_state : val_main_v47 (F := Ideal) x s w = stateSpec x s w := by
  funext i
  have h1 : (i 1).val < 2 := (i 1).isLt
  pointwise [val_main_v47]
  exact padded_apply x s w _ ⟨6 + (i 1).val, by omega⟩ 0 (by show 8 + (i 1).val + 0 = 6 + (i 1).val + 2; omega)

end Reference

/-- The tiled kernel and the reference end with equal results whenever they start from equal arguments. -/
theorem algebraic : Cert.algebraic_FfnSIdeal_FfnSRefIdeal := by
  intro m ρ m' ρ' _ hag
  refine ⟨fun c => gatedSpec (m ((c.tc : Thread Cert.FfnSIdeal.nD Cert.FfnSIdeal.τ).loc Cert.FfnSIdeal.main_arg0))
      (m ((c.tc : Thread Cert.FfnSIdeal.nD Cert.FfnSIdeal.τ).loc Cert.FfnSIdeal.main_arg1))
      (m ((c.tc : Thread Cert.FfnSIdeal.nD Cert.FfnSIdeal.τ).loc Cert.FfnSIdeal.main_arg2))
      (m ((c.tc : Thread Cert.FfnSIdeal.nD Cert.FfnSIdeal.τ).loc Cert.FfnSIdeal.main_arg3))
      (m ((c.tc : Thread Cert.FfnSIdeal.nD Cert.FfnSIdeal.τ).loc Cert.FfnSIdeal.main_arg4)),
    fun c => stateSpec (m ((c.tc : Thread Cert.FfnSIdeal.nD Cert.FfnSIdeal.τ).loc Cert.FfnSIdeal.main_arg0))
      (m ((c.tc : Thread Cert.FfnSIdeal.nD Cert.FfnSIdeal.τ).loc Cert.FfnSIdeal.main_arg1))
      (m ((c.tc : Thread Cert.FfnSIdeal.nD Cert.FfnSIdeal.τ).loc Cert.FfnSIdeal.main_arg2)), ?_, ?_⟩
  · exact (θ_run Cert.FfnSIdeal.defs _ _).mono
      (fun _ h c => ⟨(h c).1.trans (Cert.FfnSIdeal.Tiles.array6 m c), (h c).2.1.trans (Cert.FfnSIdeal.Tiles.array7 m c),
        (h c).2.2⟩)
      (Cert.FfnSIdeal.Value.run_blocks m ρ)
  · refine (θ_run Cert.FfnSRefIdeal.defs _ _).mono (fun _ h c => ⟨(h c).1.trans ?_, (h c).2.1.trans ?_, (h c).2.2⟩)
      (Cert.FfnSRefIdeal.Value.run (F := Ideal) m' ρ')
    · rw [val_main_v46_eq, reference_gated, (hag c).1, (hag c).2.1, (hag c).2.2.1, (hag c).2.2.2.1, (hag c).2.2.2.2]
    · rw [val_main_v47_eq, reference_state, (hag c).1, (hag c).2.1, (hag c).2.2.1]

end Cert.FfnSClaim

end
-- ==== Proof.HgrnSSpec.lean ====
/- The HGRN2 recurrence of the sample: eight rows of a sequence, over the extended reals. -/
module

public import proofs.«01_k».proof.Proof.HgrnSpec

@[expose] public section

set_option maxRecDepth 16384

noncomputable section

namespace Cert.HgrnSSpec

open Idealize.ShloMosaic
open Cert.HgrnSpec (gate swish finish)

section Chunk

variable (q f v : Fin 8 → Fin 128 → EReal) (l : Fin 128 → EReal) (S : Fin 128 → Fin 128 → EReal)

/-- The log decay of key `k` from the start of the rows up to and with row `t`. -/
def decayTo (t : Fin 8) (k : Fin 128) : EReal := ∑ s : Fin 8, if s ≤ t then Ideal.log (gate (l k) (f s k)) else 0

/-- The query of a row, with the decay since the start. -/
def queryAt (t : Fin 8) (k : Fin 128) : EReal := swish (q t k) * Ideal.exp (decayTo f l t k)

/-- The key of a row, with the decay since the start taken back. -/
def keyAt (s : Fin 8) (k : Fin 128) : EReal := (1 - gate (l k) (f s k)) * Ideal.exp (-decayTo f l s k)

/-- The key of a row, with the decay from it to the last row. -/
def keyEnd (s : Fin 8) (k : Fin 128) : EReal :=
  (1 - gate (l k) (f s k)) * Ideal.exp (decayTo f l 7 k - decayTo f l s k)

/-- The causal score of row `t` for row `s`. -/
def score (t s : Fin 8) : EReal := if s ≤ t then ∑ k : Fin 128, queryAt q f l t k * keyAt f l s k else 0

/-- A row's mix: what the first state gives, then what the rows themselves give. -/
def mixRow (t : Fin 8) (w : Fin 128) : EReal :=
  (∑ k : Fin 128, queryAt q f l t k * S k w) + ∑ s : Fin 8, score q f l t s * v s w

/-- The state after the rows. -/
def nextState (k w : Fin 128) : EReal :=
  S k w * Ideal.exp (decayTo f l 7 k) + ∑ s : Fin 8, keyEnd f l s k * v s w

end Chunk

section Whole

variable (z : Fin 128 → Fin 8 → Fin 5120 → EReal) (s0 : Fin 128 → Fin 8 → Fin 128 → Fin 128 → EReal)
variable (lb : Fin 1024 → EReal) (nw : Fin 128 → EReal)

/-- The rows of sequence `b`, head `h`, in the column group `g` of the activations. -/
def rowsOf (g : Fin 5) (b : Fin 128) (h : Fin 8) (t : Fin 8) (k : Fin 128) : EReal :=
  z b t ⟨1024 * g.val + 128 * h.val + k.val, by omega⟩

/-- The lower bounds of a head's keys. -/
def boundOf (h : Fin 8) (k : Fin 128) : EReal := lb ⟨128 * h.val + k.val, by omega⟩

/-- The mix of row `t`. -/
def mixAt (b : Fin 128) (h : Fin 8) (t : Fin 8) (w : Fin 128) : EReal :=
  mixRow (rowsOf z 1 b h) (rowsOf z 2 b h) (rowsOf z 3 b h) (boundOf lb h) (s0 b h) t w

/-- The last state. -/
def lastAt (b : Fin 128) (h : Fin 8) (k w : Fin 128) : EReal :=
  nextState (rowsOf z 2 b h) (rowsOf z 3 b h) (boundOf lb h) (s0 b h) k w

/-- The result row. -/
def resultAt (b : Fin 128) (h : Fin 8) (t : Fin 8) (w : Fin 128) : EReal :=
  finish (mixAt z s0 lb b h t) (nw w) (rowsOf z 4 b h t w) w

end Whole

end Cert.HgrnSSpec

end
-- ==== Proof.HgrnSUnits.lean ====
/- The sample's HGRN2 kernel, for the sixty-four pairs of a head and a sequence of a block, read at an index. -/
module

public import proofs.«01_k».proof.Proof.Gen.HgrnSIdeal.Skeleton
public import proofs.«01_k».proof.Proof.HgrnSSpec
public import Idealize.ShloMosaic.Lib.Pipeline.ValueKit
public import Idealize.ShloMosaic.Lib.KernelVsHost

@[expose] public section

set_option maxRecDepth 16384

noncomputable section

namespace Cert.HgrnSIdeal.Units

open Cert.HgrnSIdeal Cert.HgrnSIdeal.Gen Cert.HgrnSSpec Idealize.ShloMosaic Idealize.ShloMosaic.TcCoe Idealize.SL.Sem
open Cert.HgrnSpec (gate swish finish)

/-- A value added to the one `d` rows before it, where there is one. -/
def shiftAdd (d : Nat) (x : Fin 8 → EReal) (t : Fin 8) : EReal :=
  x t + if h : d ≤ t.val then x ⟨t.val - d, by omega⟩ else 0

/-- Three such additions, at distances 1, 2 and 4, add up all rows up to `t`. -/
theorem shiftAdd_all (x : Fin 8 → EReal) (t : Fin 8) :
    shiftAdd 4 (shiftAdd 2 (shiftAdd 1 x)) t = ∑ s : Fin 8, if s ≤ t then x s else 0 := by
  fin_cases t <;>
  · simp [shiftAdd, Fin.sum_univ_succ, Fin.le_def]
    try abel

/-- The row number of each entry. -/
def rowIx : IVec S64x8x128 32 := iota .tc S64x8x128 32 [1] iota_S64x8x128_d1_w32

theorem rowIx_eq (d : List (Fin S64x8x128.rank)) (h) (hd : d = [1]) : iota .tc S64x8x128 32 d h = rowIx := by
  subst hd
  rfl

/-- A choice by a condition's bit. -/
theorem select_ite (p : Prop) [Decidable p] (a b : EReal) :
    Scalar.select (if p then 1#1 else 0#1) a b = if p then a else b := by
  by_cases h : p <;> simp [h, Scalar.select]

/-- A rotation by `d` rows, kept from row `d` on, added to the rotated vector. -/
theorem rotate_apply (d : BitVec 32) (hd : d.toNat < 8) (x : FVec Ideal S64x8x128 .f32) (u : Fin 64) (t : Fin 8)
    (k : Fin 128) :
    addf x (select (cmpi .sge rowIx (broadcast S64x8x128 d)) (dynamicRotate 1 d none x rotates_S64x8x128_d1)
      (broadcast S64x8x128 (Scalar.ofBits (F := Ideal) .f32 0x00000000#32))) (ix3 u t k)
      = shiftAdd d.toNat (fun t => x (ix3 u t k)) t := by
  have key : IntOp.cmpi .sge (BitVec.ofNat 32 t.val) d = if d.toNat ≤ t.val then 1#1 else 0#1 := by
    obtain ⟨n, rfl⟩ : ∃ n : Fin 8, d = BitVec.ofNat 32 n.val := ⟨⟨d.toNat, hd⟩, by simp⟩
    revert n t
    decide
  have ht : t.val < 8 := t.isLt
  pointwise [rowIx]
  rw [key, select_ite]
  unfold shiftAdd
  by_cases h : d.toNat ≤ t.val
  · simp only [if_pos h, dif_pos h]
    exact congrArg (fun r => x (ix3 u t k) + x (ix3 u r k)) (Fin.ext (by
      show (t.val + 8 - (d.toNat + 0) % 8) % 8 = t.val - d.toNat
      omega))
  · simp only [if_neg h, dif_neg h]

/-- The units of a block: unit `u` is head `u / 8` of sequence `u % 8`. -/
theorem units_apply (x : Vec Ideal S8x8x1024 .f32) (i : S64x8x128.Idx) :
    k0_pay150 x i = x (ix3 ⟨(i 0).val % 8, Nat.mod_lt _ (by decide)⟩ (i 1)
      ⟨128 * ((i 0).val / 8) + (i 2).val, by have : (i 0).val < 64 := (i 0).isLt; have : (i 2).val < 128 := (i 2).isLt; omega⟩) := by
  have i0 : (i 0).val < 64 := (i 0).isLt
  have i2 : (i 2).val < 128 := (i 2).isLt
  pointwise [k0_pay150]
  split_ifs <;> exact congrArg x (congrArg₂ (fun a b => ix3 a (i 1) b) (Fin.ext (by dsimp only; omega)) (Fin.ext (by dsimp only; omega)))

/-- The lower bounds of the units' keys. -/
theorem bounds_apply (x : Vec Ideal S1x1024 .f32) (i : S64x1x128.Idx) :
    k0_pay146 x i = x (ix2 0
      ⟨128 * ((i 0).val / 8) + (i 2).val, by have : (i 0).val < 64 := (i 0).isLt; have : (i 2).val < 128 := (i 2).isLt; omega⟩) := by
  have i0 : (i 0).val < 64 := (i 0).isLt
  have i2 : (i 2).val < 128 := (i 2).isLt
  pointwise [k0_pay146]
  split_ifs <;> exact congrArg x (congrArg (fun a => ix2 0 a) (Fin.ext (by dsimp only; omega)))

variable (lb : FVec Ideal S64x1x128 .f32) (q f v g : FVec Ideal S64x8x128 .f32) (st : FVec Ideal S64x128x128 .f32)
variable (nw : FVec Ideal S1x1x128 .f32)

/-- The forget gates of every unit. -/
def gateV : FVec Ideal S64x8x128 .f32 :=
  addf (broadcastTo S64x8x128 lb broadcasts_S64x1x128_S64x8x128)
    (mulf (broadcastTo S64x8x128 (subf (broadcast S64x1x128 (Scalar.ofBits (F := Ideal) .f32 0x3F800000#32)) lb)
      broadcasts_S64x1x128_S64x8x128) (logistic f))

/-- The keys before decay. -/
def keyV : FVec Ideal S64x8x128 .f32 := subf (broadcast S64x8x128 (Scalar.ofBits (F := Ideal) .f32 0x3F800000#32)) (gateV lb f)

/-- The logarithms of the gates after the first round of the running sum. -/
def roundV : FVec Ideal S64x8x128 .f32 :=
  addf (log (gateV lb f)) (select (cmpi .sge rowIx (broadcast S64x8x128 1#32))
    (dynamicRotate 1 1#32 none (log (gateV lb f)) rotates_S64x8x128_d1)
    (broadcast S64x8x128 (Scalar.ofBits (F := Ideal) .f32 0x00000000#32)))

/-- Its rotation by two rows. -/
def turnedV : FVec Ideal S64x8x128 .f32 := dynamicRotate 1 2#32 none (roundV lb f) rotates_S64x8x128_d1

/-- The log decays since the start, of every unit. -/
def cumV : FVec Ideal S64x8x128 .f32 :=
  k0_pay164 rowIx (roundV lb f) k0_pay162 (turnedV lb f) (FloatOps.ofBits (F := Ideal) .f32 0x00000000#32)

/-- The mix, of every unit. -/
def mixV : FVec Ideal S64x8x128 .f32 :=
  k0_pay166 k0_pay149 st v (k0_pay159 q) (keyV lb f) rowIx (roundV lb f) k0_pay162 (turnedV lb f)
    (FloatOps.ofBits (F := Ideal) .f32 0x00000000#32)

/-- The states after the rows. -/
def nextV : FVec Ideal S64x128x128 .f32 :=
  k0_pay167 st v (keyV lb f) rowIx (roundV lb f) k0_pay162 (turnedV lb f) (FloatOps.ofBits (F := Ideal) .f32 0x00000000#32)

/-- The normalised, gated rows. -/
def doneV : FVec Ideal S64x8x128 .bf16 :=
  k0_pay169 nw g (mixV lb q f v st)
    (k0_pay168 k0_pay149 st v (k0_pay159 q) (keyV lb f) rowIx (roundV lb f) k0_pay162 (turnedV lb f)
      (FloatOps.ofBits (F := Ideal) .f32 0x00000000#32))

theorem gate_apply (u : Fin 64) (t : Fin 8) (k : Fin 128) :
    gateV lb f (ix3 u t k) = gate (lb (ix3 u 0 k)) (f (ix3 u t k)) := by
  pointwise [gateV]
  rfl

theorem cum_apply (u : Fin 64) (t : Fin 8) (k : Fin 128) :
    cumV lb f (ix3 u t k) = decayTo (fun t k => f (ix3 u t k)) (fun k => lb (ix3 u 0 k)) t k := by
  unfold cumV k0_pay164 k0_pay162 turnedV roundV
  have e : (FloatOps.ofBits (F := Ideal) .f32 0x00000000#32) = Scalar.ofBits (F := Ideal) .f32 0x00000000#32 := rfl
  simp only [e, rowIx_eq _ _ rfl, rotate_apply _ (by decide : (1#32).toNat < 8), rotate_apply _ (by decide : (2#32).toNat < 8),
    rotate_apply _ (by decide : (4#32).toNat < 8)]
  refine (shiftAdd_all _ t).trans ?_
  unfold decayTo
  refine Finset.sum_congr rfl fun s _ => ?_
  pointwise
  rw [gate_apply]

theorem cum_eq : k0_pay164 rowIx (roundV lb f) k0_pay162 (turnedV lb f) (FloatOps.ofBits (F := Ideal) .f32 0x00000000#32)
    = cumV lb f := rfl

theorem mix_apply (u : Fin 64) (t : Fin 8) (w : Fin 128) :
    mixV lb q f v st (ix3 u t w) = mixRow (fun t k => q (ix3 u t k)) (fun t k => f (ix3 u t k)) (fun t k => v (ix3 u t k))
      (fun k => lb (ix3 u 0 k)) (fun k w => st (ix3 u w k)) t w := by
  unfold mixV k0_pay166
  have key : ∀ s t : Fin 8, IntOp.cmpi .sle (BitVec.ofNat 32 s.val) (BitVec.ofNat 32 t.val) = if s ≤ t then 1#1 else 0#1 := by
    decide
  simp only [cum_eq]
  pointwise [k0_pay149, k0_pay159, k0_pay165, keyV]
  simp only [cum_apply, gate_apply, key, zero_sub]
  unfold mixRow score queryAt keyAt swish
  refine congrArg₂ (· + ·) rfl (Finset.sum_congr rfl fun s _ => ?_)
  rw [select_ite]
  by_cases h : s ≤ t
  · simp only [if_pos h]
  · simp only [if_neg h, zero_mul]

theorem next_apply (u : Fin 64) (w k : Fin 128) :
    nextV lb f v st (ix3 u w k) = nextState (fun t k => f (ix3 u t k)) (fun t k => v (ix3 u t k))
      (fun k => lb (ix3 u 0 k)) (fun k w => st (ix3 u w k)) k w := by
  unfold nextV k0_pay167
  simp only [cum_eq]
  pointwise [k0_pay165, keyV]
  simp only [cum_apply, gate_apply]
  unfold nextState keyEnd
  exact congrArg₂ (· + ·) rfl (Finset.sum_congr rfl fun s _ => mul_comm _ _)

theorem mix_eq : k0_pay166 k0_pay149 st v (k0_pay159 q) (keyV lb f) rowIx (roundV lb f) k0_pay162 (turnedV lb f)
    (FloatOps.ofBits (F := Ideal) .f32 0x00000000#32) = mixV lb q f v st := rfl

theorem done_apply (u : Fin 64) (t : Fin 8) (w : Fin 128) :
    doneV lb q f v g st nw (ix3 u t w) = finish (fun w => mixV lb q f v st (ix3 u t w)) (nw (ix3 0 0 w)) (g (ix3 u t w)) w := by
  unfold doneV k0_pay169 k0_pay168
  simp only [mix_eq]
  pointwise
  rfl

/-! The kernel cuts its rows into heads in several places; they are the same functions of the rows. -/

section Same

variable (xq xf xv xg : Vec Ideal S8x8x1024 .f32)

theorem next_same : k0_pay167 st (k0_pay156 xv) (k0_pay160 lb xf (k0_pay151 xf) (k0_pay152 xf) (k0_pay153 xf) (k0_pay154 xf) (k0_pay155 xf))
    rowIx (k0_pay161 lb xf (k0_pay151 xf) (k0_pay152 xf) (k0_pay153 xf) (k0_pay154 xf) (k0_pay155 xf)) k0_pay162
    (k0_pay163 lb xf (k0_pay151 xf) (k0_pay152 xf) (k0_pay153 xf) (k0_pay154 xf) (k0_pay155 xf)) (FloatOps.ofBits (F := Ideal) .f32 0x00000000#32)
    = nextV lb (k0_pay150 xf) (k0_pay150 xv) st := rfl

theorem done_same : k0_pay169 nw (k0_pay157 xg) (k0_pay166 k0_pay149 st (k0_pay156 xv) (k0_pay159 (k0_pay150 xq)) (k0_pay160 lb xf (k0_pay151 xf) (k0_pay152 xf) (k0_pay153 xf) (k0_pay154 xf) (k0_pay155 xf))
    rowIx (k0_pay161 lb xf (k0_pay151 xf) (k0_pay152 xf) (k0_pay153 xf) (k0_pay154 xf) (k0_pay155 xf)) k0_pay162
    (k0_pay163 lb xf (k0_pay151 xf) (k0_pay152 xf) (k0_pay153 xf) (k0_pay154 xf) (k0_pay155 xf)) (FloatOps.ofBits (F := Ideal) .f32 0x00000000#32))
    (k0_pay168 k0_pay149 st (k0_pay156 xv) (k0_pay159 (k0_pay150 xq)) (k0_pay160 lb xf (k0_pay151 xf) (k0_pay152 xf) (k0_pay153 xf) (k0_pay154 xf) (k0_pay155 xf))
    rowIx (k0_pay161 lb xf (k0_pay151 xf) (k0_pay152 xf) (k0_pay153 xf) (k0_pay154 xf) (k0_pay155 xf)) k0_pay162
    (k0_pay163 lb xf (k0_pay151 xf) (k0_pay152 xf) (k0_pay153 xf) (k0_pay154 xf) (k0_pay155 xf)) (FloatOps.ofBits (F := Ideal) .f32 0x00000000#32))
    = doneV lb (k0_pay150 xq) (k0_pay150 xf) (k0_pay150 xv) (k0_pay150 xg) st nw := rfl

end Same

end Cert.HgrnSIdeal.Units

end
-- ==== Proof.HgrnSPoint.lean ====
/- What one grid point of the sample's HGRN2 kernel stores, as functions of its blocks. -/
module

public import proofs.«01_k».proof.Proof.HgrnSUnits
public import Idealize.ShloMosaic.Lib.Pipeline.ValueKit
public import Idealize.ShloMosaic.Lib.Pointwise

@[expose] public section

set_option maxRecDepth 16384

noncomputable section

namespace Cert.HgrnSIdeal.Units

open Cert.HgrnSIdeal Cert.HgrnSIdeal.Gen Cert.HgrnSSpec Idealize.ShloMosaic Idealize.ShloMosaic.TcCoe Idealize.SL.Sem
/-- The heads, in the order their stores come to be listed. -/
abbrev heads : List (Fin 8) := [7, 6, 5, 4, 3, 2, 1, 0]

/-- The pairs of a head and a sequence, in that order. -/
abbrev units : List (Fin 64) := [63, 62, 61, 60, 59, 58, 57, 56, 55, 54, 53, 52, 51, 50, 49, 48, 47, 46, 45, 44,
  43, 42, 41, 40, 39, 38, 37, 36, 35, 34, 33, 32, 31, 30, 29, 28, 27, 26, 25, 24,
  23, 22, 21, 20, 19, 18, 17, 16, 15, 14, 13, 12, 11, 10, 9, 8, 7, 6, 5, 4,
  3, 2, 1, 0]

/-- The store of a head's rows. -/
def headPiece (D : FVec Ideal S64x8x128 .bf16) (h : Fin 8) : View.Piece (Elt Ideal) S8x8x1024 .bf16 :=
  ⟨Rect.unit ![0, 0, 128 * h.val] ![8, 8, 128] (by revert h; decide),
    extractStridedSlice S8x8x128 ![8 * h.val, 0, 0] D (by revert h; decide)⟩

/-- What a point writes. -/
def pointOut (D : FVec Ideal S64x8x128 .bf16) : S8x8x1024.Idx → EReal := fun y =>
  D (ix3 ⟨8 * ((y 2).val / 128) + (y 0).val, by
    have : (y 0).val < 8 := (y 0).isLt; have : (y 2).val < 1024 := (y 2).isLt; omega⟩
    (y 1) ⟨(y 2).val % 128, Nat.mod_lt _ (by decide)⟩)

theorem head_agree (D : FVec Ideal S64x8x128 .bf16) (h : Fin 8) (z : (headPiece D h).1.shape.Idx) :
    (headPiece D h).2 z = pointOut D ((headPiece D h).1.emb z) := by
  have z0 : (z 0).val < 8 := (z 0).isLt
  have z1 : (z 1).val < 8 := (z 1).isLt
  have z2 : (z 2).val < 128 := (z 2).isLt
  have e0 : ((headPiece D h).1.emb z 0).val = 0 + 1 * (z 0).val := rfl
  have e1 : ((headPiece D h).1.emb z 1).val = 0 + 1 * (z 1).val := rfl
  have e2 : ((headPiece D h).1.emb z 2).val = 128 * h.val + 1 * (z 2).val := rfl
  unfold pointOut
  show D _ = D _
  refine congrArg D (funext fun a => ?_)
  fin_cases a
  · exact Fin.ext (by
      show 8 * h.val + (z 0).val = 8 * (((headPiece D h).1.emb z 2).val / 128) + ((headPiece D h).1.emb z 0).val
      omega)
  · exact Fin.ext (by show 0 + (z 1).val = ((headPiece D h).1.emb z 1).val; omega)
  · exact Fin.ext (by show 0 + (z 2).val = ((headPiece D h).1.emb z 2).val % 128; omega)

theorem point_canon (D : FVec Ideal S64x8x128 .bf16) (y : S8x8x1024.Idx) :
    View.canon (heads.map (headPiece D)) y = pointOut D y := by
  have y0 : (y 0).val < 8 := (y 0).isLt
  have y1 : (y 1).val < 8 := (y 1).isLt
  have y2 : (y 2).val < 1024 := (y 2).isLt
  have hm : ∀ h : Fin 8, h ∈ heads := by decide
  refine View.canon_apply_of_pieces (Val := Elt Ideal) (e := .bf16) (pointOut D) _ ?_ y ?_
  · intro p hp
    obtain ⟨h, _, rfl⟩ := List.mem_map.1 hp
    exact head_agree D h
  · refine ⟨_, List.mem_map_of_mem (hm ⟨(y 2).val / 128, by omega⟩), ?_⟩
    unfold headPiece
    rw [Rect.mem_set_unit]
    simp only [Fin.forall_fin_succ, Fin.forall_fin_zero]
    simp
    omega

/-- A pair's first state, transposed. -/
def startVec (s : Vec Ideal S8x8x128x128 .f32) (u : Fin 64) : FVec Ideal S1x128x128 .f32 :=
  k0_pay148 (View.ld s (Rect.unit ![u.val % 8, u.val / 8, 0, 0] ![1, 1, 128, 128] (by revert u; decide)))

theorem startVec_apply (s : Vec Ideal S8x8x128x128 .f32) (u : Fin 64) (z : S1x128x128.Idx) :
    startVec s u z = s (ix4 ⟨u.val % 8, by omega⟩ ⟨u.val / 8, by omega⟩ (z 2) (z 1)) := by
  pointwise [startVec, k0_pay148]

/-- Its store. -/
def startPiece (s : Vec Ideal S8x8x128x128 .f32) (u : Fin 64) : View.Piece (Elt Ideal) S64x128x128 .f32 :=
  ⟨Rect.unit ![u.val, 0, 0] ![1, 128, 128] (by revert u; decide), startVec s u⟩

/-- The first states, transposed. -/
def startOf (s : Vec Ideal S8x8x128x128 .f32) : FVec Ideal S64x128x128 .f32 := fun i =>
  s (ix4 ⟨(i 0).val % 8, Nat.mod_lt _ (by decide)⟩ ⟨(i 0).val / 8, by have : (i 0).val < 64 := (i 0).isLt; omega⟩ (i 2) (i 1))

theorem start_canon (s : Vec Ideal S8x8x128x128 .f32) (y : S64x128x128.Idx) :
    View.canon (units.map (startPiece s)) y = startOf s y := by
  have y0 : (y 0).val < 64 := (y 0).isLt
  have y1 : (y 1).val < 128 := (y 1).isLt
  have y2 : (y 2).val < 128 := (y 2).isLt
  have hm : ∀ u : Fin 64, u ∈ units := by decide
  refine View.canon_apply_of_pieces (Val := Elt Ideal) (e := .f32) (startOf s) _ ?_ y ?_
  · intro p hp z
    obtain ⟨u, _, rfl⟩ := List.mem_map.1 hp
    have z0 : (z 0).val < 1 := (z 0).isLt
    have e0 : ((startPiece s u).1.emb z 0).val = u.val + 1 * (z 0).val := rfl
    have e1 : ((startPiece s u).1.emb z 1).val = 0 + 1 * (z 1).val := rfl
    have e2 : ((startPiece s u).1.emb z 2).val = 0 + 1 * (z 2).val := rfl
    refine (startVec_apply s u z).trans ?_
    unfold startOf
    refine congrArg s (funext fun a => ?_)
    fin_cases a
    · exact Fin.ext (by show u.val % 8 = ((startPiece s u).1.emb z 0).val % 8; omega)
    · exact Fin.ext (by show u.val / 8 = ((startPiece s u).1.emb z 0).val / 8; omega)
    · exact Fin.ext (by show (z 2).val = ((startPiece s u).1.emb z 2).val; omega)
    · exact Fin.ext (by show (z 1).val = ((startPiece s u).1.emb z 1).val; omega)
  · refine ⟨_, List.mem_map_of_mem (hm (y 0)), ?_⟩
    unfold startPiece
    rw [Rect.mem_set_unit]
    simp only [Fin.forall_fin_succ, Fin.forall_fin_zero]
    simp
    omega

/-- A pair's last state, transposed back. -/
def lastVec (st : FVec Ideal S64x128x128 .f32) (u : Fin 64) : FVec Ideal S1x1x128x128 .f32 :=
  shapeCast S1x1x128x128 (transpose S128x128 [1, 0] (shapeCast S128x128
      (extractStridedSlice S1x128x128 ![u.val, 0, 0] st (by revert u; decide)) shapeCasts_S1x128x128_S128x128)
      transposes_S128x128_p1_0_S128x128) shapeCasts_S128x128_S1x1x128x128

theorem lastVec_apply (st : FVec Ideal S64x128x128 .f32) (u : Fin 64) (z : S1x1x128x128.Idx) :
    lastVec st u z = st (ix3 u (z 3) (z 2)) := by
  pointwise [lastVec]

/-- Its store. -/
def lastPiece (st : FVec Ideal S64x128x128 .f32) (u : Fin 64) : View.Piece (Elt Ideal) S8x8x128x128 .f32 :=
  ⟨Rect.unit ![u.val % 8, u.val / 8, 0, 0] ![1, 1, 128, 128] (by revert u; decide), lastVec st u⟩

/-- The last states, transposed back. -/
def lastOf (st : FVec Ideal S64x128x128 .f32) : S8x8x128x128.Idx → EReal := fun i =>
  st (ix3 ⟨8 * (i 1).val + (i 0).val, by have : (i 0).val < 8 := (i 0).isLt; have : (i 1).val < 8 := (i 1).isLt; omega⟩ (i 3) (i 2))

theorem last_canon (st : FVec Ideal S64x128x128 .f32) (y : S8x8x128x128.Idx) :
    View.canon (units.map (lastPiece st)) y = lastOf st y := by
  have y0 : (y 0).val < 8 := (y 0).isLt
  have y1 : (y 1).val < 8 := (y 1).isLt
  have y2 : (y 2).val < 128 := (y 2).isLt
  have y3 : (y 3).val < 128 := (y 3).isLt
  have hm : ∀ u : Fin 64, u ∈ units := by decide
  refine View.canon_apply_of_pieces (Val := Elt Ideal) (e := .f32) (lastOf st) _ ?_ y ?_
  · intro p hp z
    obtain ⟨u, _, rfl⟩ := List.mem_map.1 hp
    have z0 : (z 0).val < 1 := (z 0).isLt
    have z1 : (z 1).val < 1 := (z 1).isLt
    have e0 : ((lastPiece st u).1.emb z 0).val = u.val % 8 + 1 * (z 0).val := rfl
    have e1 : ((lastPiece st u).1.emb z 1).val = u.val / 8 + 1 * (z 1).val := rfl
    have e2 : ((lastPiece st u).1.emb z 2).val = 0 + 1 * (z 2).val := rfl
    have e3 : ((lastPiece st u).1.emb z 3).val = 0 + 1 * (z 3).val := rfl
    refine (lastVec_apply st u z).trans ?_
    unfold lastOf
    refine congrArg st (funext fun a => ?_)
    fin_cases a
    · exact Fin.ext (by
        show u.val = 8 * ((lastPiece st u).1.emb z 1).val + ((lastPiece st u).1.emb z 0).val
        omega)
    · exact Fin.ext (by show (z 3).val = ((lastPiece st u).1.emb z 3).val; omega)
    · exact Fin.ext (by show (z 2).val = ((lastPiece st u).1.emb z 2).val; omega)
  · refine ⟨_, List.mem_map_of_mem (hm ⟨8 * (y 1).val + (y 0).val, by omega⟩), ?_⟩
    unfold lastPiece
    rw [Rect.mem_set_unit]
    simp only [Fin.forall_fin_succ, Fin.forall_fin_zero]
    simp
    omega

end Cert.HgrnSIdeal.Units

end
-- ==== Proof.HgrnSValue.lean ====
/- The sample's HGRN2 kernel: what its grid leaves in its two result arrays, at every index. -/
module

public import proofs.«01_k».proof.Proof.Gen.HgrnSIdeal.Value
public import proofs.«01_k».proof.Proof.HgrnSPoint
public import Idealize.ShloMosaic.Lib.Pipeline.ValueKit
public import Idealize.ShloMosaic.Lib.Pointwise

@[expose] public section

set_option maxRecDepth 16384

noncomputable section

namespace Cert.HgrnSIdeal.Blocks

open Cert.HgrnSIdeal Cert.HgrnSIdeal.Gen Cert.HgrnSIdeal.Units Cert.HgrnSSpec Idealize.ShloMosaic Idealize.ShloMosaic.TcCoe Idealize.SL.Sem
open Idealize.ShloMosaic.Pipeline (Dat)

variable (m : (ℓ : Loc nD τ sig) → Buf (Elt Ideal) ℓ)

/-- The stores of the first states, read back whole. -/
theorem start_read (s : Vec Ideal S8x8x128x128 .f32) :
    (View.whole cc0_scratch0).readCov (units.map (startPiece s))
      (Rect.unit ![0, 0, 0] ![64, 128, 128] inb_S64x128x128_S64x128x128_0_0_0).toLoadRect = startOf s := by
  rw [View.readCov_eq_canon']
  funext i
  refine (start_canon s _).trans (congrArg (startOf s) (funext fun a => ?_))
  fin_cases a <;> exact Fin.ext (by show 0 + 1 * _ = _; omega)

/-- The states after a point's rows. -/
def stateDone (c : Dev nD) (t : Fin cfg0.N) : FVec Ideal S64x128x128 .f32 :=
  nextV (k0_pay146 (iblk m c 5 t)) (k0_pay150 (iblk m c 1 t)) (k0_pay150 (iblk m c 2 t)) (startOf (iblk m c 4 t))

/-- A point's finished rows. -/
def rowsDone (c : Dev nD) (t : Fin cfg0.N) : FVec Ideal S64x8x128 .bf16 :=
  doneV (k0_pay146 (iblk m c 5 t)) (k0_pay150 (iblk m c 0 t)) (k0_pay150 (iblk m c 1 t)) (k0_pay150 (iblk m c 2 t))
    (k0_pay150 (iblk m c 3 t)) (startOf (iblk m c 4 t)) (k0_pay147 (iblk m c 6 t))

/-- The rows a point writes. -/
theorem rows_after (c : Dev nD) (t : Fin cfg0.N) (y : S8x8x1024.Idx) :
    (outsAt0 m c t).1 y = pointOut (rowsDone m c t) y := by
  rw [← point_canon]
  unfold rowsDone outsAt0
  dsimp only
  frame_out
  simp only [rowIx_eq _ _ rfl, k0_pay170, k0_pay171, k0_pay172, k0_pay173, k0_pay174, k0_pay175, k0_pay176, k0_pay177, done_same]
  rw [← start_read]
  rfl

/-- The last states it writes. -/
theorem last_after (c : Dev nD) (t : Fin cfg0.N) (y : S8x8x128x128.Idx) :
    (outsAt0 m c t).2 y = lastOf (stateDone m c t) y := by
  rw [← last_canon]
  unfold stateDone outsAt0
  dsimp only
  frame_out
  simp only [rowIx_eq _ _ rfl, next_same]
  rw [← start_read]
  rfl

/-! ## The results as functions of the whole arrays -/

/-- The sequence of a pair. -/
def seqOf (n : Nat) (hn : n < 16) (u : Fin 64) : Fin 128 := ⟨8 * n + u.val % 8, by omega⟩

/-- The head of a pair. -/
def headOf (u : Fin 64) : Fin 8 := ⟨u.val / 8, by omega⟩

/-- The activations. -/
def zArr (c : Dev nD) : Fin 128 → Fin 8 → Fin 5120 → EReal := fun b r k => m ((c : Thread nD τ).loc main_arg0) (ix3 b r k)

/-- The first states. -/
def sArr (c : Dev nD) : Fin 128 → Fin 8 → Fin 128 → Fin 128 → EReal := fun b h k w => m ((c : Thread nD τ).loc main_arg1) (ix4 b h k w)

/-- The lower bounds. -/
def lArr (c : Dev nD) : Fin 1024 → EReal := fun k => m ((c : Thread nD τ).loc main_arg2) (ix1 k)

/-- The norm's weights. -/
def nArr (c : Dev nD) : Fin 128 → EReal := fun k => m ((c : Thread nD τ).loc main_arg3) (ix1 k)

/-! Which blocks a point reads and writes. -/

theorem index0 : ∀ t : Fin cfg0.N, win0_0.index t = ![t.val, 0, 1] :=
  (by decide +kernel : ∀ t : Fin grid0.N, win0_0.index t = ![t.val, 0, 1])

theorem index1 : ∀ t : Fin cfg0.N, win0_1.index t = ![t.val, 0, 2] :=
  (by decide +kernel : ∀ t : Fin grid0.N, win0_1.index t = ![t.val, 0, 2])

theorem index2 : ∀ t : Fin cfg0.N, win0_2.index t = ![t.val, 0, 3] :=
  (by decide +kernel : ∀ t : Fin grid0.N, win0_2.index t = ![t.val, 0, 3])

theorem index3 : ∀ t : Fin cfg0.N, win0_3.index t = ![t.val, 0, 4] :=
  (by decide +kernel : ∀ t : Fin grid0.N, win0_3.index t = ![t.val, 0, 4])

theorem index4 : ∀ t : Fin cfg0.N, win0_4.index t = ![t.val, 0, 0, 0] :=
  (by decide +kernel : ∀ t : Fin grid0.N, win0_4.index t = ![t.val, 0, 0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem index7 : ∀ t : Fin cfg0.N, win0_7.index t = ![t.val, 0, 0] :=
  (by decide +kernel : ∀ t : Fin grid0.N, win0_7.index t = ![t.val, 0, 0])

theorem index8 : ∀ t : Fin cfg0.N, win0_8.index t = ![t.val, 0, 0, 0] :=
  (by decide +kernel : ∀ t : Fin grid0.N, win0_8.index t = ![t.val, 0, 0, 0])

theorem point_lt (t : Fin cfg0.N) : t.val < 16 := lt_of_lt_of_eq t.isLt (show cfg0.N = 16 from N_0)

section Points

variable (c : Dev nD) (t : Fin cfg0.N)

theorem block0 (b : Fin 8) (r : Fin 8) (k : Fin 1024) : iblk m c 0 t (ix3 b r k) =
    zArr m c ⟨8 * t.val + b.val, by have := point_lt t; omega⟩ r ⟨1024 * 1 + k.val, by omega⟩ := by
  have e := index0 t
  unfold zArr
  blk_point [iblk, V, e]

theorem block1 (b : Fin 8) (r : Fin 8) (k : Fin 1024) : iblk m c 1 t (ix3 b r k) =
    zArr m c ⟨8 * t.val + b.val, by have := point_lt t; omega⟩ r ⟨1024 * 2 + k.val, by omega⟩ := by
  have e := index1 t
  unfold zArr
  blk_point [iblk, V, e]

theorem block2 (b : Fin 8) (r : Fin 8) (k : Fin 1024) : iblk m c 2 t (ix3 b r k) =
    zArr m c ⟨8 * t.val + b.val, by have := point_lt t; omega⟩ r ⟨1024 * 3 + k.val, by omega⟩ := by
  have e := index2 t
  unfold zArr
  blk_point [iblk, V, e]

theorem block3 (b : Fin 8) (r : Fin 8) (k : Fin 1024) : iblk m c 3 t (ix3 b r k) =
    zArr m c ⟨8 * t.val + b.val, by have := point_lt t; omega⟩ r ⟨1024 * 4 + k.val, by omega⟩ := by
  have e := index3 t
  unfold zArr
  blk_point [iblk, V, e]

theorem block4 (b h : Fin 8) (k w : Fin 128) : iblk m c 4 t (ix4 b h k w) =
    sArr m c ⟨8 * t.val + b.val, by have := point_lt t; omega⟩ h k w := by
  have e := index4 t
  unfold sArr
  blk_point [iblk, V, e]

theorem block5 (k : Fin 1024) : iblk m c 5 t (ix2 0 k) = lArr m c k := by
  have e := index5 t
  unfold lArr
  blk_simp [iblk, V, e]
  entry_read
  pointwise
  refine congrArg (fun q : Fin 1024 => m (c, Proc.tc.devRef main_arg2) (ix1 q)) (Fin.ext ?_)
  show win0_5.index t 1 * 1024 + 1 * k.val = k.val
  rw [e]
  show 0 * 1024 + 1 * k.val = k.val
  omega

theorem block6 (k : Fin 128) : iblk m c 6 t (ix2 0 k) = nArr m c k := by
  have e := index6 t
  unfold nArr
  blk_simp [iblk, V, e]
  entry_read
  pointwise
  refine congrArg (fun q : Fin 128 => m (c, Proc.tc.devRef main_arg3) (ix1 q)) (Fin.ext ?_)
  show win0_6.index t 1 * 128 + 1 * k.val = k.val
  rw [e]
  show 0 * 128 + 1 * k.val = k.val
  omega

theorem bound_at (u : Fin 64) (k : Fin 128) : k0_pay146 (iblk m c 5 t) (ix3 u 0 k) = boundOf (lArr m c) (headOf u) k :=
  (bounds_apply _ _).trans (block5 m c t _)

theorem weight_at (k : Fin 128) : k0_pay147 (iblk m c 6 t) (ix3 0 0 k) = nArr m c k := by
  pointwise [k0_pay147]
  exact block6 m c t k

theorem state_at (u : Fin 64) (w k : Fin 128) :
    startOf (iblk m c 4 t) (ix3 u w k) = sArr m c (seqOf t.val (point_lt t) u) (headOf u) k w :=
  block4 m c t _ _ _ _

/-- The rows of a block's column group. -/
theorem rows_at (x : Vec Ideal S8x8x1024 .f32) (g : Fin 5)
    (hx : ∀ (b r : Fin 8) (k : Fin 1024), x (ix3 b r k) =
      zArr m c ⟨8 * t.val + b.val, by have := point_lt t; omega⟩ r ⟨1024 * g.val + k.val, by omega⟩)
    (u : Fin 64) (r : Fin 8) (k : Fin 128) :
    k0_pay150 x (ix3 u r k) = rowsOf (zArr m c) g (seqOf t.val (point_lt t) u) (headOf u) r k := by
  rw [units_apply]
  refine (hx _ _ _).trans (congrArg (zArr m c _ _) (Fin.ext ?_))
  show 1024 * g.val + (128 * (u.val / 8) + k.val) = 1024 * g.val + 128 * (u.val / 8) + k.val
  omega

/-- The states after a point's rows, at an index. -/
theorem state_done (u : Fin 64) (w k : Fin 128) : stateDone m c t (ix3 u w k) =
    lastAt (zArr m c) (sArr m c) (lArr m c) (seqOf t.val (point_lt t) u) (headOf u) k w := by
  unfold stateDone
  rw [next_apply]
  simp only [bound_at, state_at, rows_at m c t _ 2 (block1 m c t), rows_at m c t _ 3 (block2 m c t)]
  rfl

/-- A point's finished rows, at an index. -/
theorem rows_done (u : Fin 64) (r : Fin 8) (w : Fin 128) : rowsDone m c t (ix3 u r w) =
    resultAt (zArr m c) (sArr m c) (lArr m c) (nArr m c) (seqOf t.val (point_lt t) u) (headOf u) r w := by
  unfold rowsDone
  rw [done_apply]
  simp only [mix_apply, bound_at, weight_at, state_at, rows_at m c t _ 1 (block0 m c t), rows_at m c t _ 2 (block1 m c t),
    rows_at m c t _ 3 (block2 m c t), rows_at m c t _ 4 (block3 m c t)]
  rfl

end Points

/-- The mixed rows of all the sequences. -/
def mixedSpec (c : Dev nD) : S128x8x1024.Idx → EReal := fun i =>
  resultAt (zArr m c) (sArr m c) (lArr m c) (nArr m c) (i 0)
    ⟨(i 2).val / 128, by have : (i 2).val < 1024 := (i 2).isLt; omega⟩ (i 1) ⟨(i 2).val % 128, Nat.mod_lt _ (by decide)⟩

/-- The states after the rows. -/
def lastSpec (c : Dev nD) : S128x8x128x128.Idx → EReal := fun i =>
  lastAt (zArr m c) (sArr m c) (lArr m c) (i 0) (i 1) (i 2) (i 3)

/-- The first result array. -/
theorem array7 (c : Dev nD) : (dats m 0 c).arrAt 7 cfg0.N = mixedSpec m c := by
  refine (dats m 0 c).arrAt_eq_of_covers 7 _ (by decide +kernel) fun t hf y => ?_
  have y0 : (y 0).val < 8 := (y 0).isLt
  have y1 : (y 1).val < 8 := (y 1).isLt
  have y2 : (y 2).val < 1024 := (y 2).isLt
  blk_simp
  rw [after0_7, rows_after]
  have h0 : ((win0_7.blk t).view.emb y 0).val = 8 * t.val + (y 0).val := by
    show win0_7.index t 0 * 8 + 1 * (y 0).val = _
    rw [index7]
    show t.val * 8 + 1 * (y 0).val = _
    omega
  have h1 : ((win0_7.blk t).view.emb y 1).val = (y 1).val := by
    show win0_7.index t 1 * 8 + 1 * (y 1).val = _
    rw [index7]
    show 0 * 8 + 1 * (y 1).val = _
    omega
  have h2 : ((win0_7.blk t).view.emb y 2).val = (y 2).val := by
    show win0_7.index t 2 * 1024 + 1 * (y 2).val = _
    rw [index7]
    show 0 * 1024 + 1 * (y 2).val = _
    omega
  unfold pointOut mixedSpec
  refine (rows_done m c t _ _ _).trans ?_
  have e0 : ∀ h, seqOf t.val (point_lt t) ⟨8 * ((y 2).val / 128) + (y 0).val, h⟩ = (win0_7.blk t).view.emb y 0 := fun h => Fin.ext (by
    rw [h0]
    show 8 * t.val + (8 * ((y 2).val / 128) + (y 0).val) % 8 = _
    omega)
  have eh : ∀ h, headOf ⟨8 * ((y 2).val / 128) + (y 0).val, h⟩ = ⟨(y 2).val / 128, by omega⟩ := fun h => Fin.ext (by
    show (8 * ((y 2).val / 128) + (y 0).val) / 8 = (y 2).val / 128
    omega)
  have e1 : (win0_7.blk t).view.emb y 1 = y 1 := Fin.ext h1
  have e2 : (win0_7.blk t).view.emb y 2 = y 2 := Fin.ext h2
  rw [e0, eh]
  simp only [e1, e2]

/-- The second result array. -/
theorem array8 (c : Dev nD) : (dats m 0 c).arrAt 8 cfg0.N = lastSpec m c := by
  refine (dats m 0 c).arrAt_eq_of_covers 8 _ (by decide +kernel) fun t hf y => ?_
  have y0 : (y 0).val < 8 := (y 0).isLt
  have y1 : (y 1).val < 8 := (y 1).isLt
  blk_simp
  rw [after0_8, last_after]
  have h0 : ((win0_8.blk t).view.emb y 0).val = 8 * t.val + (y 0).val := by
    show win0_8.index t 0 * 8 + 1 * (y 0).val = _
    rw [index8]
    show t.val * 8 + 1 * (y 0).val = _
    omega
  have h1 : ((win0_8.blk t).view.emb y 1).val = (y 1).val := by
    show win0_8.index t 1 * 8 + 1 * (y 1).val = _
    rw [index8]
    show 0 * 8 + 1 * (y 1).val = _
    omega
  have h2 : ((win0_8.blk t).view.emb y 2).val = (y 2).val := by
    show win0_8.index t 2 * 128 + 1 * (y 2).val = _
    rw [index8]
    show 0 * 128 + 1 * (y 2).val = _
    omega
  have h3 : ((win0_8.blk t).view.emb y 3).val = (y 3).val := by
    show win0_8.index t 3 * 128 + 1 * (y 3).val = _
    rw [index8]
    show 0 * 128 + 1 * (y 3).val = _
    omega
  unfold lastOf lastSpec
  refine (state_done m c t _ _ _).trans ?_
  have e0 : ∀ h, seqOf t.val (point_lt t) ⟨8 * (y 1).val + (y 0).val, h⟩ = (win0_8.blk t).view.emb y 0 := fun h => Fin.ext (by
    rw [h0]
    show 8 * t.val + (8 * (y 1).val + (y 0).val) % 8 = _
    omega)
  have e1 : ∀ h, headOf ⟨8 * (y 1).val + (y 0).val, h⟩ = (win0_8.blk t).view.emb y 1 := fun h => Fin.ext (by
    rw [h1]
    show (8 * (y 1).val + (y 0).val) / 8 = _
    omega)
  have e2 : (win0_8.blk t).view.emb y 2 = y 2 := Fin.ext h2
  have e3 : (win0_8.blk t).view.emb y 3 = y 3 := Fin.ext h3
  rw [e0, e1, e2, e3]

end Cert.HgrnSIdeal.Blocks

end
-- ==== Proof.HgrnSRef.lean ====
/- The sample's plain HGRN2 program read at an index. -/
module

public import proofs.«01_k».proof.Proof.Gen.HgrnSRefIdeal.Read
public import proofs.«01_k».proof.Proof.HgrnSSpec
public import proofs.«01_k».proof.Proof.HgrnRef
public import Idealize.ShloMosaic.Lib.Pipeline.ValueKit
public import Idealize.ShloMosaic.Lib.Pointwise
public import Idealize.ShloMosaic.Lib.KernelVsHost

@[expose] public section

set_option maxRecDepth 16384

noncomputable section

namespace Cert.HgrnSRefIdeal.Rows
open Idealize.ShloMosaic Idealize.ShloMosaic.TcCoe Cert.HgrnSRefIdeal Cert.HgrnSRefIdeal.Gen Cert.HgrnSRefIdeal.Read
open Cert.HgrnSSpec
open Cert.HgrnSpec (gate swish finish)

/-- The column that is column `k` of head `h`. -/
abbrev col (h : Fin 8) (k : Fin 128) : Fin 1024 := ⟨128 * h.val + k.val, by omega⟩

/-- A sequence's row as a row of its padded chunk. -/
abbrev low (s : Fin 8) : Fin 16 := ⟨s.val, by omega⟩

/-- A sum over the rows of a padded chunk, when the padding gives nothing. -/
theorem sum_low (F : Fin 16 → EReal) (h0 : ∀ s : Fin 16, 8 ≤ s.val → F s = 0) : ∑ s, F s = ∑ s : Fin 8, F (low s) := by
  refine (Fin.sum_univ_add (a := 8) (b := 8) (F : Fin (8 + 8) → EReal)).trans ?_
  rw [Finset.sum_eq_zero (s := Finset.univ) (f := fun s : Fin 8 => F (Fin.natAdd 8 s)) fun s _ => h0 _ (by
    show 8 ≤ 8 + s.val
    omega), add_zero]
  rfl

section Padding

variable (y : Vec Ideal S128x16x8x128 .f32) (x : Vec Ideal S128x8x8x128 .f32) (v : Vec Ideal S_ .f32)
variable (b : Fin 128) (h : Fin 8) (k : Fin 128)

/-- Bringing the heads before the rows, at an index. -/
theorem turned (t : Fin 16) : transpose S128x8x16x128 [0, 2, 1, 3] y transposes_S128x16x8x128_S128x8x16x128_0_2_1_3 (ix4 b h t k)
    = y (ix4 b t h k) := by
  pointwise

/-- A padded array, its heads brought before its rows, at a row that is not padding. -/
theorem padded_low (t : Fin 8) : transpose S128x8x16x128 [0, 2, 1, 3] (pad S128x16x8x128 ![0, 0, 0, 0] ![0, 8, 0, 0] ![0, 0, 0, 0]
      x v pads_S128x8x8x128_S128x16x8x128_000_080_000_000 h_S_) transposes_S128x16x8x128_S128x8x16x128_0_2_1_3 (ix4 b h (low t) k)
    = x (ix4 b t h k) := by
  refine (turned _ b h k (low t)).trans ?_
  refine pad_apply_of_inside _ _ _ x v _ _ _ (ix4 b t h k) fun a => ?_
  fin_cases a <;> exact (show _ = 0 + _ * (0 + 1) by rw [Nat.zero_add, Nat.zero_add, Nat.mul_one]; rfl)

/-- And at a row that is padding. -/
theorem padded_high (t : Fin 16) (ht : 8 ≤ t.val) : transpose S128x8x16x128 [0, 2, 1, 3] (pad S128x16x8x128 ![0, 0, 0, 0] ![0, 8, 0, 0] ![0, 0, 0, 0]
      x v pads_S128x8x8x128_S128x16x8x128_000_080_000_000 h_S_) transposes_S128x16x8x128_S128x8x16x128_0_2_1_3 (ix4 b h t k)
    = v (Shape.Idx.first h_S_) := by
  refine (turned _ b h k t).trans ?_
  refine pad_apply_of_not_inside _ _ _ x v _ _ _ (1 : Fin 4) fun hin => ?_
  have h3 : (t.val - 0) / (0 + 1) < 8 := hin.2.2
  omega

end Padding

variable (x : Vec Ideal S128x8x5120 .f32) (s0 : Vec Ideal S128x8x128x128 .f32) (l : Vec Ideal S1024 .f32)

/-- The gate, at an index. -/
theorem gate_apply (i : S128x8x1024.Idx) : val_main_v16 (F := Ideal) x l i
    = gate (l (ix1 (i 2))) (x (ix3 (i 0) (i 1) ⟨2048 + (i 2).val, by have : (i 2).val < 1024 := (i 2).isLt; omega⟩)) := by
  pointwise [val_main_v16, val_main_v15, val_main_v14, val_main_v13, val_main_v12, val_main_v11, val_main_v10, val_main_v8,
    val_main_v6, val_main_v5, val_main_v4, val_main_v1, val_main_v3, val_main_v7, val_main_v9, val_main_cst, val_main_cst_0,
    val_main_cst_1]
  rfl

/-- The activated query, at an index. -/
theorem query_apply (i : S128x8x1024.Idx) : val_main_v17 (F := Ideal) x i
    = swish (x (ix3 (i 0) (i 1) ⟨1024 + (i 2).val, by have : (i 2).val < 1024 := (i 2).isLt; omega⟩)) := by
  pointwise [val_main_v17, val_main_call0_v5, val_main_call0_v3, val_main_call0_v1, val_main_call0_v0, val_main_v0,
    val_main_call0_v2, val_main_call0_v4, val_main_call0_cst, val_main_call0_cst_0]
  rfl

/-- The position in a window of sixteen rows is its row. -/
theorem window_position (n : Fin (⟨4, ![1, 1, 16, 1]⟩ : Shape).numel) :
    (⟨4, ![1, 1, 16, 1]⟩ : Shape).rowMajor.symm n
      = ix4 (0 : Fin 1) (0 : Fin 1) (⟨n.val, n.isLt⟩ : Fin 16) (0 : Fin 1) := by
  rw [Equiv.symm_apply_eq]
  revert n
  decide +kernel

/-- The position `n` of the window at row `t` holds row `t + n - 15`, if there is one. -/
theorem window_entry (y : FVec Ideal S128x8x16x128 .f32) (b : Fin 128) (h : Fin 8) (t n : Fin 16) (k : Fin 128)
    (p : Fin 4 → ℕ) (hp : p = ![b.val, h.val, t.val + n.val, k.val])
    (dec : Decidable (∀ a : Fin 4, (![0, 0, 15, 0] : Fin 4 → ℕ) a ≤ p a
      ∧ p a - (![0, 0, 15, 0] : Fin 4 → ℕ) a < S128x8x16x128.size a)) :
    (if hin : ∀ a : Fin 4, (![0, 0, 15, 0] : Fin 4 → ℕ) a ≤ p a
          ∧ p a - (![0, 0, 15, 0] : Fin 4 → ℕ) a < S128x8x16x128.size a then
        (y (fun a => ⟨p a - (![0, 0, 15, 0] : Fin 4 → ℕ) a, (hin a).2⟩) : EReal) else 0)
      = if n + (t + 1) ≤ t then (y (ix4 b h (n + (t + 1)) k) : EReal) else 0 := by
  subst hp
  have hv : (n + (t + 1)).val = (n.val + (t.val + 1)) % 16 := by
    simp only [Fin.val_add, Fin.val_one]; omega
  have hle : n + (t + 1) ≤ t ↔ 15 ≤ t.val + n.val := by
    rw [Fin.le_def, hv]; omega
  by_cases hc : 15 ≤ t.val + n.val
  · have hin : ∀ a : Fin 4, (![0, 0, 15, 0] : Fin 4 → ℕ) a ≤ (![b.val, h.val, t.val + n.val, k.val] : Fin 4 → ℕ) a
        ∧ (![b.val, h.val, t.val + n.val, k.val] : Fin 4 → ℕ) a - (![0, 0, 15, 0] : Fin 4 → ℕ) a < S128x8x16x128.size a
      | ⟨0, _⟩ => ⟨Nat.zero_le _, b.isLt⟩
      | ⟨1, _⟩ => ⟨Nat.zero_le _, h.isLt⟩
      | ⟨2, _⟩ => ⟨hc, by show t.val + n.val - 15 < 16; omega⟩
      | ⟨3, _⟩ => ⟨Nat.zero_le _, k.isLt⟩
    rw [dif_pos hin, if_pos (hle.2 hc)]
    refine congrArg y (funext fun a => Fin.ext ?_)
    match a with
    | ⟨0, _⟩ => rfl
    | ⟨1, _⟩ => rfl
    | ⟨2, _⟩ => show t.val + n.val - 15 = (n + (t + 1)).val; omega
    | ⟨3, _⟩ => rfl
  · rw [dif_neg fun hin => hc (hin 2).1, if_neg fun h' => hc (hle.1 h')]

/-- The running sums down the rows of a padded chunk, at an index. -/
theorem running_apply (y : FVec Ideal S128x8x16x128 .f32) (v : FVec Ideal S_ .f32) (hv : v (Shape.Idx.first h_S_) = (0 : EReal))
    (b : Fin 128) (h : Fin 8) (t : Fin 16) (k : Fin 128) :
    (Host.reduceWindowAdd (F := Ideal) (φ := .f32) (t := S128x8x16x128) ![1, 1, 16, 1] ![1, 1, 1, 1] ![0, 0, 15, 0] ![0, 0, 0, 0] y v
        reduceWindows_S128x8x16x128_S128x8x16x128_w1s1p0_0_w1s1p0_0_w16s1p15_0_w1s1p0_0 h_S_ (ix4 b h t k) : EReal)
      = ∑ s : Fin 16, if s ≤ t then (y (ix4 b h s k) : EReal) else 0 := by
  unfold Host.reduceWindowAdd
  rw [Ideal.hostReduceWindowAdd_def, hv]
  unfold Ideal.hostReduceWindowAdd Host.reduceWindow
  refine (Cert.HgrnRefIdeal.Read.fold_add (n := 16) _).trans ?_
  rw [← Equiv.sum_comp (Equiv.addRight (t + 1)) (fun s : Fin 16 => if s ≤ t then (y (ix4 b h s k) : EReal) else 0)]
  refine Finset.sum_congr rfl fun n _ => ?_
  refine window_entry y b h t n k _ (funext fun a => ?_) _
  have hw := window_position n
  match a with
  | ⟨0, _⟩ => exact (congrArg (fun i : (⟨4, ![1, 1, 16, 1]⟩ : Shape).Idx => b.val * 1 + (i 0).val) hw).trans (Nat.mul_one _)
  | ⟨1, _⟩ => exact (congrArg (fun i : (⟨4, ![1, 1, 16, 1]⟩ : Shape).Idx => h.val * 1 + (i 1).val) hw).trans (Nat.mul_one _)
  | ⟨2, _⟩ =>
    exact (congrArg (fun i : (⟨4, ![1, 1, 16, 1]⟩ : Shape).Idx => t.val * 1 + (i 2).val) hw).trans
      (congrArg (· + n.val) (Nat.mul_one _))
  | ⟨3, _⟩ => exact (congrArg (fun i : (⟨4, ![1, 1, 16, 1]⟩ : Shape).Idx => k.val * 1 + (i 3).val) hw).trans (Nat.mul_one _)

/-- The activations as a function of sequence, row and column. -/
abbrev acts (b : Fin 128) (r : Fin 8) (k : Fin 5120) : EReal := x (ix3 b r k)

/-- The lower bounds as a function of the column. -/
abbrev bounds (k : Fin 1024) : EReal := l (ix1 k)

/-- The first states as a function of their four indices. -/
abbrev firstState (b : Fin 128) (h : Fin 8) (k w : Fin 128) : EReal := s0 (ix4 b h k w)

/-- An entry of the activations as an entry of a head's rows. -/
theorem rows_eq (g : Fin 5) (b : Fin 128) (h : Fin 8) (t : Fin 8) (k : Fin 128) (e : Fin 5120)
    (he : e.val = 1024 * g.val + 128 * h.val + k.val) : (x (ix3 b t e) : EReal) = rowsOf (acts x) g b h t k := by
  unfold rowsOf
  exact congrArg (fun e : Fin 5120 => x (ix3 b t e)) (Fin.ext he)

section Chunk

variable (b : Fin 128) (h : Fin 8) (t : Fin 8) (k : Fin 128)

/-- The gate of a row. -/
theorem gate_row : val_main_v16 (F := Ideal) x l (ix3 b t (col h k))
    = gate (boundOf (bounds l) h k) (rowsOf (acts x) 2 b h t k) := by
  rw [gate_apply]
  exact congrArg (gate _) (rows_eq x 2 b h t k _ (by show 2048 + (128 * h.val + k.val) = 1024 * 2 + 128 * h.val + k.val; omega))

/-- Cutting the columns into heads, at an index. -/
theorem headed (y : Vec Ideal S128x8x1024 .f32) : shapeCast S128x8x8x128 y shapeCasts_S128x8x1024_S128x8x8x128 (ix4 b t h k)
    = y (ix3 b t (col h k)) := by
  pointwise
  refine congrArg (fun e : Fin 1024 => y (ix3 b t e)) (Fin.ext ?_)
  show h.val * 128 + k.val = 128 * h.val + k.val
  omega

/-- The activated queries. -/
theorem swish_row : val_main_v26 (F := Ideal) x (ix4 b h (low t) k) = swish (rowsOf (acts x) 1 b h t k) := by
  unfold val_main_v26 val_main_v25 val_main_v18
  refine (padded_low _ _ b h k t).trans ((headed b h t k _).trans ((query_apply x _).trans (congrArg swish (rows_eq x 1 b h t k _ ?_))))
  show 1024 + (128 * h.val + k.val) = 1024 * 1 + 128 * h.val + k.val
  omega

/-- The keys before decay. -/
theorem key_row : val_main_v28 (F := Ideal) x l (ix4 b h (low t) k)
    = 1 - gate (boundOf (bounds l) h k) (rowsOf (acts x) 2 b h t k) := by
  unfold val_main_v28 val_main_v27 val_main_v21
  refine (padded_low _ _ b h k t).trans ((headed b h t k _).trans ?_)
  pointwise [val_main_v20, val_main_v19, val_main_cst_2]
  exact congrArg (fun e : EReal => 1 - e) (gate_row x l b h t k)

/-- The logarithms of the gates. -/
theorem log_row : val_main_v30 (F := Ideal) x l (ix4 b h (low t) k)
    = Ideal.log (gate (boundOf (bounds l) h k) (rowsOf (acts x) 2 b h t k)) := by
  unfold val_main_v30 val_main_v29 val_main_v23
  refine (padded_low _ _ b h k t).trans ((headed b h t k _).trans ?_)
  pointwise [val_main_v22]
  exact congrArg Ideal.log (gate_row x l b h t k)

/-- A padded row's logarithm is 0. -/
theorem log_high (s : Fin 16) (hs : 8 ≤ s.val) : val_main_v30 (F := Ideal) x l (ix4 b h s k) = 0 := by
  unfold val_main_v30 val_main_v29
  refine (padded_high _ _ b h k s hs).trans ?_
  pointwise [val_main_call3_v0, val_main_c_4]
  exact sitofp_zero (φ := .f32)

/-- The values. -/
theorem value_row : val_main_v32 (F := Ideal) x (ix4 b h (low t) k) = rowsOf (acts x) 3 b h t k := by
  unfold val_main_v32 val_main_v31 val_main_v24
  refine (padded_low _ _ b h k t).trans ((headed b h t k _).trans ?_)
  pointwise [val_main_v2]
  exact rows_eq x 3 b h t k _ (by show 3072 + (128 * h.val + k.val) = 1024 * 3 + 128 * h.val + k.val; omega)

/-- A padded row's value is 0. -/
theorem value_high (s : Fin 16) (hs : 8 ≤ s.val) : val_main_v32 (F := Ideal) x (ix4 b h s k) = 0 := by
  unfold val_main_v32 val_main_v31
  refine (padded_high _ _ b h k s hs).trans ?_
  pointwise [val_main_call4_v0, val_main_c_5]
  exact sitofp_zero (φ := .f32)

/-- The running sums of the logarithms. -/
theorem sums_apply (s : Fin 16) : val_main_v33 (F := Ideal) x l (ix4 b h s k)
    = ∑ r : Fin 8, if low r ≤ s then Ideal.log (gate (boundOf (bounds l) h k) (rowsOf (acts x) 2 b h r k)) else 0 := by
  unfold val_main_v33
  rw [running_apply _ _ (by pointwise [val_main_call5_call0_v0, val_main_call5_call0_cst])]
  rw [sum_low _ fun r hr => by rw [log_high x l b h k r hr, ite_self]]
  refine Finset.sum_congr rfl fun r _ => ?_
  rw [log_row]

/-- The log decay up to a row. -/
theorem decay_row : val_main_v33 (F := Ideal) x l (ix4 b h (low t) k)
    = decayTo (rowsOf (acts x) 2 b h) (boundOf (bounds l) h) t k := by
  rw [sums_apply]
  rfl

/-- The log decay up to the end of the padded chunk is that up to the last row. -/
theorem decay_end : val_main_v33 (F := Ideal) x l (ix4 b h 15 k)
    = decayTo (rowsOf (acts x) 2 b h) (boundOf (bounds l) h) 7 k := by
  rw [sums_apply]
  unfold decayTo
  refine Finset.sum_congr rfl fun r _ => ?_
  rw [if_pos (by rw [Fin.le_def]; show r.val ≤ 15; omega), if_pos (by rw [Fin.le_def]; show r.val ≤ 7; omega)]

/-- The decayed queries. -/
theorem queryAt_row : val_main_v36 (F := Ideal) x l (ix4 b h (low t) k)
    = queryAt (rowsOf (acts x) 1 b h) (rowsOf (acts x) 2 b h) (boundOf (bounds l) h) t k := by
  pointwise [val_main_v36, val_main_v35]
  rw [swish_row, decay_row]
  rfl

/-- The keys with the decay taken back. -/
theorem keyAt_row : val_main_v39 (F := Ideal) x l (ix4 b h (low t) k)
    = keyAt (rowsOf (acts x) 2 b h) (boundOf (bounds l) h) t k := by
  pointwise [val_main_v39, val_main_v38, val_main_v37]
  rw [key_row, decay_row]
  rfl

/-- The keys with the decay to the end. -/
theorem keyEnd_row : val_main_v43 (F := Ideal) x l (ix4 b h (low t) k)
    = keyEnd (rowsOf (acts x) 2 b h) (boundOf (bounds l) h) t k := by
  pointwise [val_main_v43, val_main_v42, val_main_v41, val_main_v40, val_main_v34]
  rw [key_row, decay_row]
  unfold keyEnd
  exact congrArg (fun e : EReal => _ * Ideal.exp (e - _)) (decay_end x l b h k)

/-- The decay of the whole chunk. -/
theorem whole_row : val_main_v45 (F := Ideal) x l (ix3 b h k)
    = Ideal.exp (decayTo (rowsOf (acts x) 2 b h) (boundOf (bounds l) h) 7 k) := by
  pointwise [val_main_v45, val_main_v44, val_main_v34]
  exact congrArg Ideal.exp (decay_end x l b h k)

end Chunk

/-- The comparison of two row numbers in machine words. -/
theorem mask_word (t r : Fin 16) :
    IntOp.cmpi CmpIPredicate.sge (IntOp.addi (BitVec.ofNat 32 t.val) 0#32) (BitVec.ofNat 32 r.val)
      = if r ≤ t then 1#1 else 0#1 := by
  revert t r
  decide +kernel

/-- The causal mask. -/
theorem mask_apply (t r : Fin 16) : val_main_v47 (F := Ideal) (ix2 t r) = if r ≤ t then (1 : EReal) else 0 := by
  pointwise [val_main_v47, val_main_v46, val_main_cst_6, val_main_call6_v0, val_main_call6_v1, val_main_call6_v2,
    val_main_call6_v3, val_main_call6_v4, val_main_call6_v5, val_main_call6_c, val_main_call6_cst]
  rw [mask_word]
  by_cases hc : r ≤ t
  · rw [if_pos hc, if_pos hc]; rfl
  · rw [if_neg hc, if_neg hc]; rfl

section Results

variable (b : Fin 128) (h : Fin 8) (t : Fin 8) (k w : Fin 128)

/-- The masked scores. -/
theorem score_row (r : Fin 8) : val_main_v51 (F := Ideal) x l (ix4 b h (low t) (low r))
    = score (rowsOf (acts x) 1 b h) (rowsOf (acts x) 2 b h) (boundOf (bounds l) h) t r := by
  pointwise [val_main_v51, val_main_v50, val_main_v49, val_main_v48, mask_apply]
  unfold score
  have hl : low r ≤ low t ↔ r ≤ t := Iff.rfl
  by_cases hc : r ≤ t
  · rw [if_pos (hl.2 hc), if_pos hc, mul_one]
    exact Finset.sum_congr rfl fun k _ => by rw [queryAt_row, keyAt_row]
  · rw [if_neg (fun e => hc (hl.1 e)), if_neg hc, mul_zero]

/-- The rows before the norm. -/
theorem mix_row : val_main_v54 (F := Ideal) x s0 l (ix4 b h (low t) w)
    = mixAt (acts x) (firstState s0) (bounds l) b h t w := by
  pointwise [val_main_v54, val_main_v53, val_main_v52]
  refine congrArg₂ (fun e d : EReal => e + d) (Finset.sum_congr rfl fun k _ => ?_) ?_
  · rw [queryAt_row]
  · refine (sum_low _ fun r hr => ?_).trans (Finset.sum_congr rfl fun r _ => ?_)
    · rw [value_high x b h w r hr, mul_zero]
    · rw [score_row, value_row]

/-- The last states. -/
theorem last_row : val_main_v59 (F := Ideal) x s0 l (ix4 b h k w)
    = lastAt (acts x) (firstState s0) (bounds l) b h k w := by
  pointwise [val_main_v59, val_main_v58, val_main_v57, val_main_v56, val_main_v55]
  rw [whole_row]
  refine congrArg (fun e : EReal => _ + e) ((sum_low _ fun r hr => ?_).trans (Finset.sum_congr rfl fun r _ => ?_))
  · rw [value_high x b h w r hr, mul_zero]
  · rw [keyEnd_row, value_row]

end Results

/-- The operations after the scan normalise and gate the rows. -/
theorem finished (n : Vec Ideal S128 .f32) (i : S128x8x1024.Idx) :
    val_main_v79 (F := Ideal) x s0 l n i
      = finish (fun k => val_main_v54 (F := Ideal) x s0 l (ix4 (i 0)
            ⟨(i 2).val / 128, by have : (i 2).val < 1024 := (i 2).isLt; omega⟩ (low (i 1)) k))
          (n (ix1 ⟨(i 2).val % 128, Nat.mod_lt _ (by decide)⟩))
          (x (ix3 (i 0) (i 1) ⟨4096 + (i 2).val, by have : (i 2).val < 1024 := (i 2).isLt; omega⟩))
          ⟨(i 2).val % 128, Nat.mod_lt _ (by decide)⟩ := by
  pointwise [val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v61, val_main_v60, val_main_cst_7, val_main_cst_8, val_main_cst_9,
    val_main_call7_v0, val_main_call7_v1, val_main_call7_v2, val_main_call7_v3, val_main_call7_v4, val_main_call7_v5,
    val_main_call7_cst, val_main_call7_cst_0]
  rfl

/-- The program's rows, of its arguments. -/
theorem mixed_apply (n : Vec Ideal S128 .f32) (i : S128x8x1024.Idx) :
    val_main_v79 (F := Ideal) x s0 l n i
      = resultAt (acts x) (firstState s0) (bounds l) (fun w => n (ix1 w)) (i 0)
          ⟨(i 2).val / 128, by have : (i 2).val < 1024 := (i 2).isLt; omega⟩ (i 1) ⟨(i 2).val % 128, Nat.mod_lt _ (by decide)⟩ := by
  have h2 : (i 2).val < 1024 := (i 2).isLt
  rw [finished]
  unfold resultAt
  refine congrArg₂ (fun (o : Fin 128 → EReal) (g : EReal) => finish o _ g _) (funext fun k => ?_) ?_
  · exact mix_row x s0 l _ _ (i 1) k
  · exact rows_eq x 4 (i 0) ⟨(i 2).val / 128, by omega⟩ (i 1) ⟨(i 2).val % 128, by omega⟩ _
      (by show 4096 + (i 2).val = 1024 * 4 + 128 * ((i 2).val / 128) + (i 2).val % 128; omega)

/-- The program's last states, of its arguments. -/
theorem last_apply (i : S128x8x128x128.Idx) :
    val_main_v59 (F := Ideal) x s0 l i = lastAt (acts x) (firstState s0) (bounds l) (i 0) (i 1) (i 2) (i 3) := by
  refine Eq.trans (congrArg _ (eq_ix4 i)) ?_
  exact last_row x s0 l _ _ _ _

end Cert.HgrnSRefIdeal.Rows

end
-- ==== Proof.HgrnSClaim.lean ====
/- The sample's HGRN2 scan: the claim that the kernel and the plain program end with equal results. -/
module

public import proofs.«01_k».proof.Defs
public import proofs.«01_k».proof.Proof.HgrnSValue
public import proofs.«01_k».proof.Proof.HgrnSRef

@[expose] public section

set_option maxRecDepth 16384

noncomputable section

namespace Cert.HgrnSClaim
open Idealize.ShloMosaic Idealize.ShloMosaic.TcCoe Idealize.SL.Sem
open Cert.HgrnSIdeal.Blocks (mixedSpec lastSpec array7 array8)

/-- The sample's kernel and its reference end with equal results whenever they start from equal arguments. -/
theorem algebraic : Cert.algebraic_HgrnSIdeal_HgrnSRefIdeal := by
  intro m ρ m' ρ' _ hag
  refine ⟨fun c => mixedSpec m c, fun c => lastSpec m c, ?_, ?_⟩
  · exact (θ_run Cert.HgrnSIdeal.defs _ _).mono
      (fun _ h c => ⟨(h c).1.trans (array7 m c), (h c).2.1.trans (array8 m c), (h c).2.2⟩)
      (Cert.HgrnSIdeal.Value.run_blocks m ρ)
  · refine (θ_run Cert.HgrnSRefIdeal.defs _ _).mono (fun _ h c => ⟨(h c).1.trans ?_, (h c).2.1.trans ?_, (h c).2.2⟩)
      (Cert.HgrnSRefIdeal.Value.run (F := Ideal) m' ρ')
    · rw [Cert.HgrnSRefIdeal.Read.val_main_v79_eq, (hag c).1, (hag c).2.1, (hag c).2.2.1, (hag c).2.2.2]
      exact funext fun i => Cert.HgrnSRefIdeal.Rows.mixed_apply _ _ _ _ i
    · rw [Cert.HgrnSRefIdeal.Read.val_main_v59_eq, (hag c).1, (hag c).2.1, (hag c).2.2.1]
      exact funext fun i => Cert.HgrnSRefIdeal.Rows.last_apply _ _ _ i

end Cert.HgrnSClaim

end
-- ==== Proof.lean ====
module

public import proofs.«01_k».proof.Defs
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.HgrnIdeal.Value
public import proofs.«01_k».proof.Proof.Gen.FfnIdeal.Value
public import proofs.«01_k».proof.Proof.Gen.DownIdeal.Value
public import proofs.«01_k».proof.Proof.Gen.HgrnRefIdeal.Run
public import proofs.«01_k».proof.Proof.Gen.HgrnRefIdeal.Step
public import proofs.«01_k».proof.Proof.Gen.FfnRefIdeal.Run
public import proofs.«01_k».proof.Proof.Gen.FfnRefIdeal.Read
public import proofs.«01_k».proof.Proof.Gen.DownRefIdeal.Run
public import proofs.«01_k».proof.Proof.Gen.DownRefIdeal.Read
public import proofs.«01_k».proof.Proof.Gen.EvIn
public import proofs.«01_k».proof.Proof.Gen.EvIn.Skeleton
public import proofs.«01_k».proof.Proof.Gen.EvIn.Launch
public import proofs.«01_k».proof.Proof.Gen.EvIn.Points
public import proofs.«01_k».proof.Proof.Gen.EvIn.Frame
public import proofs.«01_k».proof.Proof.Gen.EvInIdeal
public import proofs.«01_k».proof.Proof.Gen.EvInIdeal.Skeleton
public import proofs.«01_k».proof.Proof.Gen.EvInIdeal.Launch
public import proofs.«01_k».proof.Proof.Gen.EvInIdeal.Points
public import proofs.«01_k».proof.Proof.Gen.EvInIdeal.Frame
public import proofs.«01_k».proof.Proof.Gen.EvInRefIdeal
public import proofs.«01_k».proof.Proof.Gen.EvInIdeal.Value
public import proofs.«01_k».proof.Proof.Gen.EvInRefIdeal.Run
public import proofs.«01_k».proof.Proof.Gen.EvInRefIdeal.Read
public import proofs.«01_k».proof.Proof.Gen.EvOut
public import proofs.«01_k».proof.Proof.Gen.EvOut.Skeleton
public import proofs.«01_k».proof.Proof.Gen.EvOut.Launch
public import proofs.«01_k».proof.Proof.Gen.EvOut.Points
public import proofs.«01_k».proof.Proof.Gen.EvOut.Frame
public import proofs.«01_k».proof.Proof.Gen.EvOutIdeal
public import proofs.«01_k».proof.Proof.Gen.EvOutIdeal.Skeleton
public import proofs.«01_k».proof.Proof.Gen.EvOutIdeal.Launch
public import proofs.«01_k».proof.Proof.Gen.EvOutIdeal.Points
public import proofs.«01_k».proof.Proof.Gen.EvOutIdeal.Frame
public import proofs.«01_k».proof.Proof.Gen.EvOutRefIdeal
public import proofs.«01_k».proof.Proof.Gen.EvOutIdeal.Value
public import proofs.«01_k».proof.Proof.Gen.EvOutRefIdeal.Run
public import proofs.«01_k».proof.Proof.Gen.EvOutRefIdeal.Read
public import proofs.«01_k».proof.Proof.Gen.Rkv
public import proofs.«01_k».proof.Proof.Gen.Rkv.Skeleton
public import proofs.«01_k».proof.Proof.Gen.Rkv.Launch
public import proofs.«01_k».proof.Proof.Gen.Rkv.Points
public import proofs.«01_k».proof.Proof.Gen.Rkv.Frame
public import proofs.«01_k».proof.Proof.Gen.RkvIdeal
public import proofs.«01_k».proof.Proof.Gen.RkvIdeal.Skeleton
public import proofs.«01_k».proof.Proof.Gen.RkvIdeal.Launch
public import proofs.«01_k».proof.Proof.Gen.RkvIdeal.Points
public import proofs.«01_k».proof.Proof.Gen.RkvIdeal.Frame
public import proofs.«01_k».proof.Proof.Gen.RkvRefIdeal
public import proofs.«01_k».proof.Proof.Gen.RkvIdeal.Value
public import proofs.«01_k».proof.Proof.Gen.RkvRefIdeal.Run
public import proofs.«01_k».proof.Proof.Gen.RkvRefIdeal.Read
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.OddOutIdeal.Value
public import proofs.«01_k».proof.Proof.Gen.OddOutRefIdeal.Run
public import proofs.«01_k».proof.Proof.Gen.OddOutRefIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluIdeal.Value
public import proofs.«01_k».proof.Proof.Gen.GluRefIdeal.Run
public import proofs.«01_k».proof.Proof.Gen.GluRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSIdeal.Value
public import proofs.«01_k».proof.Proof.Gen.FfnSRefIdeal
public import proofs.«01_k».proof.Proof.Gen.FfnSRefIdeal.Run
public import proofs.«01_k».proof.Proof.Gen.FfnSRefIdeal.Read
public import proofs.«01_k».proof.Proof.Gen.HgrnS
public import proofs.«01_k».proof.Proof.Gen.HgrnS.Skeleton
public import proofs.«01_k».proof.Proof.Gen.HgrnS.Launch
public import proofs.«01_k».proof.Proof.Gen.HgrnS.Points
public import proofs.«01_k».proof.Proof.Gen.HgrnS.Frame
public import proofs.«01_k».proof.Proof.Gen.HgrnSIdeal
public import proofs.«01_k».proof.Proof.Gen.HgrnSIdeal.Skeleton
public import proofs.«01_k».proof.Proof.Gen.HgrnSIdeal.Launch
public import proofs.«01_k».proof.Proof.Gen.HgrnSIdeal.Points
public import proofs.«01_k».proof.Proof.Gen.HgrnSIdeal.Frame
public import proofs.«01_k».proof.Proof.Gen.HgrnSIdeal.Value
public import proofs.«01_k».proof.Proof.Gen.HgrnSRefIdeal
public import proofs.«01_k».proof.Proof.Gen.HgrnSRefIdeal.Run
public import proofs.«01_k».proof.Proof.Gen.HgrnSRefIdeal.Read
public import proofs.«01_k».proof.Proof.HgrnClaim
public import proofs.«01_k».proof.Proof.FfnClaim
public import proofs.«01_k».proof.Proof.DownClaim
public import proofs.«01_k».proof.Proof.EvInClaim
public import proofs.«01_k».proof.Proof.EvOutClaim
public import proofs.«01_k».proof.Proof.RkvClaim
public import proofs.«01_k».proof.Proof.OddOutClaim
public import proofs.«01_k».proof.Proof.GluClaim
public import proofs.«01_k».proof.Proof.FinalClaim
public import proofs.«01_k».proof.Proof.MixClaim
public import proofs.«01_k».proof.Proof.LastClaim
public import proofs.«01_k».proof.Proof.FfnSClaim
public import proofs.«01_k».proof.Proof.HgrnSClaim
public import Idealize.ShloMosaic.Adequacy
public import Idealize.ShloMosaic.Init

@[expose] public section

noncomputable section

namespace Cert.Proof

open Idealize.ShloMosaic Idealize.SL.Sem

/-- The reference of the HGRN2 scan ends with its arguments as it found them and every counter at zero: it declares none. -/
theorem frame_hgrnRef : Cert.quiescent_HgrnRefIdeal := fun m ρ _ =>
  (θ_run Cert.HgrnRefIdeal.defs _ _).mono
    (fun r h => ⟨fun c => (h c).2.2, sem_eq_zero_of_no_sems (by decide) r.2⟩) (Cert.HgrnRefIdeal.Value.run (F := Ideal) m ρ)

/-- The reference of the ConvGLU's first half keeps its arguments and has no counter. -/
theorem frame_ffnRef : Cert.quiescent_FfnRefIdeal := fun m ρ _ =>
  (θ_run Cert.FfnRefIdeal.defs _ _).mono
    (fun r h => ⟨fun c => (h c).2.2, sem_eq_zero_of_no_sems (by decide) r.2⟩) (Cert.FfnRefIdeal.Value.run (F := Ideal) m ρ)

/-- The reference of the down projection keeps its arguments and has no counter. -/
theorem frame_downRef : Cert.quiescent_DownRefIdeal := fun m ρ _ =>
  (θ_run Cert.DownRefIdeal.defs _ _).mono
    (fun r h => ⟨fun c => (h c).2, sem_eq_zero_of_no_sems (by decide) r.2⟩) (Cert.DownRefIdeal.Value.run (F := Ideal) m ρ)

/-- The reference of the even layer's input projection keeps its arguments and has no counter. -/
theorem frame_evInRef : Cert.quiescent_EvInRefIdeal := fun m ρ _ =>
  (θ_run Cert.EvInRefIdeal.defs _ _).mono
    (fun r h => ⟨fun c => (h c).2, sem_eq_zero_of_no_sems (by decide) r.2⟩) (Cert.EvInRefIdeal.Value.run (F := Ideal) m ρ)

/-- The reference of the even layer's output projection keeps its arguments and has no counter. -/
theorem frame_evOutRef : Cert.quiescent_EvOutRefIdeal := fun m ρ _ =>
  (θ_run Cert.EvOutRefIdeal.defs _ _).mono
    (fun r h => ⟨fun c => (h c).2, sem_eq_zero_of_no_sems (by decide) r.2⟩) (Cert.EvOutRefIdeal.Value.run (F := Ideal) m ρ)

/-- The reference of the odd layer's input product keeps its arguments and has no counter. -/
theorem frame_rkvRef : Cert.quiescent_RkvRefIdeal := fun m ρ _ =>
  (θ_run Cert.RkvRefIdeal.defs _ _).mono
    (fun r h => ⟨fun c => (h c).2, sem_eq_zero_of_no_sems (by decide) r.2⟩) (Cert.RkvRefIdeal.Value.run (F := Ideal) m ρ)

/-- The reference of the odd layer's output projection keeps its arguments and has no counter. -/
theorem frame_oddOutRef : Cert.quiescent_OddOutRefIdeal := fun m ρ _ =>
  (θ_run Cert.OddOutRefIdeal.defs _ _).mono
    (fun r h => ⟨fun c => (h c).2, sem_eq_zero_of_no_sems (by decide) r.2⟩) (Cert.OddOutRefIdeal.Value.run (F := Ideal) m ρ)

/-- The reference of the S5 gate keeps its arguments and has no counter. -/
theorem frame_gluRef : Cert.quiescent_GluRefIdeal := fun m ρ _ =>
  (θ_run Cert.GluRefIdeal.defs _ _).mono
    (fun r h => ⟨fun c => (h c).2, sem_eq_zero_of_no_sems (by decide) r.2⟩) (Cert.GluRefIdeal.Value.run (F := Ideal) m ρ)

/-- The reference of the last normalisation keeps its arguments and has no counter. -/
theorem frame_finalRef : Cert.quiescent_FinalRefIdeal := fun m ρ _ =>
  (θ_run Cert.FinalRefIdeal.defs _ _).mono
    (fun r h => ⟨fun c => (h c).2, sem_eq_zero_of_no_sems (by decide) r.2⟩) (Cert.FinalRefIdeal.Value.run (F := Ideal) m ρ)

/-- The reference of the token mixing keeps its arguments and has no counter. -/
theorem frame_mixRef : Cert.quiescent_MixRefIdeal := fun m ρ _ =>
  (θ_run Cert.MixRefIdeal.defs _ _).mono
    (fun r h => ⟨fun c => (h c).2.2.2.2.2.2.2, sem_eq_zero_of_no_sems (by decide) r.2⟩)
    (Cert.MixRefIdeal.Value.run (F := Ideal) m ρ)

/-- The reference of the sample's last normalisation keeps its arguments and has no counter. -/
theorem frame_lastRef : Cert.quiescent_LastRefIdeal := fun m ρ _ =>
  (θ_run Cert.LastRefIdeal.defs _ _).mono
    (fun r h => ⟨fun c => (h c).2, sem_eq_zero_of_no_sems (by decide) r.2⟩) (Cert.LastRefIdeal.Value.run (F := Ideal) m ρ)

/-- The reference of the sample's ConvGLU keeps its arguments and has no counter. -/
theorem frame_ffnSRef : Cert.quiescent_FfnSRefIdeal := fun m ρ _ =>
  (θ_run Cert.FfnSRefIdeal.defs _ _).mono
    (fun r h => ⟨fun c => (h c).2.2, sem_eq_zero_of_no_sems (by decide) r.2⟩) (Cert.FfnSRefIdeal.Value.run (F := Ideal) m ρ)

/-- The reference of the sample's HGRN2 call keeps its arguments and has no counter. -/
theorem frame_hgrnSRef : Cert.quiescent_HgrnSRefIdeal := fun m ρ _ =>
  (θ_run Cert.HgrnSRefIdeal.defs _ _).mono
    (fun r h => ⟨fun c => (h c).2.2, sem_eq_zero_of_no_sems (by decide) r.2⟩) (Cert.HgrnSRefIdeal.Value.run (F := Ideal) m ρ)

/-- Every claim of the certificate. -/
theorem claim : Cert.Claim := ⟨Cert.Hgrn.Gen.facts, Cert.HgrnIdeal.Gen.facts, Cert.HgrnRefIdeal.Gen.facts, Cert.Ffn.Gen.facts,
  Cert.FfnIdeal.Gen.facts, Cert.FfnRefIdeal.Gen.facts, Cert.Down.Gen.facts, Cert.DownIdeal.Gen.facts, Cert.DownRefIdeal.Gen.facts,
  Cert.EvIn.Gen.facts, Cert.EvInIdeal.Gen.facts, Cert.EvInRefIdeal.Gen.facts,
  Cert.EvOut.Gen.facts, Cert.EvOutIdeal.Gen.facts, Cert.EvOutRefIdeal.Gen.facts,
  Cert.Rkv.Gen.facts, Cert.RkvIdeal.Gen.facts, Cert.RkvRefIdeal.Gen.facts,
  Cert.OddOut.Gen.facts, Cert.OddOutIdeal.Gen.facts, Cert.OddOutRefIdeal.Gen.facts,
  Cert.Glu.Gen.facts, Cert.GluIdeal.Gen.facts, Cert.GluRefIdeal.Gen.facts,
  Cert.Final.Gen.facts, Cert.FinalIdeal.Gen.facts, Cert.FinalRefIdeal.Gen.facts,
  Cert.Mix.Gen.facts, Cert.MixIdeal.Gen.facts, Cert.MixRefIdeal.Gen.facts,
  Cert.Last.Gen.facts, Cert.LastIdeal.Gen.facts, Cert.LastRefIdeal.Gen.facts,
  Cert.FfnS.Gen.facts, Cert.FfnSIdeal.Gen.facts, Cert.FfnSRefIdeal.Gen.facts,
  Cert.HgrnS.Gen.facts, Cert.HgrnSIdeal.Gen.facts, Cert.HgrnSRefIdeal.Gen.facts,
  fun m ρ _ => Cert.Hgrn.Gen.frame m ρ, fun m ρ _ => Cert.HgrnIdeal.Gen.frame m ρ, frame_hgrnRef,
  fun m ρ _ => Cert.Ffn.Gen.frame m ρ, fun m ρ _ => Cert.FfnIdeal.Gen.frame m ρ, frame_ffnRef,
  fun m ρ _ => Cert.Down.Gen.frame m ρ, fun m ρ _ => Cert.DownIdeal.Gen.frame m ρ, frame_downRef,
  fun m ρ _ => Cert.EvIn.Gen.frame m ρ, fun m ρ _ => Cert.EvInIdeal.Gen.frame m ρ, frame_evInRef,
  fun m ρ _ => Cert.EvOut.Gen.frame m ρ, fun m ρ _ => Cert.EvOutIdeal.Gen.frame m ρ, frame_evOutRef,
  fun m ρ _ => Cert.Rkv.Gen.frame m ρ, fun m ρ _ => Cert.RkvIdeal.Gen.frame m ρ, frame_rkvRef,
  fun m ρ _ => Cert.OddOut.Gen.frame m ρ, fun m ρ _ => Cert.OddOutIdeal.Gen.frame m ρ, frame_oddOutRef,
  fun m ρ _ => Cert.Glu.Gen.frame m ρ, fun m ρ _ => Cert.GluIdeal.Gen.frame m ρ, frame_gluRef,
  fun m ρ _ => Cert.Final.Gen.frame m ρ, fun m ρ _ => Cert.FinalIdeal.Gen.frame m ρ, frame_finalRef,
  fun m ρ _ => Cert.Mix.Gen.frame m ρ, fun m ρ _ => Cert.MixIdeal.Gen.frame m ρ, frame_mixRef,
  fun m ρ _ => Cert.Last.Gen.frame m ρ, fun m ρ _ => Cert.LastIdeal.Gen.frame m ρ, frame_lastRef,
  fun m ρ _ => Cert.FfnS.Gen.frame m ρ, fun m ρ _ => Cert.FfnSIdeal.Gen.frame m ρ, frame_ffnSRef,
  fun m ρ _ => Cert.HgrnS.Gen.frame m ρ, fun m ρ _ => Cert.HgrnSIdeal.Gen.frame m ρ, frame_hgrnSRef,
  trivial, Cert.HgrnClaim.algebraic, trivial, Cert.FfnClaim.algebraic, trivial, Cert.DownClaim.algebraic,
  trivial, Cert.EvInClaim.algebraic, trivial, Cert.EvOutClaim.algebraic, trivial, Cert.RkvClaim.algebraic,
  trivial, Cert.OddOutClaim.algebraic, trivial, Cert.GluClaim.algebraic, trivial, Cert.FinalClaim.algebraic,
  trivial, Cert.MixClaim.algebraic, trivial, Cert.LastClaim.algebraic, trivial, Cert.FfnSClaim.algebraic,
  trivial, Cert.HgrnSClaim.algebraic⟩

end Cert.Proof

end
